-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![64, 128, 256]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨2, ![8, 256]⟩ ⟨2, ![256, 256]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v40) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S128x64 : Shape := ⟨2, ![128, 64]⟩
abbrev S256x2 : Shape := ⟨2, ![256, 2]⟩
abbrev S2x128x256 : Shape := ⟨3, ![2, 128, 256]⟩
abbrev S8x256 : Shape := ⟨2, ![8, 256]⟩
abbrev S256x256 : Shape := ⟨2, ![256, 256]⟩
abbrev S32x8x256 : Shape := ⟨3, ![32, 8, 256]⟩
abbrev S32 : Shape := ⟨1, ![32]⟩
abbrev S_ : Shape := ⟨0, ![]⟩
abbrev S256x64 : Shape := ⟨2, ![256, 64]⟩
abbrev S256 : Shape := ⟨1, ![256]⟩
abbrev S256x1 : Shape := ⟨2, ![256, 1]⟩
abbrev S1x128x256 : Shape := ⟨3, ![1, 128, 256]⟩
abbrev S128x256 : Shape := ⟨2, ![128, 256]⟩
abbrev S32x8 : Shape := ⟨2, ![32, 8]⟩
abbrev S32x1 : Shape := ⟨2, ![32, 1]⟩
abbrev S8x2 : Shape := ⟨2, ![8, 2]⟩
abbrev S8x32 : Shape := ⟨2, ![8, 32]⟩
abbrev S8x1 : Shape := ⟨2, ![8, 1]⟩
abbrev S1x32 : Shape := ⟨2, ![1, 32]⟩
abbrev S1x1 : Shape := ⟨2, ![1, 1]⟩
abbrev S1 : Shape := ⟨1, ![1]⟩
abbrev S1x8x256 : Shape := ⟨3, ![1, 8, 256]⟩

abbrev nBuf : Space → Nat
  | .hbm => 38
  | .vmem => 7
  | .smem => 0
  | _ => 0

abbrev bufTy : (tb : Table) → Fin (tcTables nBuf tb) → BufTy
  | .hbm, ⟨0, _⟩ => ⟨S256x128, .f32⟩
  | .hbm, ⟨1, _⟩ => ⟨S128x64, .f32⟩
  | .hbm, ⟨2, _⟩ => ⟨S256x2, .i32⟩
  | .hbm, ⟨3, _⟩ => ⟨S2x128x256, .f32⟩
  | .hbm, ⟨4, _⟩ => ⟨S256x2, .i32⟩
  | .hbm, ⟨5, _⟩ => ⟨S256x2, .i32⟩
  | .hbm, ⟨6, _⟩ => ⟨S256x2, .i32⟩
  | .hbm, ⟨7, _⟩ => ⟨S256x2, .i32⟩
  | .hbm, ⟨8, _⟩ => ⟨S256x2, .i32⟩
  | .hbm, ⟨9, _⟩ => ⟨S256x2, .i32⟩
  | .hbm, ⟨10, _⟩ => ⟨S256x2, .i32⟩
  | .hbm, ⟨11, _⟩ => ⟨S256x2, .i32⟩
  | .hbm, ⟨12, _⟩ => ⟨S256x2, .i32⟩
  | .hbm, ⟨13, _⟩ => ⟨S256x2, .i32⟩
  | .hbm, ⟨14, _⟩ => ⟨S256x2, .i32⟩
  | .hbm, ⟨15, _⟩ => ⟨S256x2, .i32⟩
  | .hbm, ⟨16, _⟩ => ⟨S256x2, .i32⟩
  | .hbm, ⟨17, _⟩ => ⟨S256x2, .i32⟩
  | .hbm, ⟨18, _⟩ => ⟨S256x2, .i32⟩
  | .hbm, ⟨19, _⟩ => ⟨S256x2, .i32⟩
  | .hbm, ⟨20, _⟩ => ⟨S256x2, .i32⟩
  | .hbm, ⟨21, _⟩ => ⟨S256x2, .i32⟩
  | .hbm, ⟨22, _⟩ => ⟨S256x2, .i32⟩
  | .hbm, ⟨23, _⟩ => ⟨S256x2, .i32⟩
  | .hbm, ⟨24, _⟩ => ⟨S256x2, .i32⟩
  | .hbm, ⟨25, _⟩ => ⟨S256x2, .i32⟩
  | .hbm, ⟨26, _⟩ => ⟨S256x2, .i32⟩
  | .hbm, ⟨27, _⟩ => ⟨S256x2, .i32⟩
  | .hbm, ⟨28, _⟩ => ⟨S256x2, .i32⟩
  | .hbm, ⟨29, _⟩ => ⟨S256x2, .i32⟩
  | .hbm, ⟨30, _⟩ => ⟨S256x2, .i32⟩
  | .hbm, ⟨31, _⟩ => ⟨S256x2, .i32⟩
  | .hbm, ⟨32, _⟩ => ⟨S256x2, .i32⟩
  | .hbm, ⟨33, _⟩ => ⟨S256x2, .i32⟩
  | .hbm, ⟨34, _⟩ => ⟨S256x2, .i32⟩
  | .hbm, ⟨35, _⟩ => ⟨S256x2, .i32⟩
  | .hbm, ⟨36, _⟩ => ⟨S256x2, .i32⟩
  | .hbm, ⟨37, _⟩ => ⟨S8x256, .f32⟩
  | .local _ .vmem, ⟨0, _⟩ => ⟨S256x128, .f32⟩
  | .local _ .vmem, ⟨1, _⟩ => ⟨S128x64, .f32⟩
  | .local _ .vmem, ⟨2, _⟩ => ⟨S256x2, .i32⟩
  | .local _ .vmem, ⟨3, _⟩ => ⟨S2x128x256, .f32⟩
  | .local _ .vmem, ⟨4, _⟩ => ⟨S8x256, .f32⟩
  | .local _ .vmem, ⟨5, _⟩ => ⟨S256x256, .f32⟩
  | .local _ .vmem, ⟨6, _⟩ => ⟨S32x8x256, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 2 → Bool
  | ⟨0, _⟩ => false
  | ⟨1, _⟩ => false
  | _ => false

abbrev dmaSemScoped : Fin 71 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  (ofTc nBuf bufTy 2 71 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v1_s0 : Ref sig .tc := ⟨.hbm, 5, rfl⟩
abbrev main_v1_s1 : Ref sig .tc := ⟨.hbm, 6, rfl⟩
abbrev main_v1_s2 : Ref sig .tc := ⟨.hbm, 7, rfl⟩
abbrev main_v1_s3 : Ref sig .tc := ⟨.hbm, 8, rfl⟩
abbrev main_v1_s4 : Ref sig .tc := ⟨.hbm, 9, rfl⟩
abbrev main_v1_s5 : Ref sig .tc := ⟨.hbm, 10, rfl⟩
abbrev main_v1_s6 : Ref sig .tc := ⟨.hbm, 11, rfl⟩
abbrev main_v1_s7 : Ref sig .tc := ⟨.hbm, 12, rfl⟩
abbrev main_v1_s8 : Ref sig .tc := ⟨.hbm, 13, rfl⟩
abbrev main_v1_s9 : Ref sig .tc := ⟨.hbm, 14, rfl⟩
abbrev main_v1_s10 : Ref sig .tc := ⟨.hbm, 15, rfl⟩
abbrev main_v1_s11 : Ref sig .tc := ⟨.hbm, 16, rfl⟩
abbrev main_v1_s12 : Ref sig .tc := ⟨.hbm, 17, rfl⟩
abbrev main_v1_s13 : Ref sig .tc := ⟨.hbm, 18, rfl⟩
abbrev main_v1_s14 : Ref sig .tc := ⟨.hbm, 19, rfl⟩
abbrev main_v1_s15 : Ref sig .tc := ⟨.hbm, 20, rfl⟩
abbrev main_v1_s16 : Ref sig .tc := ⟨.hbm, 21, rfl⟩
abbrev main_v1_s17 : Ref sig .tc := ⟨.hbm, 22, rfl⟩
abbrev main_v1_s18 : Ref sig .tc := ⟨.hbm, 23, rfl⟩
abbrev main_v1_s19 : Ref sig .tc := ⟨.hbm, 24, rfl⟩
abbrev main_v1_s20 : Ref sig .tc := ⟨.hbm, 25, rfl⟩
abbrev main_v1_s21 : Ref sig .tc := ⟨.hbm, 26, rfl⟩
abbrev main_v1_s22 : Ref sig .tc := ⟨.hbm, 27, rfl⟩
abbrev main_v1_s23 : Ref sig .tc := ⟨.hbm, 28, rfl⟩
abbrev main_v1_s24 : Ref sig .tc := ⟨.hbm, 29, rfl⟩
abbrev main_v1_s25 : Ref sig .tc := ⟨.hbm, 30, rfl⟩
abbrev main_v1_s26 : Ref sig .tc := ⟨.hbm, 31, rfl⟩
abbrev main_v1_s27 : Ref sig .tc := ⟨.hbm, 32, rfl⟩
abbrev main_v1_s28 : Ref sig .tc := ⟨.hbm, 33, rfl⟩
abbrev main_v1_s29 : Ref sig .tc := ⟨.hbm, 34, rfl⟩
abbrev main_v1_s30 : Ref sig .tc := ⟨.hbm, 35, rfl⟩
abbrev main_v1_s31 : Ref sig .tc := ⟨.hbm, 36, rfl⟩
abbrev main_v2 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev ar0_recv : DmaSem sig := 0
abbrev ar0_send : DmaSem sig := 1
abbrev cc0_sem0_0 : DmaSem sig := 2
abbrev cc0_sem1_0 : DmaSem sig := 3
abbrev cc0_sem2_0 : DmaSem sig := 4
abbrev cc0_sem3_0 : DmaSem sig := 5
abbrev cc0_sem4_0 : DmaSem sig := 6
abbrev ar0_barrier : Sem sig := 0
abbrev barrier0 : Sem sig := 1

abbrev nD : Nat := 32
abbrev τ : Topo := Topo.v7x

variable {F : FTy → Type} [FloatOps F]

abbrev ar0_mem : Fin 1 × Fin 32 → Dev nD := fun q => (![![0, 1, 2, 3, 4, 5, 6, 7, 8, 9, 10, 11, 12, 13, 14, 15, 16, 17, 18, 19, 20, 21, 22, 23, 24, 25, 26, 27, 28, 29, 30, 31]] : Fin 1 → Fin 32 → Dev nD) q.1 q.2
abbrev ar0_pos : Dev nD → Fin 1 × Fin 32 := fun c => ((![0, 0, 0, 0, 0, 0, 0, 0, 0, 0, 0, 0, 0, 0, 0, 0, 0, 0, 0, 0, 0, 0, 0, 0, 0, 0, 0, 0, 0, 0, 0, 0] : Fin 32 → Fin 1) c, (![0, 1, 2, 3, 4, 5, 6, 7, 8, 9, 10, 11, 12, 13, 14, 15, 16, 17, 18, 19, 20, 21, 22, 23, 24, 25, 26, 27, 28, 29, 30, 31] : Fin 32 → Fin 32) c)
abbrev ar0_stage : Fin 32 → Ref sig .tc := fun | 0 => main_v1_s0 | 1 => main_v1_s1 | 2 => main_v1_s2 | 3 => main_v1_s3 | 4 => main_v1_s4 | 5 => main_v1_s5 | 6 => main_v1_s6 | 7 => main_v1_s7 | 8 => main_v1_s8 | 9 => main_v1_s9 | 10 => main_v1_s10 | 11 => main_v1_s11 | 12 => main_v1_s12 | 13 => main_v1_s13 | 14 => main_v1_s14 | 15 => main_v1_s15 | 16 => main_v1_s16 | 17 => main_v1_s17 | 18 => main_v1_s18 | 19 => main_v1_s19 | 20 => main_v1_s20 | 21 => main_v1_s21 | 22 => main_v1_s22 | 23 => main_v1_s23 | 24 => main_v1_s24 | 25 => main_v1_s25 | 26 => main_v1_s26 | 27 => main_v1_s27 | 28 => main_v1_s28 | 29 => main_v1_s29 | 30 => main_v1_s30 | 31 => main_v1_s31 | ⟨_ + 32, h⟩ => absurd h (Nat.not_lt.2 (Nat.le_add_left _ _))

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_456 : BitVec 32 := 0#32
  let c0_i32_454 : BitVec 32 := 0#32
  let c1_i32_455 : BitVec 32 := 1#32
  let v1079 : BitVec 32 := Scalar.muli c0_i32_454 c1_i32_455
  let v1080 : BitVec 32 := Scalar.addi c0_i32_456 v1079
  v1080.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_456 : BitVec 32 := 0#32
  let c1_i32_454 : BitVec 32 := 1#32
  let c1_i32_455 : BitVec 32 := 1#32
  let v1079 : BitVec 32 := Scalar.muli c1_i32_454 c1_i32_455
  let v1080 : BitVec 32 := Scalar.addi c0_i32_456 v1079
  v1080.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_456 : BitVec 32 := 0#32
  let c2_i32_454 : BitVec 32 := 2#32
  let c1_i32_455 : BitVec 32 := 1#32
  let v1079 : BitVec 32 := Scalar.muli c2_i32_454 c1_i32_455
  let v1080 : BitVec 32 := Scalar.addi c0_i32_456 v1079
  v1080.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_456 : BitVec 32 := 0#32
  let c3_i32_454 : BitVec 32 := 3#32
  let c1_i32_455 : BitVec 32 := 1#32
  let v1079 : BitVec 32 := Scalar.muli c3_i32_454 c1_i32_455
  let v1080 : BitVec 32 := Scalar.addi c0_i32_456 v1079
  v1080.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_456 : BitVec 32 := 0#32
  let c4_i32_454 : BitVec 32 := 4#32
  let c1_i32_455 : BitVec 32 := 1#32
  let v1079 : BitVec 32 := Scalar.muli c4_i32_454 c1_i32_455
  let v1080 : BitVec 32 := Scalar.addi c0_i32_456 v1079
  v1080.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_456 : BitVec 32 := 0#32
  let c5_i32_454 : BitVec 32 := 5#32
  let c1_i32_455 : BitVec 32 := 1#32
  let v1079 : BitVec 32 := Scalar.muli c5_i32_454 c1_i32_455
  let v1080 : BitVec 32 := Scalar.addi c0_i32_456 v1079
  v1080.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_456 : BitVec 32 := 0#32
  let c6_i32_454 : BitVec 32 := 6#32
  let c1_i32_455 : BitVec 32 := 1#32
  let v1079 : BitVec 32 := Scalar.muli c6_i32_454 c1_i32_455
  let v1080 : BitVec 32 := Scalar.addi c0_i32_456 v1079
  v1080.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_456 : BitVec 32 := 0#32
  let c7_i32_454 : BitVec 32 := 7#32
  let c1_i32_455 : BitVec 32 := 1#32
  let v1079 : BitVec 32 := Scalar.muli c7_i32_454 c1_i32_455
  let v1080 : BitVec 32 := Scalar.addi c0_i32_456 v1079
  v1080.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_456 : BitVec 32 := 0#32
  let c8_i32_454 : BitVec 32 := 8#32
  let c1_i32_455 : BitVec 32 := 1#32
  let v1079 : BitVec 32 := Scalar.muli c8_i32_454 c1_i32_455
  let v1080 : BitVec 32 := Scalar.addi c0_i32_456 v1079
  v1080.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_456 : BitVec 32 := 0#32
  let c9_i32_454 : BitVec 32 := 9#32
  let c1_i32_455 : BitVec 32 := 1#32
  let v1079 : BitVec 32 := Scalar.muli c9_i32_454 c1_i32_455
  let v1080 : BitVec 32 := Scalar.addi c0_i32_456 v1079
  v1080.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_456 : BitVec 32 := 0#32
  let c10_i32_454 : BitVec 32 := 10#32
  let c1_i32_455 : BitVec 32 := 1#32
  let v1079 : BitVec 32 := Scalar.muli c10_i32_454 c1_i32_455
  let v1080 : BitVec 32 := Scalar.addi c0_i32_456 v1079
  v1080.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_456 : BitVec 32 := 0#32
  let c11_i32_454 : BitVec 32 := 11#32
  let c1_i32_455 : BitVec 32 := 1#32
  let v1079 : BitVec 32 := Scalar.muli c11_i32_454 c1_i32_455
  let v1080 : BitVec 32 := Scalar.addi c0_i32_456 v1079
  v1080.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_456 : BitVec 32 := 0#32
  let c12_i32_454 : BitVec 32 := 12#32
  let c1_i32_455 : BitVec 32 := 1#32
  let v1079 : BitVec 32 := Scalar.muli c12_i32_454 c1_i32_455
  let v1080 : BitVec 32 := Scalar.addi c0_i32_456 v1079
  v1080.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_456 : BitVec 32 := 0#32
  let c13_i32_454 : BitVec 32 := 13#32
  let c1_i32_455 : BitVec 32 := 1#32
  let v1079 : BitVec 32 := Scalar.muli c13_i32_454 c1_i32_455
  let v1080 : BitVec 32 := Scalar.addi c0_i32_456 v1079
  v1080.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_456 : BitVec 32 := 0#32
  let c14_i32_454 : BitVec 32 := 14#32
  let c1_i32_455 : BitVec 32 := 1#32
  let v1079 : BitVec 32 := Scalar.muli c14_i32_454 c1_i32_455
  let v1080 : BitVec 32 := Scalar.addi c0_i32_456 v1079
  v1080.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_456 : BitVec 32 := 0#32
  let c15_i32_454 : BitVec 32 := 15#32
  let c1_i32_455 : BitVec 32 := 1#32
  let v1079 : BitVec 32 := Scalar.muli c15_i32_454 c1_i32_455
  let v1080 : BitVec 32 := Scalar.addi c0_i32_456 v1079
  v1080.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v52 : BitVec 1 := Scalar.cmpi .ne v2 c16_i32
  let v53 : BitVec 32 := Scalar.extui v52
  let c0_i32_17 : BitVec 32 := 0#32
  let v54 : BitVec 1 := Scalar.cmpi .ne v53 c0_i32_17
  v54

def k0_dev17 : Nat :=
  let c0_i32_456 : BitVec 32 := 0#32
  let c16_i32_454 : BitVec 32 := 16#32
  let c1_i32_455 : BitVec 32 := 1#32
  let v1079 : BitVec 32 := Scalar.muli c16_i32_454 c1_i32_455
  let v1080 : BitVec 32 := Scalar.addi c0_i32_456 v1079
  v1080.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v55 : BitVec 1 := Scalar.cmpi .ne v2 c17_i32
  let v56 : BitVec 32 := Scalar.extui v55
  let c0_i32_18 : BitVec 32 := 0#32
  let v57 : BitVec 1 := Scalar.cmpi .ne v56 c0_i32_18
  v57

def k0_dev18 : Nat :=
  let c0_i32_456 : BitVec 32 := 0#32
  let c17_i32_454 : BitVec 32 := 17#32
  let c1_i32_455 : BitVec 32 := 1#32
  let v1079 : BitVec 32 := Scalar.muli c17_i32_454 c1_i32_455
  let v1080 : BitVec 32 := Scalar.addi c0_i32_456 v1079
  v1080.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v58 : BitVec 1 := Scalar.cmpi .ne v2 c18_i32
  let v59 : BitVec 32 := Scalar.extui v58
  let c0_i32_19 : BitVec 32 := 0#32
  let v60 : BitVec 1 := Scalar.cmpi .ne v59 c0_i32_19
  v60

def k0_dev19 : Nat :=
  let c0_i32_456 : BitVec 32 := 0#32
  let c18_i32_454 : BitVec 32 := 18#32
  let c1_i32_455 : BitVec 32 := 1#32
  let v1079 : BitVec 32 := Scalar.muli c18_i32_454 c1_i32_455
  let v1080 : BitVec 32 := Scalar.addi c0_i32_456 v1079
  v1080.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v61 : BitVec 1 := Scalar.cmpi .ne v2 c19_i32
  let v62 : BitVec 32 := Scalar.extui v61
  let c0_i32_20 : BitVec 32 := 0#32
  let v63 : BitVec 1 := Scalar.cmpi .ne v62 c0_i32_20
  v63

def k0_dev20 : Nat :=
  let c0_i32_456 : BitVec 32 := 0#32
  let c19_i32_454 : BitVec 32 := 19#32
  let c1_i32_455 : BitVec 32 := 1#32
  let v1079 : BitVec 32 := Scalar.muli c19_i32_454 c1_i32_455
  let v1080 : BitVec 32 := Scalar.addi c0_i32_456 v1079
  v1080.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v64 : BitVec 1 := Scalar.cmpi .ne v2 c20_i32
  let v65 : BitVec 32 := Scalar.extui v64
  let c0_i32_21 : BitVec 32 := 0#32
  let v66 : BitVec 1 := Scalar.cmpi .ne v65 c0_i32_21
  v66

def k0_dev21 : Nat :=
  let c0_i32_456 : BitVec 32 := 0#32
  let c20_i32_454 : BitVec 32 := 20#32
  let c1_i32_455 : BitVec 32 := 1#32
  let v1079 : BitVec 32 := Scalar.muli c20_i32_454 c1_i32_455
  let v1080 : BitVec 32 := Scalar.addi c0_i32_456 v1079
  v1080.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v67 : BitVec 1 := Scalar.cmpi .ne v2 c21_i32
  let v68 : BitVec 32 := Scalar.extui v67
  let c0_i32_22 : BitVec 32 := 0#32
  let v69 : BitVec 1 := Scalar.cmpi .ne v68 c0_i32_22
  v69

def k0_dev22 : Nat :=
  let c0_i32_456 : BitVec 32 := 0#32
  let c21_i32_454 : BitVec 32 := 21#32
  let c1_i32_455 : BitVec 32 := 1#32
  let v1079 : BitVec 32 := Scalar.muli c21_i32_454 c1_i32_455
  let v1080 : BitVec 32 := Scalar.addi c0_i32_456 v1079
  v1080.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v70 : BitVec 1 := Scalar.cmpi .ne v2 c22_i32
  let v71 : BitVec 32 := Scalar.extui v70
  let c0_i32_23 : BitVec 32 := 0#32
  let v72 : BitVec 1 := Scalar.cmpi .ne v71 c0_i32_23
  v72

def k0_dev23 : Nat :=
  let c0_i32_456 : BitVec 32 := 0#32
  let c22_i32_454 : BitVec 32 := 22#32
  let c1_i32_455 : BitVec 32 := 1#32
  let v1079 : BitVec 32 := Scalar.muli c22_i32_454 c1_i32_455
  let v1080 : BitVec 32 := Scalar.addi c0_i32_456 v1079
  v1080.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v73 : BitVec 1 := Scalar.cmpi .ne v2 c23_i32
  let v74 : BitVec 32 := Scalar.extui v73
  let c0_i32_24 : BitVec 32 := 0#32
  let v75 : BitVec 1 := Scalar.cmpi .ne v74 c0_i32_24
  v75

def k0_dev24 : Nat :=
  let c0_i32_456 : BitVec 32 := 0#32
  let c23_i32_454 : BitVec 32 := 23#32
  let c1_i32_455 : BitVec 32 := 1#32
  let v1079 : BitVec 32 := Scalar.muli c23_i32_454 c1_i32_455
  let v1080 : BitVec 32 := Scalar.addi c0_i32_456 v1079
  v1080.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v76 : BitVec 1 := Scalar.cmpi .ne v2 c24_i32
  let v77 : BitVec 32 := Scalar.extui v76
  let c0_i32_25 : BitVec 32 := 0#32
  let v78 : BitVec 1 := Scalar.cmpi .ne v77 c0_i32_25
  v78

def k0_dev25 : Nat :=
  let c0_i32_456 : BitVec 32 := 0#32
  let c24_i32_454 : BitVec 32 := 24#32
  let c1_i32_455 : BitVec 32 := 1#32
  let v1079 : BitVec 32 := Scalar.muli c24_i32_454 c1_i32_455
  let v1080 : BitVec 32 := Scalar.addi c0_i32_456 v1079
  v1080.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v79 : BitVec 1 := Scalar.cmpi .ne v2 c25_i32
  let v80 : BitVec 32 := Scalar.extui v79
  let c0_i32_26 : BitVec 32 := 0#32
  let v81 : BitVec 1 := Scalar.cmpi .ne v80 c0_i32_26
  v81

def k0_dev26 : Nat :=
  let c0_i32_456 : BitVec 32 := 0#32
  let c25_i32_454 : BitVec 32 := 25#32
  let c1_i32_455 : BitVec 32 := 1#32
  let v1079 : BitVec 32 := Scalar.muli c25_i32_454 c1_i32_455
  let v1080 : BitVec 32 := Scalar.addi c0_i32_456 v1079
  v1080.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v82 : BitVec 1 := Scalar.cmpi .ne v2 c26_i32
  let v83 : BitVec 32 := Scalar.extui v82
  let c0_i32_27 : BitVec 32 := 0#32
  let v84 : BitVec 1 := Scalar.cmpi .ne v83 c0_i32_27
  v84

def k0_dev27 : Nat :=
  let c0_i32_456 : BitVec 32 := 0#32
  let c26_i32_454 : BitVec 32 := 26#32
  let c1_i32_455 : BitVec 32 := 1#32
  let v1079 : BitVec 32 := Scalar.muli c26_i32_454 c1_i32_455
  let v1080 : BitVec 32 := Scalar.addi c0_i32_456 v1079
  v1080.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v85 : BitVec 1 := Scalar.cmpi .ne v2 c27_i32
  let v86 : BitVec 32 := Scalar.extui v85
  let c0_i32_28 : BitVec 32 := 0#32
  let v87 : BitVec 1 := Scalar.cmpi .ne v86 c0_i32_28
  v87

def k0_dev28 : Nat :=
  let c0_i32_456 : BitVec 32 := 0#32
  let c27_i32_454 : BitVec 32 := 27#32
  let c1_i32_455 : BitVec 32 := 1#32
  let v1079 : BitVec 32 := Scalar.muli c27_i32_454 c1_i32_455
  let v1080 : BitVec 32 := Scalar.addi c0_i32_456 v1079
  v1080.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v88 : BitVec 1 := Scalar.cmpi .ne v2 c28_i32
  let v89 : BitVec 32 := Scalar.extui v88
  let c0_i32_29 : BitVec 32 := 0#32
  let v90 : BitVec 1 := Scalar.cmpi .ne v89 c0_i32_29
  v90

def k0_dev29 : Nat :=
  let c0_i32_456 : BitVec 32 := 0#32
  let c28_i32_454 : BitVec 32 := 28#32
  let c1_i32_455 : BitVec 32 := 1#32
  let v1079 : BitVec 32 := Scalar.muli c28_i32_454 c1_i32_455
  let v1080 : BitVec 32 := Scalar.addi c0_i32_456 v1079
  v1080.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v91 : BitVec 1 := Scalar.cmpi .ne v2 c29_i32
  let v92 : BitVec 32 := Scalar.extui v91
  let c0_i32_30 : BitVec 32 := 0#32
  let v93 : BitVec 1 := Scalar.cmpi .ne v92 c0_i32_30
  v93

def k0_dev30 : Nat :=
  let c0_i32_456 : BitVec 32 := 0#32
  let c29_i32_454 : BitVec 32 := 29#32
  let c1_i32_455 : BitVec 32 := 1#32
  let v1079 : BitVec 32 := Scalar.muli c29_i32_454 c1_i32_455
  let v1080 : BitVec 32 := Scalar.addi c0_i32_456 v1079
  v1080.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v94 : BitVec 1 := Scalar.cmpi .ne v2 c30_i32
  let v95 : BitVec 32 := Scalar.extui v94
  let c0_i32_31 : BitVec 32 := 0#32
  let v96 : BitVec 1 := Scalar.cmpi .ne v95 c0_i32_31
  v96

def k0_dev31 : Nat :=
  let c0_i32_456 : BitVec 32 := 0#32
  let c30_i32_454 : BitVec 32 := 30#32
  let c1_i32_455 : BitVec 32 := 1#32
  let v1079 : BitVec 32 := Scalar.muli c30_i32_454 c1_i32_455
  let v1080 : BitVec 32 := Scalar.addi c0_i32_456 v1079
  v1080.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v97 : BitVec 1 := Scalar.cmpi .ne v2 c31_i32
  let v98 : BitVec 32 := Scalar.extui v97
  let c0_i32_32 : BitVec 32 := 0#32
  let v99 : BitVec 1 := Scalar.cmpi .ne v98 c0_i32_32
  v99

def k0_dev32 : Nat :=
  let c0_i32_456 : BitVec 32 := 0#32
  let c31_i32_454 : BitVec 32 := 31#32
  let c1_i32_455 : BitVec 32 := 1#32
  let v1079 : BitVec 32 := Scalar.muli c31_i32_454 c1_i32_455
  let v1080 : BitVec 32 := Scalar.addi c0_i32_456 v1079
  v1080.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_83 : BitVec 32 := 8#32
  let v235 : BitVec 32 := Scalar.muli v2 c8_i32_83
  let v236 : Index := Scalar.indexCast v235
  let c0_84 : Index := 0#32
  ![v236.toNat, 0]
def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_dev33 : Nat :=
  let c0_i32_456 : BitVec 32 := 0#32
  let c0_i32_454 : BitVec 32 := 0#32
  let c1_i32_455 : BitVec 32 := 1#32
  let v1079 : BitVec 32 := Scalar.muli c0_i32_454 c1_i32_455
  let v1080 : BitVec 32 := Scalar.addi c0_i32_456 v1079
  v1080.toNat
def k0_off4 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_dev34 : Nat :=
  let c0_i32_456 : BitVec 32 := 0#32
  let c1_i32_454 : BitVec 32 := 1#32
  let c1_i32_455 : BitVec 32 := 1#32
  let v1079 : BitVec 32 := Scalar.muli c1_i32_454 c1_i32_455
  let v1080 : BitVec 32 := Scalar.addi c0_i32_456 v1079
  v1080.toNat
def k0_off6 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off7 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_dev35 : Nat :=
  let c0_i32_456 : BitVec 32 := 0#32
  let c2_i32_454 : BitVec 32 := 2#32
  let c1_i32_455 : BitVec 32 := 1#32
  let v1079 : BitVec 32 := Scalar.muli c2_i32_454 c1_i32_455
  let v1080 : BitVec 32 := Scalar.addi c0_i32_456 v1079
  v1080.toNat
def k0_off8 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off9 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_dev36 : Nat :=
  let c0_i32_456 : BitVec 32 := 0#32
  let c3_i32_454 : BitVec 32 := 3#32
  let c1_i32_455 : BitVec 32 := 1#32
  let v1079 : BitVec 32 := Scalar.muli c3_i32_454 c1_i32_455
  let v1080 : BitVec 32 := Scalar.addi c0_i32_456 v1079
  v1080.toNat
def k0_off10 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off11 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_dev37 : Nat :=
  let c0_i32_456 : BitVec 32 := 0#32
  let c4_i32_454 : BitVec 32 := 4#32
  let c1_i32_455 : BitVec 32 := 1#32
  let v1079 : BitVec 32 := Scalar.muli c4_i32_454 c1_i32_455
  let v1080 : BitVec 32 := Scalar.addi c0_i32_456 v1079
  v1080.toNat
def k0_off12 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off13 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_dev38 : Nat :=
  let c0_i32_456 : BitVec 32 := 0#32
  let c5_i32_454 : BitVec 32 := 5#32
  let c1_i32_455 : BitVec 32 := 1#32
  let v1079 : BitVec 32 := Scalar.muli c5_i32_454 c1_i32_455
  let v1080 : BitVec 32 := Scalar.addi c0_i32_456 v1079
  v1080.toNat
def k0_off14 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off15 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_dev39 : Nat :=
  let c0_i32_456 : BitVec 32 := 0#32
  let c6_i32_454 : BitVec 32 := 6#32
  let c1_i32_455 : BitVec 32 := 1#32
  let v1079 : BitVec 32 := Scalar.muli c6_i32_454 c1_i32_455
  let v1080 : BitVec 32 := Scalar.addi c0_i32_456 v1079
  v1080.toNat
def k0_off16 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off17 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_dev40 : Nat :=
  let c0_i32_456 : BitVec 32 := 0#32
  let c7_i32_454 : BitVec 32 := 7#32
  let c1_i32_455 : BitVec 32 := 1#32
  let v1079 : BitVec 32 := Scalar.muli c7_i32_454 c1_i32_455
  let v1080 : BitVec 32 := Scalar.addi c0_i32_456 v1079
  v1080.toNat
def k0_off18 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off19 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_dev41 : Nat :=
  let c0_i32_456 : BitVec 32 := 0#32
  let c8_i32_454 : BitVec 32 := 8#32
  let c1_i32_455 : BitVec 32 := 1#32
  let v1079 : BitVec 32 := Scalar.muli c8_i32_454 c1_i32_455
  let v1080 : BitVec 32 := Scalar.addi c0_i32_456 v1079
  v1080.toNat
def k0_off20 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off21 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_dev42 : Nat :=
  let c0_i32_456 : BitVec 32 := 0#32
  let c9_i32_454 : BitVec 32 := 9#32
  let c1_i32_455 : BitVec 32 := 1#32
  let v1079 : BitVec 32 := Scalar.muli c9_i32_454 c1_i32_455
  let v1080 : BitVec 32 := Scalar.addi c0_i32_456 v1079
  v1080.toNat
def k0_off22 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off23 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_dev43 : Nat :=
  let c0_i32_456 : BitVec 32 := 0#32
  let c10_i32_454 : BitVec 32 := 10#32
  let c1_i32_455 : BitVec 32 := 1#32
  let v1079 : BitVec 32 := Scalar.muli c10_i32_454 c1_i32_455
  let v1080 : BitVec 32 := Scalar.addi c0_i32_456 v1079
  v1080.toNat
def k0_off24 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off25 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_dev44 : Nat :=
  let c0_i32_456 : BitVec 32 := 0#32
  let c11_i32_454 : BitVec 32 := 11#32
  let c1_i32_455 : BitVec 32 := 1#32
  let v1079 : BitVec 32 := Scalar.muli c11_i32_454 c1_i32_455
  let v1080 : BitVec 32 := Scalar.addi c0_i32_456 v1079
  v1080.toNat
def k0_off26 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off27 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_dev45 : Nat :=
  let c0_i32_456 : BitVec 32 := 0#32
  let c12_i32_454 : BitVec 32 := 12#32
  let c1_i32_455 : BitVec 32 := 1#32
  let v1079 : BitVec 32 := Scalar.muli c12_i32_454 c1_i32_455
  let v1080 : BitVec 32 := Scalar.addi c0_i32_456 v1079
  v1080.toNat
def k0_off28 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off29 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_dev46 : Nat :=
  let c0_i32_456 : BitVec 32 := 0#32
  let c13_i32_454 : BitVec 32 := 13#32
  let c1_i32_455 : BitVec 32 := 1#32
  let v1079 : BitVec 32 := Scalar.muli c13_i32_454 c1_i32_455
  let v1080 : BitVec 32 := Scalar.addi c0_i32_456 v1079
  v1080.toNat
def k0_off30 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off31 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_dev47 : Nat :=
  let c0_i32_456 : BitVec 32 := 0#32
  let c14_i32_454 : BitVec 32 := 14#32
  let c1_i32_455 : BitVec 32 := 1#32
  let v1079 : BitVec 32 := Scalar.muli c14_i32_454 c1_i32_455
  let v1080 : BitVec 32 := Scalar.addi c0_i32_456 v1079
  v1080.toNat
def k0_off32 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off33 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_dev48 : Nat :=
  let c0_i32_456 : BitVec 32 := 0#32
  let c15_i32_454 : BitVec 32 := 15#32
  let c1_i32_455 : BitVec 32 := 1#32
  let v1079 : BitVec 32 := Scalar.muli c15_i32_454 c1_i32_455
  let v1080 : BitVec 32 := Scalar.addi c0_i32_456 v1079
  v1080.toNat
def k0_off34 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off35 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_dev49 : Nat :=
  let c0_i32_456 : BitVec 32 := 0#32
  let c16_i32_454 : BitVec 32 := 16#32
  let c1_i32_455 : BitVec 32 := 1#32
  let v1079 : BitVec 32 := Scalar.muli c16_i32_454 c1_i32_455
  let v1080 : BitVec 32 := Scalar.addi c0_i32_456 v1079
  v1080.toNat
def k0_off36 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off37 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_dev50 : Nat :=
  let c0_i32_456 : BitVec 32 := 0#32
  let c17_i32_454 : BitVec 32 := 17#32
  let c1_i32_455 : BitVec 32 := 1#32
  let v1079 : BitVec 32 := Scalar.muli c17_i32_454 c1_i32_455
  let v1080 : BitVec 32 := Scalar.addi c0_i32_456 v1079
  v1080.toNat
def k0_off38 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off39 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_dev51 : Nat :=
  let c0_i32_456 : BitVec 32 := 0#32
  let c18_i32_454 : BitVec 32 := 18#32
  let c1_i32_455 : BitVec 32 := 1#32
  let v1079 : BitVec 32 := Scalar.muli c18_i32_454 c1_i32_455
  let v1080 : BitVec 32 := Scalar.addi c0_i32_456 v1079
  v1080.toNat
def k0_off40 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off41 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_dev52 : Nat :=
  let c0_i32_456 : BitVec 32 := 0#32
  let c19_i32_454 : BitVec 32 := 19#32
  let c1_i32_455 : BitVec 32 := 1#32
  let v1079 : BitVec 32 := Scalar.muli c19_i32_454 c1_i32_455
  let v1080 : BitVec 32 := Scalar.addi c0_i32_456 v1079
  v1080.toNat
def k0_off42 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off43 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_dev53 : Nat :=
  let c0_i32_456 : BitVec 32 := 0#32
  let c20_i32_454 : BitVec 32 := 20#32
  let c1_i32_455 : BitVec 32 := 1#32
  let v1079 : BitVec 32 := Scalar.muli c20_i32_454 c1_i32_455
  let v1080 : BitVec 32 := Scalar.addi c0_i32_456 v1079
  v1080.toNat
def k0_off44 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off45 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_dev54 : Nat :=
  let c0_i32_456 : BitVec 32 := 0#32
  let c21_i32_454 : BitVec 32 := 21#32
  let c1_i32_455 : BitVec 32 := 1#32
  let v1079 : BitVec 32 := Scalar.muli c21_i32_454 c1_i32_455
  let v1080 : BitVec 32 := Scalar.addi c0_i32_456 v1079
  v1080.toNat
def k0_off46 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off47 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_dev55 : Nat :=
  let c0_i32_456 : BitVec 32 := 0#32
  let c22_i32_454 : BitVec 32 := 22#32
  let c1_i32_455 : BitVec 32 := 1#32
  let v1079 : BitVec 32 := Scalar.muli c22_i32_454 c1_i32_455
  let v1080 : BitVec 32 := Scalar.addi c0_i32_456 v1079
  v1080.toNat
def k0_off48 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off49 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_dev56 : Nat :=
  let c0_i32_456 : BitVec 32 := 0#32
  let c23_i32_454 : BitVec 32 := 23#32
  let c1_i32_455 : BitVec 32 := 1#32
  let v1079 : BitVec 32 := Scalar.muli c23_i32_454 c1_i32_455
  let v1080 : BitVec 32 := Scalar.addi c0_i32_456 v1079
  v1080.toNat
def k0_off50 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off51 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_dev57 : Nat :=
  let c0_i32_456 : BitVec 32 := 0#32
  let c24_i32_454 : BitVec 32 := 24#32
  let c1_i32_455 : BitVec 32 := 1#32
  let v1079 : BitVec 32 := Scalar.muli c24_i32_454 c1_i32_455
  let v1080 : BitVec 32 := Scalar.addi c0_i32_456 v1079
  v1080.toNat
def k0_off52 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off53 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_dev58 : Nat :=
  let c0_i32_456 : BitVec 32 := 0#32
  let c25_i32_454 : BitVec 32 := 25#32
  let c1_i32_455 : BitVec 32 := 1#32
  let v1079 : BitVec 32 := Scalar.muli c25_i32_454 c1_i32_455
  let v1080 : BitVec 32 := Scalar.addi c0_i32_456 v1079
  v1080.toNat
def k0_off54 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off55 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_dev59 : Nat :=
  let c0_i32_456 : BitVec 32 := 0#32
  let c26_i32_454 : BitVec 32 := 26#32
  let c1_i32_455 : BitVec 32 := 1#32
  let v1079 : BitVec 32 := Scalar.muli c26_i32_454 c1_i32_455
  let v1080 : BitVec 32 := Scalar.addi c0_i32_456 v1079
  v1080.toNat
def k0_off56 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off57 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_dev60 : Nat :=
  let c0_i32_456 : BitVec 32 := 0#32
  let c27_i32_454 : BitVec 32 := 27#32
  let c1_i32_455 : BitVec 32 := 1#32
  let v1079 : BitVec 32 := Scalar.muli c27_i32_454 c1_i32_455
  let v1080 : BitVec 32 := Scalar.addi c0_i32_456 v1079
  v1080.toNat
def k0_off58 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off59 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_dev61 : Nat :=
  let c0_i32_456 : BitVec 32 := 0#32
  let c28_i32_454 : BitVec 32 := 28#32
  let c1_i32_455 : BitVec 32 := 1#32
  let v1079 : BitVec 32 := Scalar.muli c28_i32_454 c1_i32_455
  let v1080 : BitVec 32 := Scalar.addi c0_i32_456 v1079
  v1080.toNat
def k0_off60 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off61 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_dev62 : Nat :=
  let c0_i32_456 : BitVec 32 := 0#32
  let c29_i32_454 : BitVec 32 := 29#32
  let c1_i32_455 : BitVec 32 := 1#32
  let v1079 : BitVec 32 := Scalar.muli c29_i32_454 c1_i32_455
  let v1080 : BitVec 32 := Scalar.addi c0_i32_456 v1079
  v1080.toNat
def k0_off62 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off63 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_dev63 : Nat :=
  let c0_i32_456 : BitVec 32 := 0#32
  let c30_i32_454 : BitVec 32 := 30#32
  let c1_i32_455 : BitVec 32 := 1#32
  let v1079 : BitVec 32 := Scalar.muli c30_i32_454 c1_i32_455
  let v1080 : BitVec 32 := Scalar.addi c0_i32_456 v1079
  v1080.toNat
def k0_off64 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off65 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_dev64 : Nat :=
  let c0_i32_456 : BitVec 32 := 0#32
  let c31_i32_454 : BitVec 32 := 31#32
  let c1_i32_455 : BitVec 32 := 1#32
  let v1079 : BitVec 32 := Scalar.muli c31_i32_454 c1_i32_455
  let v1080 : BitVec 32 := Scalar.addi c0_i32_456 v1079
  v1080.toNat
def k0_off66 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_190 : BitVec 32 := 8#32
  let v498 : BitVec 32 := Scalar.muli v2 c8_i32_190
  let v499 : Index := Scalar.indexCast v498
  let c0_191 : Index := 0#32
  ![v499.toNat, 0]
def k0_off67 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_458 : BitVec 32 := 0#32
  let c0_i32_459 : BitVec 32 := 0#32
  ![v2.toNat, 0, 0]
def k0_off68 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_458 : BitVec 32 := 0#32
  let c0_i32_459 : BitVec 32 := 0#32
  ![v2.toNat, 0, 0]
def k0_off69 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_458 : BitVec 32 := 0#32
  let c0_i32_459 : BitVec 32 := 0#32
  ![v2.toNat, 0, 0]
def k0_off70 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_458 : BitVec 32 := 0#32
  let c0_i32_459 : BitVec 32 := 0#32
  ![v2.toNat, 0, 0]
def k0_off71 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_458 : BitVec 32 := 0#32
  let c0_i32_459 : BitVec 32 := 0#32
  ![v2.toNat, 0, 0]
def k0_off72 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_off73 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_off74 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_off75 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_off76 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_off77 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_off78 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_off79 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_off80 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_off81 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_off82 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_off83 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_off84 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_off85 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_off86 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_off87 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_off88 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_off89 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_off90 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_off91 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_off92 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_off93 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_off94 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_off95 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_off96 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_off97 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
def k0_off98 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_457 : BitVec 32 := 0#32
  let c0_i32_458 : BitVec 32 := 0#32
  ![v2.toNat, 0, 0]
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S256x128 : Shape := ⟨2, ![256, 128]⟩
abbrev S128x64 : Shape := ⟨2, ![128, 64]⟩
abbrev S256x2 : Shape := ⟨2, ![256, 2]⟩
abbrev S64x128x256 : Shape := ⟨3, ![64, 128, 256]⟩
abbrev S256x64 : Shape := ⟨2, ![256, 64]⟩
abbrev S_ : Shape := ⟨0, ![]⟩
abbrev S256 : Shape := ⟨1, ![256]⟩
abbrev S256x1 : Shape := ⟨2, ![256, 1]⟩
abbrev S256x2x1 : Shape := ⟨3, ![256, 2, 1]⟩
abbrev S256x128x256 : Shape := ⟨3, ![256, 128, 256]⟩
abbrev S256x256 : Shape := ⟨2, ![256, 256]⟩

abbrev nBuf : Space → Nat
  | .hbm => 70
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S128x64, .f32⟩
  | .hbm, ⟨2, _⟩ => ⟨S256x2, .i32⟩
  | .hbm, ⟨3, _⟩ => ⟨S64x128x256, .f32⟩
  | .hbm, ⟨4, _⟩ => ⟨S256x64, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S256x64, .f32⟩
  | .hbm, ⟨9, _⟩ => ⟨S256x64, .f32⟩
  | .hbm, ⟨10, _⟩ => ⟨S256x64, .f32⟩
  | .hbm, ⟨11, _⟩ => ⟨S_, .f32⟩
  | .hbm, ⟨12, _⟩ => ⟨S256, .f32⟩
  | .hbm, ⟨13, _⟩ => ⟨S256x1, .f32⟩
  | .hbm, ⟨14, _⟩ => ⟨S256x64, .f32⟩
  | .hbm, ⟨15, _⟩ => ⟨S256x64, .f32⟩
  | .hbm, ⟨16, _⟩ => ⟨S_, .i32⟩
  | .hbm, ⟨17, _⟩ => ⟨S256x2, .i32⟩
  | .hbm, ⟨18, _⟩ => ⟨S256x2, .i1⟩
  | .hbm, ⟨19, _⟩ => ⟨S_, .i32⟩
  | .hbm, ⟨20, _⟩ => ⟨S256x2, .i32⟩
  | .hbm, ⟨21, _⟩ => ⟨S256x2, .i1⟩
  | .hbm, ⟨22, _⟩ => ⟨S256x2, .i1⟩
  | .hbm, ⟨23, _⟩ => ⟨S_, .i32⟩
  | .hbm, ⟨24, _⟩ => ⟨S256x2, .i32⟩
  | .hbm, ⟨25, _⟩ => ⟨S256x2, .i1⟩
  | .hbm, ⟨26, _⟩ => ⟨S_, .i32⟩
  | .hbm, ⟨27, _⟩ => ⟨S256x2, .i32⟩
  | .hbm, ⟨28, _⟩ => ⟨S256x2, .i32⟩
  | .hbm, ⟨29, _⟩ => ⟨S256x2, .i32⟩
  | .hbm, ⟨30, _⟩ => ⟨S256x2x1, .i32⟩
  | .hbm, ⟨31, _⟩ => ⟨S256x2, .f32⟩
  | .hbm, ⟨32, _⟩ => ⟨S_, .f32⟩
  | .hbm, ⟨33, _⟩ => ⟨S_, .f32⟩
  | .hbm, ⟨34, _⟩ => ⟨S256x2, .f32⟩
  | .hbm, ⟨35, _⟩ => ⟨S256x2, .f32⟩
  | .hbm, ⟨36, _⟩ => ⟨S256x1, .f32⟩
  | .hbm, ⟨37, _⟩ => ⟨S256x1, .f32⟩
  | .hbm, ⟨38, _⟩ => ⟨S256x1, .f32⟩
  | .hbm, ⟨39, _⟩ => ⟨S256x2, .f32⟩
  | .hbm, ⟨40, _⟩ => ⟨S256x2, .f32⟩
  | .hbm, ⟨41, _⟩ => ⟨S256x1, .i32⟩
  | .hbm, ⟨42, _⟩ => ⟨S256, .i32⟩
  | .hbm, ⟨43, _⟩ => ⟨S256x1, .i32⟩
  | .hbm, ⟨44, _⟩ => ⟨S256x128x256, .f32⟩
  | .hbm, ⟨45, _⟩ => ⟨S256x256, .f32⟩
  | .hbm, ⟨46, _⟩ => ⟨S256x1, .i32⟩
  | .hbm, ⟨47, _⟩ => ⟨S256, .i32⟩
  | .hbm, ⟨48, _⟩ => ⟨S256x1, .i32⟩
  | .hbm, ⟨49, _⟩ => ⟨S256x128x256, .f32⟩
  | .hbm, ⟨50, _⟩ => ⟨S256x256, .f32⟩
  | .hbm, ⟨51, _⟩ => ⟨S256x1, .i1⟩
  | .hbm, ⟨52, _⟩ => ⟨S256x1, .f32⟩
  | .hbm, ⟨53, _⟩ => ⟨S256x256, .f32⟩
  | .hbm, ⟨54, _⟩ => ⟨S256x256, .f32⟩
  | .hbm, ⟨55, _⟩ => ⟨S_, .f32⟩
  | .hbm, ⟨56, _⟩ => ⟨S_, .f32⟩
  | .hbm, ⟨57, _⟩ => ⟨S256x256, .i1⟩
  | .hbm, ⟨58, _⟩ => ⟨S256x256, .f32⟩
  | .hbm, ⟨59, _⟩ => ⟨S256x256, .f32⟩
  | .hbm, ⟨60, _⟩ => ⟨S256x1, .i1⟩
  | .hbm, ⟨61, _⟩ => ⟨S256x1, .f32⟩
  | .hbm, ⟨62, _⟩ => ⟨S256x256, .f32⟩
  | .hbm, ⟨63, _⟩ => ⟨S256x256, .f32⟩
  | .hbm, ⟨64, _⟩ => ⟨S_, .f32⟩
  | .hbm, ⟨65, _⟩ => ⟨S_, .f32⟩
  | .hbm, ⟨66, _⟩ => ⟨S256x256, .i1⟩
  | .hbm, ⟨67, _⟩ => ⟨S256x256, .f32⟩
  | .hbm, ⟨68, _⟩ => ⟨S256x256, .f32⟩
  | .hbm, ⟨69, _⟩ => ⟨S256x256, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_cst_2 : Ref sig .tc := ⟨.hbm, 32, rfl⟩
abbrev main_call1_v0 : Ref sig .tc := ⟨.hbm, 33, rfl⟩
abbrev main_call1_v1 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call2_v0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call3_v0 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_3 : Ref sig .tc := ⟨.hbm, 55, rfl⟩
abbrev main_call4_v0 : Ref sig .tc := ⟨.hbm, 56, rfl⟩
abbrev main_call4_v1 : Ref sig .tc := ⟨.hbm, 57, rfl⟩
abbrev main_call4_v2 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_4 : Ref sig .tc := ⟨.hbm, 64, rfl⟩
abbrev main_call5_v0 : Ref sig .tc := ⟨.hbm, 65, rfl⟩
abbrev main_call5_v1 : Ref sig .tc := ⟨.hbm, 66, rfl⟩
abbrev main_call5_v2 : Ref sig .tc := ⟨.hbm, 67, rfl⟩
abbrev main_v39 : Ref sig .tc := ⟨.hbm, 68, rfl⟩
abbrev main_v40 : Ref sig .tc := ⟨.hbm, 69, rfl⟩

abbrev nD : Nat := 1
abbrev τ : Topo := Topo.v7x

variable {F : FTy → Type} [FloatOps F]
-- ==== Proof.Preds.lean ====
/- Which devices talk to which: the send and the receive predicates that the kernel computes from the expert indices
   are one relation between devices. -/
module

public import proofs.«01_k».proof.Proof.Gen.KernelIdeal.Skeleton
public import Idealize.ShloMosaic.Lib.Pointwise
public import Idealize.ShloMosaic.Lib.IndicatorCount
public import Idealize.ShloMosaic.Lib.StableHlo.Predicate

@[expose] public section

noncomputable section

namespace Cert.Moe

open Cert.KernelIdeal Cert.KernelIdeal.Gen Idealize.ShloMosaic

variable {F : FTy → Type} [FloatOps F]

/-- The device that holds an expert: the floor of half its number, as the kernel computes it on words. -/
def half (w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt 2#32 0#32)) (Scalar.extui (Scalar.cmpi .slt 2#32 0#32))))
      (IntOp.cmpi .ne (IntOp.remsi .vector w 2#32) 0#32))
    (IntOp.subi (IntOp.divsi .vector w 2#32) 1#32) (IntOp.divsi .vector w 2#32)

/-- Row `r` of the eight tokens of device `j`. -/
def row (j : Fin 32) (r : Fin 8) : Fin 256 := ⟨j.val * 8 + r.val, by omega⟩

/-- Some token of device `j` names an expert of device `s`. -/
def Needs (I : IVec S256x2 32) (s j : Fin 32) : Prop :=
  ∃ r : Fin 8, half (I (ix2 (row j r) 0)) = BitVec.ofNat 32 s.val ∨ half (I (ix2 (row j r) 1)) = BitVec.ofNat 32 s.val

instance (I : IVec S256x2 32) (s j : Fin 32) : Decidable (Needs I s j) := by unfold Needs; infer_instance

/-- Device `s` sends its part of the sum to device `j`: another device, some of whose tokens name an expert of `s`. -/
def Talks (I : IVec S256x2 32) (s j : Fin 32) : Prop := s ≠ j ∧ Needs I s j

instance (I : IVec S256x2 32) (s j : Fin 32) : Decidable (Talks I s j) := by unfold Talks; infer_instance

/-- A count of at most eight marks is positive exactly when there is a mark. -/
theorem count_pos (p : Fin 8 → BitVec 1) :
    Scalar.cmpi .sgt (Finset.univ.fold IntOp.addi (0#32) fun k => (p k).setWidth 32) 0#32 = 1#1 ↔ ∃ k, p k = 1#1 := by
  rw [IndicatorCount.fold_addi_setWidth_eq_card]
  have hle : (Finset.univ.filter fun k => p k = 1#1).card ≤ 8 := (Finset.card_filter_le _ _).trans (by simp)
  have hpos : 0 < (Finset.univ.filter fun k => p k = 1#1).card ↔ ∃ k, p k = 1#1 := by
    rw [Finset.card_pos]; simp [Finset.filter_nonempty_iff]
  rw [← hpos]
  generalize (Finset.univ.filter fun k => p k = 1#1).card = n at hle
  interval_cases n <;> decide

/-- The two comparisons of one token, joined. -/
theorem or_eq_one (a b v : BitVec 32) : IntOp.ori (IntOp.cmpi .eq a v) (IntOp.cmpi .eq b v) = 1#1 ↔ a = v ∨ b = v := by
  have hbit (x : BitVec 32) : IntOp.cmpi .eq x v = 1#1 ↔ x = v := by
    show BitVec.ofBool (x == v) = 1#1 ↔ x = v
    by_cases h : x = v
    · simp [h]
    · simp [h, beq_eq_false_iff_ne.2 h]
  rw [← hbit a, ← hbit b]
  generalize IntOp.cmpi .eq a v = p
  generalize IntOp.cmpi .eq b v = q
  revert p q
  decide

/-- The kernel's count of tokens of device `j` that need device `s` is positive exactly when there is one. -/
theorem send_count {I : IVec S256x2 32} {v174 v200 : Vec F S256x1 .i32} (h0 : ∀ t, v174 (ix2 t 0) = I (ix2 t 0))
    (h1 : ∀ t, v200 (ix2 t 0) = I (ix2 t 1)) (s j : Fin 32) :
    Scalar.cmpi .sgt (k0_pay18 (BitVec.ofNat 32 s.val) (k0_pay14 v174) (k0_pay15 v200) 2#32 (k0_pay16 v200) (k0_pay17 v200) 0#32
      (ix2 j 0)) 0#32 = 1#1 ↔ Needs I s j := by
  pointwise [k0_pay18, k0_pay14, k0_pay17, k0_pay15, k0_pay16, h0, h1]
  rw [count_pos]
  unfold Needs
  refine exists_congr fun r => ?_
  rw [or_eq_one]
  rfl

/-- The kernel's count of its own tokens that need device `s` is positive exactly when there is one. -/
theorem recv_count {I : IVec S256x2 32} {v237 : Vec F S8x2 .i32} (j : Fin 32) (h : ∀ r c, v237 (ix2 r c) = I (ix2 (row j r) c))
    (s : Fin 32) :
    Scalar.cmpi .sgt (k0_pay23 (k0_pay20 v237) (k0_pay21 v237) (k0_pay22 v237) (ix2 0 s)) 0#32 = 1#1 ↔ Needs I s j := by
  pointwise [k0_pay23, k0_pay20, k0_pay21, k0_pay22, k0_pay19, h]
  rw [count_pos]
  unfold Needs
  refine exists_congr fun r => ?_
  rw [or_eq_one]
  rfl

/-- The bit under which a copy is started or waited for. -/
def talkBit (v2 j w : BitVec 32) : BitVec 1 := Scalar.andi (Scalar.cmpi .ne v2 j) (Scalar.cmpi .sgt w 0#32)

theorem talkBit_eq_one {v2 j w : BitVec 32} : talkBit v2 j w = 1#1 ↔ v2 ≠ j ∧ Scalar.cmpi .sgt w 0#32 = 1#1 := by
  unfold talkBit
  have hbit : Scalar.cmpi .ne v2 j = 1#1 ↔ v2 ≠ j := by
    show BitVec.ofBool (v2 != j) = 1#1 ↔ v2 ≠ j
    by_cases h : v2 = j
    · simp [h]
    · simp [h, bne, beq_eq_false_iff_ne.2 h]
  rw [← hbit]
  generalize Scalar.cmpi .sgt w 0#32 = q
  generalize Scalar.cmpi .ne v2 j = p
  revert p q
  decide

theorem ext_bit (b : BitVec 1) : Scalar.cmpi .ne (Scalar.extui b : BitVec 32) 0#32 = 1#1 ↔ b = 1#1 := by
  revert b; decide

/-- The device's number, as the kernel reads it. -/
theorem word_dev (d : Dev nD) : Scalar.remsi (Scalar.divsi (Dev.word d) 1#32) 32#32 = BitVec.ofNat 32 d.val := by
  revert d; decide

theorem ofNat_ne {s j : Fin 32} : BitVec.ofNat 32 s.val ≠ BitVec.ofNat 32 j.val ↔ s ≠ j := by
  revert s j; decide

end Cert.Moe
-- ==== Proof.Protocol.lean ====
/- The protocol by which the devices exchange their parts of the sum: the cells, the slots that a copy fills and the rows
   that it reads, and the schedule of what is paid to each cell. -/
module

public import proofs.«01_k».proof.Proof.Preds
public import proofs.«01_k».proof.Proof.Gen.KernelIdeal.Launch
public import Idealize.ShloMosaic.Lib.Pipeline.Kit
public import Idealize.ShloMosaic.Lib.Rounds
public import Idealize.ShloMosaic.Lib.Rounds.Family

@[expose] public section

noncomputable section

namespace Cert.Moe

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]

/-- The algebra of the exchange: one duty per paying device. -/
abbrev UT : Type := URounds (GSem nD τ sig) (Dev nD)

/-- The three algebras side by side: the staging buffers', the host collective's and the exchange's. -/
abbrev UU : Type := UR sig nD τ × (Sites.UC × UT)

local notation "𝕄" => MT nD τ sig ℕ (Elt F) ℕ UU ℕ

abbrev EP : Emb (UR sig nD τ) (MT nD τ sig ℕ (Elt F) ℕ UU ℕ) := embL
abbrev EC : Emb Sites.UC (MT nD τ sig ℕ (Elt F) ℕ UU ℕ) := (Emb.inl : Emb Sites.UC (Sites.UC × UT)).trans embR
abbrev ET : Emb UT (MT nD τ sig ℕ (Elt F) ℕ UU ℕ) := (Emb.inr : Emb UT (Sites.UC × UT)).trans embR

instance EC_landsIn : (EC : Emb Sites.UC 𝕄).LandsIn (upEmb : UEmb _ 𝕄) := by unfold EC embR; infer_instance
instance ET_landsIn : (ET : Emb UT 𝕄).LandsIn (upEmb : UEmb _ 𝕄) := by unfold ET embR; infer_instance

/-! ## Cells -/

abbrev sendS (j : Dev nD) : DmaSem sig := ⟨7 + j.val, by have := j.isLt; simp only [nD] at *; show _ < 71; omega⟩
abbrev recvS (s : Dev nD) : DmaSem sig := ⟨39 + s.val, by have := s.isLt; simp only [nD] at *; show _ < 71; omega⟩

/-- The cell at which device `c` waits for the others to be ready. -/
abbrev barC (c : Dev nD) : GSem nD τ sig := ((c : Thread nD τ), .reg barrier0)
/-- The cell at which device `c` waits until its rows for device `j` have been read. -/
abbrev sendC (c j : Dev nD) : GSem nD τ sig := ((c : Thread nD τ), .dma (sendS j))
/-- The cell at which device `c` waits until the rows of device `s` have arrived. -/
abbrev recvC (c s : Dev nD) : GSem nD τ sig := ((c : Thread nD τ), .dma (recvS s))

/-! ## Slots and rows -/

theorem slot_inb (s : Dev nD) : ∀ a, (![s.val, 0, 0] : Fin 3 → Nat) a + S1x8x256.size a ≤ S32x8x256.size a := by
  revert s; decide
theorem src_inb (j : Dev nD) : ∀ a, (![8 * j.val, 0] : Fin 2 → Nat) a + S8x256.size a ≤ S256x256.size a := by
  revert j; decide

abbrev slotR (s : Dev nD) : Rect S32x8x256 := Rect.unit (s := S32x8x256) ![s.val, 0, 0] S1x8x256.size (slot_inb s)
abbrev srcR (j : Dev nD) : Rect S256x256 := Rect.unit (s := S256x256) ![8 * j.val, 0] S8x256.size (src_inb j)

/-- The slot in which the rows of device `s` arrive. -/
abbrev slotM (s : Dev nD) : Memref sig .tc .vmem S8x256 .f32 :=
  ((Memref.whole cc0_scratch1).slice (slotR s) (fun _ => rfl)).squeeze S8x256 squeezes_S1x8x256_S8x256
/-- The rows for device `j` of a device's part of the sum. -/
abbrev srcM (j : Dev nD) : Memref sig .tc .vmem S8x256 .f32 := (Memref.whole cc0_scratch0).slice (srcR j) (fun _ => rfl)

abbrev N : ℕ := (slotM 0).view.dmaCredit
theorem N_pos : 0 < N := View.dmaCredit_pos _ (by decide)

theorem slot_set (s : Dev nD) : (slotM s).view.set = (slotR s).set :=
  (View.set_reshape _ _).trans (View.set_slice_whole _ _)
theorem src_set (j : Dev nD) : (srcM j).view.set = (srcR j).set := View.set_slice_whole _ _

/-- A device's part of the sum, and the slots of a device, as contents. -/
abbrev Part : Type := cc0_scratch0.ty.Contents (Elt F)
abbrev Slots : Type := cc0_scratch1.ty.Contents (Elt F)

variable (I : IVec S256x2 32) (pv : Dev nD → Part (F := F))

/-- Device `c`'s rows for device `j`, at its part of the sum. -/
abbrev srcPts (c j : Dev nD) : sProp 𝕄 := (srcM j).view.loc (c : Thread nD τ) ↦[(srcM j).view.set]{fullShare} pv c
/-- Device `c`'s slot for device `s`. -/
abbrev slotPts (c s : Dev nD) (f : Slots (F := F)) : sProp 𝕄 :=
  (slotM s).view.loc (c : Thread nD τ) ↦[(slotM s).view.set]{fullShare} f
abbrev slotAny (c s : Dev nD) : sProp 𝕄 := iprop(∃ f : Slots (F := F), slotPts c s f)

/-- What a slot's buffer holds when the rows of device `s` for device `c` have arrived in it. -/
def landed (c s : Dev nD) (fd : Slots (F := F)) : Slots (F := F) :=
  (slotM s).view.write (Elt F) fd ((srcM c).view.read (Elt F) (pv s)) Finset.univ

/-! ## The schedule -/

/-- Device `c` lends device `k` its slot for `k`, if `k` is to fill it. -/
def barPay (k c : Dev nD) : sProp 𝕄 :=
  if Talks I k c then iprop(slotAny c k ∗ reached ET (recvC c k) 0) else iprop(emp)
def recvPay (c s : Dev nD) : sProp 𝕄 := iprop(∃ fd, slotPts c s (landed pv c s fd))
def sendPay (c j : Dev nD) : sProp 𝕄 := srcPts pv c j

/-- The device that a numbered semaphore serves. -/
def devAt (n : ℕ) : Dev nD := ⟨n % 32, Nat.mod_lt _ (by decide)⟩

theorem devAt_val (s : Dev nD) : devAt s.val = s := Fin.ext (Nat.mod_eq_of_lt s.isLt)

/-- Round 0: every other device pays the barrier; a copy pays the receiving and the sending cell. -/
def exch : Rounds.Schedule (GSem nD τ sig) (Dev nD) 𝕄 where
  duties g r :=
    if r = 0 ∧ g.1.2 = .tc then
      match g.2 with
      | .reg s => if s = barrier0 then Finset.univ.filter (fun c => c ≠ g.1.1) else ∅
      | .dma n =>
        if 39 ≤ n.val then (if Talks I (devAt (n.val - 39)) g.1.1 then {devAt (n.val - 39)} else ∅)
        else if Talks I g.1.1 (devAt (n.val - 7)) then {g.1.1} else ∅
    else ∅
  unitless _ := False
  amount g _ _ := match g.2 with
    | .reg _ => 1
    | .dma _ => N
  payload g _ d := match g.2 with
    | .reg _ => barPay I g.1.1 d
    | .dma n => if 39 ≤ n.val then recvPay pv g.1.1 (devAt (n.val - 39)) else sendPay pv g.1.1 (devAt (n.val - 7))
  amount_pos g _ _ _ := by
    split
    · exact Nat.one_pos
    · exact N_pos

instance barPay_storable (k c : Dev nD) : BI.Storable (upEmb : UEmb _ 𝕄) (barPay (F := F) I k c) := by
  unfold barPay; split <;> infer_instance
instance recvPay_storable (c s : Dev nD) : BI.Storable (upEmb : UEmb _ 𝕄) (recvPay pv c s) := by
  unfold recvPay; infer_instance
instance sendPay_storable (c j : Dev nD) : BI.Storable (upEmb : UEmb _ 𝕄) (sendPay pv c j) := by
  unfold sendPay; infer_instance

instance exch_storable (g : GSem nD τ sig) (r : ℕ) (d : Dev nD) : BI.Storable (upEmb : UEmb _ 𝕄) ((exch I pv).payload g r d) := by
  obtain ⟨t, sm⟩ := g
  dsimp only [exch]
  cases sm with
  | reg s => dsimp only; infer_instance
  | dma n => dsimp only; split <;> infer_instance

theorem sub_recv (s : Dev nD) : devAt (39 + s.val - 39) = s := by rw [Nat.add_sub_cancel_left, devAt_val]
theorem sub_send (j : Dev nD) : devAt (7 + j.val - 7) = j := by rw [Nat.add_sub_cancel_left, devAt_val]
theorem not_recv (j : Dev nD) : ¬ 39 ≤ 7 + j.val := by have := j.isLt; simp only [nD] at this; omega

section Sched

variable (c : Dev nD)

theorem duties_bar : (exch I pv).duties (barC c) 0 = Finset.univ.filter fun k => k ≠ c := by
  dsimp only [exch]; rw [if_pos ⟨rfl, rfl⟩, if_pos rfl]
theorem duties_recv (s : Dev nD) (h : Talks I s c) : (exch I pv).duties (recvC c s) 0 = {s} := by
  dsimp only [exch]; rw [if_pos ⟨rfl, rfl⟩, if_pos (Nat.le_add_right _ _), sub_recv, if_pos h]
theorem duties_recv_none (s : Dev nD) (h : ¬ Talks I s c) : (exch I pv).duties (recvC c s) 0 = ∅ := by
  dsimp only [exch]; rw [if_pos ⟨rfl, rfl⟩, if_pos (Nat.le_add_right _ _), sub_recv, if_neg h]
theorem duties_send (j : Dev nD) (h : Talks I c j) : (exch I pv).duties (sendC c j) 0 = {c} := by
  dsimp only [exch]; rw [if_pos ⟨rfl, rfl⟩, if_neg (not_recv j), sub_send, if_pos h]
theorem duties_send_none (j : Dev nD) (h : ¬ Talks I c j) : (exch I pv).duties (sendC c j) 0 = ∅ := by
  dsimp only [exch]; rw [if_pos ⟨rfl, rfl⟩, if_neg (not_recv j), sub_send, if_neg h]
theorem duties_later (g : GSem nD τ sig) : ∀ r, 1 ≤ r → (exch I pv).duties g r = ∅ :=
  fun r hr => by dsimp only [exch]; rw [if_neg (fun h => by omega)]

theorem amount_bar (d : Dev nD) : (exch I pv).amount (barC c) 0 d = 1 := rfl
theorem amount_dma (n : DmaSem sig) (d : Dev nD) : (exch I pv).amount ((c : Thread nD τ), .dma n) 0 d = N := rfl

theorem payload_bar (d : Dev nD) : (exch I pv).payload (barC c) 0 d = barPay I c d := rfl
theorem payload_recv (s d : Dev nD) : (exch I pv).payload (recvC c s) 0 d = recvPay pv c s := by
  dsimp only [exch]; rw [if_pos (Nat.le_add_right _ _), sub_recv]
theorem payload_send (j d : Dev nD) : (exch I pv).payload (sendC c j) 0 d = sendPay pv c j := by
  dsimp only [exch]; rw [if_neg (not_recv j), sub_send]

theorem expect_bar : (exch I pv).expect (barC c) 0 = 31 := by
  unfold Schedule.expect Schedule.amountOf
  rw [duties_bar]
  simp only [amount_bar, Finset.sum_const, smul_eq_mul, mul_one]
  revert c; decide
theorem expect_recv (s : Dev nD) (h : Talks I s c) : (exch I pv).expect (recvC c s) 0 = N := by
  unfold Schedule.expect Schedule.amountOf; rw [duties_recv I pv c s h, Finset.sum_singleton, amount_dma]
theorem expect_send (j : Dev nD) (h : Talks I c j) : (exch I pv).expect (sendC c j) 0 = N := by
  unfold Schedule.expect Schedule.amountOf; rw [duties_send I pv c j h, Finset.sum_singleton, amount_dma]

theorem rest_recv (s : Dev nD) (h : Talks I s c) :
    bigSep ((exch I pv).duties (recvC c s) 0 \ ∅) (fun d => (exch I pv).payload (recvC c s) 0 d) = recvPay pv c s := by
  rw [Finset.sdiff_empty, duties_recv I pv c s h, bigSep_singleton, payload_recv]
theorem rest_send (j : Dev nD) (h : Talks I c j) :
    bigSep ((exch I pv).duties (sendC c j) 0 \ ∅) (fun d => (exch I pv).payload (sendC c j) 0 d) = sendPay pv c j := by
  rw [Finset.sdiff_empty, duties_send I pv c j h, bigSep_singleton, payload_send]

end Sched

/-! ## What a device owes -/

/-- The part from number `n` on of the sum of what is owed to the devices that `T` names. -/
def due (T : Dev nD → Prop) [DecidablePred T] (t : Dev nD → CellTallies nD τ sig ℕ) (n : ℕ) : CellTallies nD τ sig ℕ :=
  ∑ k ∈ Finset.univ.filter (fun k : Dev nD => n ≤ k.val ∧ T k), t k

section Due

variable (T : Dev nD → Prop) [DecidablePred T] (t : Dev nD → CellTallies nD τ sig ℕ)

theorem due_pos (k : Dev nD) (h : T k) : due T t k.val = due T t (k.val + 1) + t k := by
  unfold due
  rw [show (Finset.univ.filter fun i : Dev nD => k.val ≤ i.val ∧ T i) = insert k (Finset.univ.filter fun i : Dev nD => k.val + 1 ≤ i.val ∧ T i) from ?_,
    Finset.sum_insert (by simp), add_comm]
  ext i
  simp only [Finset.mem_filter, Finset.mem_univ, true_and, Finset.mem_insert]
  constructor
  · rintro ⟨h1, h2⟩
    by_cases e : i = k
    · exact .inl e
    · exact .inr ⟨Nat.lt_of_le_of_ne h1 fun x => e (Fin.ext x.symm), h2⟩
  · rintro (e | ⟨h1, h2⟩)
    · subst e; exact ⟨Nat.le_refl _, h⟩
    · exact ⟨by omega, h2⟩

theorem due_neg (k : Dev nD) (h : ¬ T k) : due T t k.val = due T t (k.val + 1) := by
  unfold due
  congr 1
  ext i
  simp only [Finset.mem_filter, Finset.mem_univ, true_and]
  refine ⟨fun ⟨h1, h2⟩ => ⟨Nat.lt_of_le_of_ne h1 fun x => h ?_, h2⟩, fun ⟨h1, h2⟩ => ⟨by omega, h2⟩⟩
  rw [show k = i from Fin.ext x]; exact h2

theorem due_end : due T t 32 = 0 := by
  unfold due
  rw [Finset.filter_false_of_mem fun i _ h => absurd i.isLt (by simp only [nD]; omega), Finset.sum_empty]

end Due

/-- The unit owed to every other barrier cell. -/
abbrev dueB (c : Dev nD) (n : ℕ) : CellTallies nD τ sig ℕ := due (fun k => c ≠ k) (fun k => tallyAt (barC k) 4 1) n
/-- What the copies owe to the receiving cells of the devices that `c` talks to. -/
abbrev dueS (c : Dev nD) (n : ℕ) : CellTallies nD τ sig ℕ := due (fun k => Talks I c k) (fun k => tallyAt (recvC k c) 5 N) n

theorem dueB_pos (c k : Dev nD) (h : c ≠ k) : dueB c k.val = dueB c (k.val + 1) + tallyAt (barC k) 4 1 := due_pos _ _ k h
theorem dueB_neg (c k : Dev nD) (h : ¬ c ≠ k) : dueB c k.val = dueB c (k.val + 1) := due_neg _ _ k h
theorem dueS_pos (c k : Dev nD) (h : Talks I c k) : dueS I c k.val = dueS I c (k.val + 1) + tallyAt (recvC k c) 5 N := due_pos _ _ k h
theorem dueS_neg (c k : Dev nD) (h : ¬ Talks I c k) : dueS I c k.val = dueS I c (k.val + 1) := due_neg _ _ k h

/-- The indices at which anything is owed or waited for: 0 the staging buffers', 1 to 3 the host collective's, 4 to 6 the
    exchange's. -/
def L (g : GSem nD τ sig) : Finset ℕ := if g.1.2 = .tc then Finset.range 8 else ∅
def lv (_ : GSem nD τ sig) (i : ℕ) : ℕ := i

theorem L_of_ne (g : GSem nD τ sig) (h : g.1.2 ≠ .tc) : L g = ∅ := if_neg h
theorem L_tc (c : Dev nD) (sm : SemLoc sig) : L ((c : Thread nD τ), sm) = Finset.range 8 := if_pos rfl

theorem dueS_at {c : Dev nD} {n : ℕ} {g : GSem nD τ sig} {i : ℕ} (h : 0 < dueS I c n g i) : g.1.2 = .tc ∧ i = 5 := by
  unfold dueS due at h
  rw [Finset.sum_apply, Finsupp.finsetSum_apply] at h
  obtain ⟨k, -, hk⟩ := Finset.exists_ne_zero_of_sum_ne_zero (Nat.pos_iff_ne_zero.1 h)
  rw [tallyAt_apply] at hk
  by_cases e : g = recvC k c ∧ i = 5
  · exact ⟨by rw [e.1], e.2⟩
  · rw [if_neg e] at hk; exact absurd rfl hk

/-- The barrier wait is below the copies that are still owed. -/
theorem mayWait_bar (c : Dev nD) : (levAts L lv : sProp 𝕄) ⊢ MayWait (c : Thread nD τ) (.reg barrier0) 4 (dueS I c 0) :=
  MayOwe.of_cut (L := L) (lev := lv) 4 (fun p hp => by rw [Finset.mem_singleton.mp hp, L_tc]; decide)
    (fun g u hg => by obtain ⟨h1, h2⟩ := dueS_at I hg; unfold L; rw [if_pos h1, h2]; decide)
    (fun p hp => by rw [Finset.mem_singleton.mp hp]; exact Nat.le_refl _)
    (fun g u hg => by obtain ⟨h1, h2⟩ := dueS_at I hg; rw [h2]; show 4 < 5; decide)

end Cert.Moe
-- ==== Proof.Steps.lean ====
/- One step of each kind of the exchange: signal, copy, wait for an arrival, read it, wait for a copy's end. Each step
   takes the state of its phase at a device number to the state at the next. -/
module

public import proofs.«01_k».proof.Proof.Protocol
public import Idealize.ShloMosaic.Lib.Tactic

@[expose] public section

noncomputable section

namespace Cert.Moe

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]

local notation "𝕄" => MT nD τ sig ℕ (Elt F) ℕ UU ℕ

/-! ## A family of devices, done up to a number -/

/-- `post` of the devices below `n`, `pre` of the others. -/
def upTo {M : Type} [URA M] (pre post : Dev nD → sProp M) (n : ℕ) : sProp M := bigSep Finset.univ fun k : Dev nD => if k.val < n then post k else pre k

section UpTo

variable {M : Type} [URA M] (pre post : Dev nD → sProp M)

theorem upTo_zero : upTo pre post 0 = bigSep Finset.univ pre := by
  unfold upTo; exact bigSep_congr fun k _ => if_neg (Nat.not_lt_zero _)
theorem upTo_end : upTo pre post 32 = bigSep Finset.univ post := by
  unfold upTo; exact bigSep_congr fun k _ => if_pos k.isLt

/-- The next device's `pre` comes out, and its `post` goes back in. -/
theorem upTo_step (k : Dev nD) : upTo pre post k.val ⊢ iprop(pre k ∗ (post k -∗ upTo pre post (k.val + 1))) := by
  unfold upTo
  rw [bigSep_univ_at _ k, bigSep_univ_at (fun i : Dev nD => if i.val < k.val + 1 then post i else pre i) k, if_neg (Nat.lt_irrefl _),
    if_pos (Nat.lt_succ_self _)]
  have e : bigSep (Finset.univ.erase k) (fun i : Dev nD => if i.val < k.val then post i else pre i)
      = bigSep (Finset.univ.erase k) (fun i : Dev nD => if i.val < k.val + 1 then post i else pre i) := by
    refine bigSep_congr fun i hi => ?_
    have hne : i.val ≠ k.val := fun h => (Finset.mem_erase.1 hi).1 (Fin.ext h)
    by_cases h : i.val < k.val
    · rw [if_pos h, if_pos (by omega)]
    · rw [if_neg h, if_neg (by omega)]
  rw [e]
  iintro ⟨Ha, Hr⟩
  isplitl [Ha]; · iexact Ha
  iintro Hb
  isplitl [Hb]; · iexact Hb
  iexact Hr

/-- A device that is done lends its `post`. -/
theorem upTo_at (k : Dev nD) (n : ℕ) (h : k.val < n) : upTo pre post n ⊢ iprop(post k ∗ (post k -∗ upTo pre post n)) := by
  unfold upTo
  rw [bigSep_univ_at _ k, if_pos h]
  iintro ⟨Ha, Hr⟩
  isplitl [Ha]; · iexact Ha
  iintro Hb
  isplitl [Hb]; · iexact Hb
  iexact Hr

/-- A device that is not done lends its `pre`. -/
theorem upTo_at_pre (k : Dev nD) (n : ℕ) (h : n ≤ k.val) : upTo pre post n ⊢ iprop(pre k ∗ (pre k -∗ upTo pre post n)) := by
  unfold upTo
  rw [bigSep_univ_at _ k, if_neg (Nat.not_lt.2 h)]
  iintro ⟨Ha, Hr⟩
  isplitl [Ha]; · iexact Ha
  iintro Hb
  isplitl [Hb]; · iexact Hb
  iexact Hr

end UpTo

variable (I : IVec S256x2 32) (pv : Dev nD → Part (F := F))

/-! ## The records that a device reads -/

/-- What device `c` knows of its dealings with device `k`. -/
def recs (κ : GSem nD τ sig → ℕ) (c k : Dev nD) : sProp 𝕄 :=
  iprop(cellInv ET (exch I pv) (κ (barC k)) (barC k) ∗ reached ET (barC k) 0
    ∗ cellInv ET (exch I pv) (κ (sendC c k)) (sendC c k) ∗ reached ET (sendC c k) 0
    ∗ cellInv ET (exch I pv) (κ (recvC c k)) (recvC c k) ∗ reached ET (recvC c k) 0
    ∗ cellInv ET (exch I pv) (κ (recvC k c)) (recvC k c))

instance recs_persistent (κ : GSem nD τ sig → ℕ) (c k : Dev nD) : BI.Persistent (recs I pv κ c k) := by unfold recs; infer_instance

/-- What device `c` knows. -/
def know (κ : GSem nD τ sig → ℕ) (c : Dev nD) : sProp 𝕄 :=
  iprop(levAts L lv ∗ bigSep Finset.univ fun k => recs I pv κ c k)

instance know_persistent (κ : GSem nD τ sig → ℕ) (c : Dev nD) : BI.Persistent (know I pv κ c) := by unfold know; infer_instance

theorem know_recs (κ : GSem nD τ sig → ℕ) (c k : Dev nD) : know I pv κ c ⊢ recs I pv κ c k := by
  unfold know
  exact BI.Entails.trans (BI.Entails.trans BI.sep_and and_elimR) (bigSep_elim (Finset.mem_univ k) (Φ := fun k => recs I pv κ c k))

/-! ## The phases -/

/-- Before a device is told that this one is ready: the token and the slot; after: the slot, unless it was lent. -/
def sigPre (c k : Dev nD) : sProp 𝕄 := iprop(dutyTok ET (barC k) 0 c ∗ slotAny c k)
def sigPost (c k : Dev nD) : sProp 𝕄 := if Talks I k c then iprop(emp) else slotAny c k

/-- Before a copy: the tokens, the lent slot and the rows; after: the claim to their return. Without a copy the rows stay. -/
def sendPre (c k : Dev nD) : sProp 𝕄 :=
  if Talks I c k then
    iprop(dutyTok ET (recvC k c) 0 c ∗ dutyTok ET (sendC c k) 0 c ∗ slotAny k c ∗ reached ET (recvC k c) 0 ∗ srcPts pv c k)
  else srcPts pv c k
def sendPost (c k : Dev nD) : sProp 𝕄 := if Talks I c k then cred (tallyAt (sendC c k) 6 N) else srcPts pv c k

/-- The rows of device `s` for device `c`. -/
def rowsOf (s c : Dev nD) : FVec F S8x256 .f32 := (srcM c).view.read (Elt F) (pv s)

/-- What a slot holds after its wait: the sender's rows, if there is a sender. -/
def slotGot (c s : Dev nD) : sProp 𝕄 :=
  iprop(∃ f : Slots (F := F), ⌜Talks I s c → (slotM s).view.read (Elt F) f = rowsOf pv s c⌝ ∗ slotPts c s f)

def recvPre (c s : Dev nD) : sProp 𝕄 :=
  iprop(atPos ET (recvC c s) 0 ∅ 0 ∗ (if Talks I s c then cred (tallyAt (recvC c s) 5 N) else slotAny c s))
def recvPost (c s : Dev nD) : sProp 𝕄 :=
  iprop(atPos ET (recvC c s) (if Talks I s c then 1 else 0) ∅ 0 ∗ slotGot I pv c s)

def donePre (c j : Dev nD) : sProp 𝕄 :=
  iprop(atPos ET (sendC c j) 0 ∅ 0 ∗ (if Talks I c j then cred (tallyAt (sendC c j) 6 N) else srcPts pv c j))
def donePost (c j : Dev nD) : sProp 𝕄 :=
  iprop(atPos ET (sendC c j) (if Talks I c j then 1 else 0) ∅ 0 ∗ srcPts pv c j)

/-- The states of the four phases. -/
def SigSt (c : Dev nD) (n : ℕ) : sProp 𝕄 :=
  iprop((∃ W, owes (c : Thread nD τ) (dueS I c 0 + dueB c n) W) ∗ upTo (sigPre c) (sigPost I c) n)
def SendSt (c : Dev nD) (n : ℕ) : sProp 𝕄 :=
  iprop((∃ W, owes (c : Thread nD τ) (dueS I c n) W) ∗ upTo (sendPre I pv c) (sendPost I pv c) n)
def RecvSt (c : Dev nD) (n : ℕ) : sProp 𝕄 :=
  iprop((∃ W, owes (c : Thread nD τ) (0 : CellTallies nD τ sig ℕ) W) ∗ upTo (recvPre I c) (recvPost I pv c) n)
def DoneSt (c : Dev nD) (n : ℕ) : sProp 𝕄 :=
  iprop((∃ W, owes (c : Thread nD τ) (0 : CellTallies nD τ sig ℕ) W) ∗ upTo (donePre I pv c) (donePost I pv c) n)

/-- A program of device `c` runs to `Q`. -/
abbrev run {A : Type} (c : Dev nD) (p : Prog (TpuEff nD τ sig (Elt F) Λ₀ .tc) A) (Q : A → sProp 𝕄) : sProp 𝕄 :=
  wp frame (wpE (defs₀ (F := F)) Variants.none (c : Thread nD τ) none) Set.univ p Q

variable {A : Type} {I pv} {κ : GSem nD τ sig → ℕ} {R : sProp (MT nD τ sig ℕ (Elt F) ℕ UU ℕ)}
  {Q : A → sProp (MT nD τ sig ℕ (Elt F) ℕ UU ℕ)}

theorem sig_step {c : Dev nD} (k : Dev nD) {cond : BitVec 1} (hc : cond = 1#1 ↔ c ≠ k) {dst : cond = 1#1 → Dev nD}
    (hd : ∀ h, dst h = k) {rest : Prog (TpuEff nD τ sig (Elt F) Λ₀ .tc) A}
    (h : iprop(know I pv κ c ∗ SigSt I c (k.val + 1) ∗ R) ⊢ run c rest Q) :
    iprop(know I pv κ c ∗ SigSt I c k.val ∗ R)
      ⊢ run c (if h : cond = 1#1 then (semSignalWord (dst h) barrier0 1#32 >>= fun _ => rest) else rest) Q := by
  by_cases hk : cond = 1#1
  · rw [dif_pos hk, hd hk]
    have hne : c ≠ k := hc.1 hk
    show _ ⊢ wp _ _ _ (.op (.semSignal ((k : Dev nD), .tc) barrier0 (1 : ℕ)) fun _ => rest) Q
    unfold SigSt
    iintro ⟨#HK, ⟨⟨%W, HO⟩, Hst⟩, HR⟩
    ihave Hk := (know_recs I pv κ c k) $$ HK
    unfold recs
    icases Hk with ⟨#HIb, #Hrb, -, -, -, #Hrr, -⟩
    ihave Hst := (upTo_step (sigPre c) (sigPost I c) k) $$ Hst
    icases Hst with ⟨Hpre, Hback⟩
    rw [dueB_pos c k hne, ← add_assoc]
    ihave Hpp : iprop(dutyTok ET (barC k) 0 c ∗ barPay I k c ∗ sigPost I c k) $$ [Hpre]
    · unfold sigPre barPay sigPost
      icases Hpre with ⟨Htok, Hslot⟩
      isplitl [Htok]; · iexact Htok
      by_cases hT : Talks I k c
      · rw [if_pos hT, if_pos hT]
        isplitl [Hslot]
        · isplitl [Hslot]; · iexact Hslot
          iexact Hrr
        · iempintro
      · rw [if_neg hT, if_neg hT]
        isplitr; · iempintro
        iexact Hslot
    icases Hpp with ⟨Htok, Hpay, Hpost⟩
    iapply (Rounds.wp_signal Variants.none ET (exch I pv) (c : Thread nD τ) none (dst := (k : Thread nD τ)) (sem := barrier0) (r := 0) (d := c)
      (κ := κ (barC k)) (by rw [duties_bar]; exact Finset.mem_filter.2 ⟨Finset.mem_univ _, hne⟩) (amount_bar I pv k c) 4 _ rfl)
      $$ [HO Htok Hpay]
    · isplitr; · iexact HIb
      isplitl [HO]; · iexact HO
      isplitl [Htok]; · iexact Htok
      isplitl [Hpay]; · rw [payload_bar]; iexact Hpay
      iexact Hrb
    iintro HO
    iapply h
    unfold SigSt
    isplitr; · iexact HK
    isplitr [HR]
    · isplitl [HO]; · iexists W; iexact HO
      iapply Hback; iexact Hpost
    · iexact HR
  · rw [dif_neg hk]
    have hne : ¬ c ≠ k := fun x => hk (hc.2 x)
    refine BIBase.Entails.trans ?_ h
    unfold SigSt
    rw [dueB_neg c k hne]
    iintro ⟨#HK, ⟨HO, Hst⟩, HR⟩
    isplitr; · iexact HK
    isplitr [HR]
    · isplitl [HO]; · iexact HO
      ihave Hst := (upTo_step (sigPre c) (sigPost I c) k) $$ Hst
      icases Hst with ⟨Hpre, Hback⟩
      iapply Hback
      unfold sigPre sigPost
      rw [if_neg (fun hT => hT.1 (not_not.1 hne).symm)]
      icases Hpre with ⟨-, Hs⟩
      iexact Hs
    · iexact HR

/-- The semaphore of device `j` in the array at `base`. -/
theorem send_sem (j : Dev nD) {o : Fin 1 → Nat} (ho : o = ![j.val]) (hi : ∀ a, o a + S1.size a ≤ S32.size a) :
    ((cc0_scratch2.slice (Rect.unit (s := S32) o S1.size hi)).squeeze S_ squeezes_S1_S_).sem = sendS j := by
  subst ho; revert j; decide
theorem recv_sem (j : Dev nD) {o : Fin 1 → Nat} (ho : o = ![j.val]) (hi : ∀ a, o a + S1.size a ≤ S32.size a) :
    ((cc0_scratch3.slice (Rect.unit (s := S32) o S1.size hi)).squeeze S_ squeezes_S1_S_).sem = recvS j := by
  subst ho; revert j; decide

end Cert.Moe
-- ==== Proof.Steps2.lean ====
/- The steps of the exchange after the signals: the wait for the other devices, a copy, the wait for an arrival, the
   reading of a slot and of the own rows, the wait for a copy's end. -/
module

public import proofs.«01_k».proof.Proof.Steps
public import Idealize.ShloMosaic.Lib.Tactic

@[expose] public section

noncomputable section

namespace Cert.Moe

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]

local notation "𝕄" => MT nD τ sig ℕ (Elt F) ℕ UU ℕ

variable {A : Type} {I : IVec S256x2 32} {pv : Dev nD → Part (F := F)} {κ : GSem nD τ sig → ℕ}
  {R : sProp (MT nD τ sig ℕ (Elt F) ℕ UU ℕ)} {Q : A → sProp (MT nD τ sig ℕ (Elt F) ℕ UU ℕ)}

/-- The tokens that device `c` pays its copies with. -/
def copyToks (c k : Dev nD) : sProp 𝕄 := iprop(dutyTok ET (recvC k c) 0 c ∗ dutyTok ET (sendC c k) 0 c)

/-- What the others pay the barrier with is the lent slots. -/
theorem lent (c : Dev nD) :
    iprop(bigSep ((exch I pv).duties (barC c) 0 \ ∅) (fun d => (exch I pv).payload (barC c) 0 d)
      ∗ bigSep Finset.univ (copyToks (F := F) c) ∗ bigSep Finset.univ (srcPts pv c))
      ⊢ bigSep Finset.univ (sendPre I pv c) := by
  rw [Finset.sdiff_empty, duties_bar, bigSep_filter, ← bigSep_sep', ← bigSep_sep']
  refine bigSep_mono fun k _ => ?_
  unfold sendPre copyToks
  rw [payload_bar]
  by_cases h : Talks I c k
  · rw [if_pos h.1.symm, if_pos h]
    unfold barPay
    rw [if_pos h]
    change BIBase.Entails (PROP := sProp 𝕄) _ _
    iintro ⟨⟨Hs, Hr⟩, ⟨Ht, Ht'⟩, Hp⟩
    isplitl [Ht]; · iexact Ht
    isplitl [Ht']; · iexact Ht'
    isplitl [Hs]; · iexact Hs
    isplitl [Hr]; · iexact Hr
    iexact Hp
  · rw [if_neg h]
    change BIBase.Entails (PROP := sProp 𝕄) _ _
    iintro ⟨-, -, Hp⟩
    iexact Hp

theorem bar_step {c : Dev nD} {rest : Prog (TpuEff nD τ sig (Elt F) Λ₀ .tc) A}
    (h : iprop(know I pv κ c ∗ SendSt I pv c 0 ∗ bigSep Finset.univ (sigPost I c) ∗ atPos ET (barC c) 1 ∅ 0 ∗ R) ⊢ run c rest Q) :
    iprop(know I pv κ c ∗ SigSt I c 32 ∗ cred (tallyAt (barC c) 4 31) ∗ atPos ET (barC c) 0 ∅ 0
        ∗ bigSep Finset.univ (copyToks (F := F) c) ∗ bigSep Finset.univ (srcPts pv c) ∗ R)
      ⊢ run c (semWaitWord barrier0 31#32 >>= fun _ => rest) Q := by
  show _ ⊢ wp _ _ _ (.op (.semWait barrier0 (31 : ℕ)) fun _ => rest) Q
  unfold SigSt
  rw [upTo_end, show dueB c 32 = 0 from due_end _ _, add_zero]
  iintro ⟨#HK, ⟨⟨%W, HO⟩, Hst⟩, Hc, Hat, Ht, Hs, HR⟩
  ihave Hk := (know_recs I pv κ c c) $$ HK
  unfold recs
  icases Hk with ⟨#HIb, -⟩
  ihave Hlev : (levAts L lv : sProp 𝕄) $$ []
  · unfold know; icases HK with ⟨#Hl, -⟩; iexact Hl
  iapply (Rounds.wp_wait_rest_token Variants.none ET (exch I pv) (c : Thread nD τ) none (κ := κ (barC c))
      (wpE_semWait_eq Variants.none (c : Thread nD τ) none Set.univ) (Set.mem_univ _) 4 (O := dueS I c 0) (W := W) (R := 0) (m := 0) (T := ∅)
      ((Nat.zero_add 31).trans (expect_bar I pv c).symm)) $$ [Hc HO Hat Hlev]
  · isplitr; · iexact HIb
    isplitl [Hc]; · iexact Hc
    isplitl [HO]; · iexact HO
    isplitl [Hlev]; · iapply (mayWait_bar I c); iexact Hlev
    iexact Hat
  iintro ⟨HO, Hat, -, Hpay⟩
  iapply h
  unfold SendSt
  rw [upTo_zero]
  isplitr; · iexact HK
  isplitl [HO Hpay Ht Hs]
  · isplitl [HO]; · iexists _; iexact HO
    iapply (lent (I := I) (pv := pv) c)
    isplitl [Hpay]; · iexact Hpay
    isplitl [Ht]; · iexact Ht
    iexact Hs
  isplitl [Hst]; · iexact Hst
  isplitl [Hat]; · iexact Hat
  iexact HR

theorem send_step {c : Dev nD} (k : Dev nD) {cond : BitVec 1} (hc : cond = 1#1 ↔ Talks I c k)
    {s1 s2 : DmaSem sig} (e1 : s1 = sendS k) (e2 : s2 = recvS c) {o3 : Fin 3 → Nat} (h3 : o3 = ![c.val, 0, 0])
    {o4 : Fin 2 → Nat} (h4 : o4 = ![8 * k.val, 0]) {dst : Dev nD} (hd : dst = k)
    {i3 : ∀ a, o3 a + S1x8x256.size a ≤ S32x8x256.size a} {i4 : ∀ a, o4 a + S8x256.size a ≤ S256x256.size a}
    {w4 w1 w2 w3} {rest : Prog (TpuEff nD τ sig (Elt F) Λ₀ .tc) A}
    (h : iprop(know I pv κ c ∗ SendSt I pv c (k.val + 1) ∗ R) ⊢ run c rest Q) :
    iprop(know I pv κ c ∗ SendSt I pv c k.val ∗ R)
      ⊢ run c (if cond = 1#1 then
          (Prog.lift (TpuEff.enqueueDma ((Memref.whole cc0_scratch0).slice (Rect.unit (s := S256x256) o4 S8x256.size i4) (fun _ => rfl))
            (.remote (Dev.tc dst) (((Memref.whole cc0_scratch1).slice (Rect.unit (s := S32x8x256) o3 S1x8x256.size i3) (fun _ => rfl)).squeeze
                S8x256 squeezes_S1x8x256_S8x256)
              (.dma s1) w4)
            (.dma s2) w1 w2 w3) >>= fun _ => rest)
        else rest) Q := by
  subst h3 h4 hd e1 e2
  by_cases hk : cond = 1#1
  · rw [if_pos hk]
    have hT : Talks I c dst := hc.1 hk
    show _ ⊢ wp _ _ _ (.op (.enqueueDma (srcM dst) (.remote (Dev.tc dst) (slotM c) (.dma (sendS dst)) w4) (.dma (recvS c)) w1 w2 w3) fun _ => rest) Q
    unfold SendSt
    rw [dueS_pos I c dst hT]
    iintro ⟨#HK, ⟨⟨%W, HO⟩, Hst⟩, HR⟩
    ihave Hk := (know_recs I pv κ c dst) $$ HK
    unfold recs
    icases Hk with ⟨-, -, #HIs, #Hrs, -, -, #HIr⟩
    ihave Hst := (upTo_step (sendPre I pv c) (sendPost I pv c) dst) $$ Hst
    icases Hst with ⟨Hpre, Hback⟩
    ihave Hpre := (Entails.of_eq (show sendPre I pv c dst = iprop(dutyTok ET (recvC dst c) 0 c ∗ dutyTok ET (sendC c dst) 0 c
      ∗ slotAny dst c ∗ reached ET (recvC dst c) 0 ∗ srcPts pv c dst) from if_pos hT)) $$ Hpre
    icases Hpre with ⟨Ht, Ht', ⟨%fd, Hs⟩, #Hrr, Hp⟩
    iapply (Rounds.wp_send_pointsTo Variants.none ET (exch I pv) (c : Thread nD τ) none (c' := (dst : Thread nD τ)) (src := srcM dst) (dst := slotM c)
        (sS := .dma (sendS dst)) (sem := .dma (recvS c)) (q := fullShare) (fs := pv c) (κ₁ := κ (sendC c dst)) (κ₂ := κ (recvC dst c))
        (r₁ := 0) (r₂ := 0) (d₁ := c) (d₂ := c) (fd := fd)
        (by rw [duties_send I pv c dst hT]; exact Finset.mem_singleton_self _) (by rw [duties_recv I pv dst c hT]; exact Finset.mem_singleton_self _)
        5 6 N rfl (amount_dma I pv c _ c) (amount_dma I pv dst _ c) _ rfl (W := W)
        (by rw [payload_send]; exact BI.Entails.refl _)
        (by rw [payload_recv]; unfold recvPay landed; iintro H; iexists fd; iexact H)) $$ [Hp Hs HO Ht Ht']
    · isplitr; · iexact HIs
      isplitr; · iexact HIr
      isplitl [Hp]; · iexact Hp
      isplitl [Hs]; · iexact Hs
      isplitl [HO]; · iexact HO
      isplitl [Ht']; · iexact Ht'
      isplitr; · iexact Hrs
      isplitl [Ht]; · iexact Ht
      iexact Hrr
    iintro ⟨Hc, HO⟩
    iapply h
    unfold SendSt
    isplitr; · iexact HK
    isplitr [HR]
    · isplitl [HO]; · iexists W; iexact HO
      iapply Hback
      iapply (Entails.of_eq (show cred (tallyAt (sendC c dst) 6 N) = sendPost I pv c dst from (if_pos hT).symm))
      iexact Hc
    · iexact HR
  · rw [if_neg hk]
    have hT : ¬ Talks I c dst := fun x => hk (hc.2 x)
    refine BIBase.Entails.trans ?_ h
    unfold SendSt
    rw [dueS_neg I c dst hT]
    iintro ⟨#HK, ⟨HO, Hst⟩, HR⟩
    isplitr; · iexact HK
    isplitr [HR]
    · isplitl [HO]; · iexact HO
      ihave Hst := (upTo_step (sendPre I pv c) (sendPost I pv c) dst) $$ Hst
      icases Hst with ⟨Hpre, Hback⟩
      iapply Hback
      iapply (Entails.of_eq (show sendPre I pv c dst = sendPost I pv c dst from (if_neg hT).trans (if_neg hT).symm))
      iexact Hpre
    · iexact HR

theorem recv_step {c : Dev nD} (s : Dev nD) {cond : BitVec 1} (hc : cond = 1#1 ↔ Talks I s c)
    {s1 : DmaSem sig} (e1 : s1 = recvS s)
    {sh sh' : Shape} {e e' : EltTy} {src : Memref sig .tc .vmem sh e} {dst : Memref sig .tc .vmem sh' e'} {w1 w2} (hcr : dst.view.dmaCredit = N)
    {rest : Prog (TpuEff nD τ sig (Elt F) Λ₀ .tc) A}
    (h : iprop(know I pv κ c ∗ RecvSt I pv c (s.val + 1) ∗ R) ⊢ run c rest Q) :
    iprop(know I pv κ c ∗ RecvSt I pv c s.val ∗ R)
      ⊢ run c (if cond = 1#1 then
          (Prog.lift (TpuEff.waitDma2 s1 src dst w1 w2) >>= fun _ => rest)
        else rest) Q := by
  subst e1
  by_cases hk : cond = 1#1
  · rw [if_pos hk]
    have hT : Talks I s c := hc.1 hk
    show _ ⊢ wp _ _ _ (.op (.waitDma2 (recvS s) src dst w1 w2) fun _ => rest) Q
    unfold RecvSt
    iintro ⟨#HK, ⟨⟨%W, HO⟩, Hst⟩, HR⟩
    ihave Hk := (know_recs I pv κ c s) $$ HK
    unfold recs
    icases Hk with ⟨-, -, -, -, #HIr, -⟩
    ihave Hst := (upTo_step (recvPre I c) (recvPost I pv c) s) $$ Hst
    icases Hst with ⟨Hpre, Hback⟩
    ihave Hpre := (Entails.of_eq (show recvPre I c s = iprop(atPos ET (recvC c s) 0 ∅ 0 ∗ cred (tallyAt (recvC c s) 5 N)) from by
      unfold recvPre; rw [if_pos hT])) $$ Hpre
    icases Hpre with ⟨Hat, Hc⟩
    iapply (Rounds.wp_wait_rest_token Variants.none ET (exch I pv) (c : Thread nD τ) none (κ := κ (recvC c s)) (k' := N)
        (fun K => (wpE_waitDma2_eq (src := src) (dst := dst) Variants.none (c : Thread nD τ) none Set.univ K).trans (by rw [hcr]))
        (Set.mem_univ _) 5 (O := 0) (W := W) (R := 0) (m := 0) (T := ∅)
        ((Nat.zero_add _).trans (expect_recv I pv c s hT).symm)) $$ [Hc HO Hat]
    · isplitr; · iexact HIr
      isplitl [Hc]; · iexact Hc
      isplitl [HO]; · iexact HO
      isplitr; · rw [MayWait_zero]; iempintro
      iexact Hat
    iintro ⟨HO, Hat, -, Hpay⟩
    ihave Hpay := (Entails.of_eq (rest_recv I pv c s hT)) $$ Hpay
    iapply h
    unfold RecvSt
    isplitr; · iexact HK
    isplitr [HR]
    · isplitl [HO]; · iexists _; iexact HO
      iapply Hback
      unfold recvPost slotGot recvPay
      rw [if_pos hT]
      isplitl [Hat]; · iexact Hat
      icases Hpay with ⟨%fd, Hs⟩
      iexists (landed pv c s fd)
      isplitr
      · ipureintro; intro _; exact View.read_write_univ _ _
      iexact Hs
    · iexact HR
  · rw [if_neg hk]
    have hT : ¬ Talks I s c := fun x => hk (hc.2 x)
    refine BIBase.Entails.trans ?_ h
    unfold RecvSt
    iintro ⟨#HK, ⟨HO, Hst⟩, HR⟩
    isplitr; · iexact HK
    isplitr [HR]
    · isplitl [HO]; · iexact HO
      ihave Hst := (upTo_step (recvPre I c) (recvPost I pv c) s) $$ Hst
      icases Hst with ⟨Hpre, Hback⟩
      iapply Hback
      unfold recvPre recvPost slotGot
      rw [if_neg hT, if_neg hT]
      icases Hpre with ⟨Hat, ⟨%f, Hs⟩⟩
      isplitl [Hat]; · iexact Hat
      iexists f
      isplitr
      · ipureintro; intro x; exact absurd x hT
      iexact Hs
    · iexact HR

theorem done_step {c : Dev nD} (j : Dev nD) {cond : BitVec 1} (hc : cond = 1#1 ↔ Talks I c j)
    {s1 : DmaSem sig} (e1 : s1 = sendS j)
    {sh sh' : Shape} {e e' : EltTy} {src : Memref sig .tc .vmem sh e} {dst : Memref sig .tc .vmem sh' e'} {w1 w2} (hcr : dst.view.dmaCredit = N)
    {rest : Prog (TpuEff nD τ sig (Elt F) Λ₀ .tc) A}
    (h : iprop(know I pv κ c ∗ DoneSt I pv c (j.val + 1) ∗ R) ⊢ run c rest Q) :
    iprop(know I pv κ c ∗ DoneSt I pv c j.val ∗ R)
      ⊢ run c (if cond = 1#1 then
          (Prog.lift (TpuEff.waitDma2 s1 src dst w1 w2) >>= fun _ => rest)
        else rest) Q := by
  subst e1
  by_cases hk : cond = 1#1
  · rw [if_pos hk]
    have hT : Talks I c j := hc.1 hk
    show _ ⊢ wp _ _ _ (.op (.waitDma2 (sendS j) src dst w1 w2) fun _ => rest) Q
    unfold DoneSt
    iintro ⟨#HK, ⟨⟨%W, HO⟩, Hst⟩, HR⟩
    ihave Hk := (know_recs I pv κ c j) $$ HK
    unfold recs
    icases Hk with ⟨-, -, #HIs, -⟩
    ihave Hst := (upTo_step (donePre I pv c) (donePost I pv c) j) $$ Hst
    icases Hst with ⟨Hpre, Hback⟩
    ihave Hpre := (Entails.of_eq (show donePre I pv c j = iprop(atPos ET (sendC c j) 0 ∅ 0 ∗ cred (tallyAt (sendC c j) 6 N)) from by
      unfold donePre; rw [if_pos hT])) $$ Hpre
    icases Hpre with ⟨Hat, Hc⟩
    iapply (Rounds.wp_wait_rest_token Variants.none ET (exch I pv) (c : Thread nD τ) none (κ := κ (sendC c j)) (k' := N)
        (fun K => (wpE_waitDma2_eq (src := src) (dst := dst) Variants.none (c : Thread nD τ) none Set.univ K).trans (by rw [hcr]))
        (Set.mem_univ _) 6 (O := 0) (W := W) (R := 0) (m := 0) (T := ∅)
        ((Nat.zero_add _).trans (expect_send I pv c j hT).symm)) $$ [Hc HO Hat]
    · isplitr; · iexact HIs
      isplitl [Hc]; · iexact Hc
      isplitl [HO]; · iexact HO
      isplitr; · rw [MayWait_zero]; iempintro
      iexact Hat
    iintro ⟨HO, Hat, -, Hpay⟩
    ihave Hpay := (Entails.of_eq (rest_send I pv c j hT)) $$ Hpay
    iapply h
    unfold DoneSt
    isplitr; · iexact HK
    isplitr [HR]
    · isplitl [HO]; · iexists _; iexact HO
      iapply Hback
      unfold donePost sendPay
      rw [if_pos hT]
      isplitl [Hat]; · iexact Hat
      iexact Hpay
    · iexact HR
  · rw [if_neg hk]
    have hT : ¬ Talks I c j := fun x => hk (hc.2 x)
    refine BIBase.Entails.trans ?_ h
    unfold DoneSt
    iintro ⟨#HK, ⟨HO, Hst⟩, HR⟩
    isplitr; · iexact HK
    isplitr [HR]
    · isplitl [HO]; · iexact HO
      ihave Hst := (upTo_step (donePre I pv c) (donePost I pv c) j) $$ Hst
      icases Hst with ⟨Hpre, Hback⟩
      iapply Hback
      unfold donePre donePost
      rw [if_neg hT, if_neg hT]
      iexact Hpre
    · iexact HR

/-- Reading a slot whose wait is over gives the sender's rows, if there is a sender. -/
theorem load_step {c : Dev nD} (s : Dev nD) {n : ℕ} (hn : s.val < n) {o : Fin 3 → Nat} (ho : o = ![s.val, 0, 0])
    {hi : ∀ a, o a + S1x8x256.size a ≤ S32x8x256.size a} {hl}
    {rest : Vec F S1x8x256 .f32 → Prog (TpuEff nD τ sig (Elt F) Λ₀ .tc) A}
    (h : ∀ v : Vec F S1x8x256 .f32, (Talks I s c → shapeCast S8x256 v shapeCasts_S1x8x256_S8x256 = rowsOf pv s c) →
      iprop(know I pv κ c ∗ RecvSt I pv c n ∗ R) ⊢ run c (rest v) Q) :
    iprop(know I pv κ c ∗ RecvSt I pv c n ∗ R)
      ⊢ run c (Prog.lift (TpuEff.load (Memref.whole cc0_scratch1) (Rect.unit (s := S32x8x256) o S1x8x256.size hi).toLoadRect hl) >>= rest) Q := by
  subst ho
  show _ ⊢ wp _ _ _ (.op (.load (Memref.whole cc0_scratch1) (slotR s).toLoadRect hl) rest) Q
  unfold RecvSt
  iintro ⟨#HK, ⟨HO, Hst⟩, HR⟩
  ihave Hst := (upTo_at (recvPre I c) (recvPost I pv c) s n hn) $$ Hst
  icases Hst with ⟨Hpost, Hback⟩
  unfold recvPost slotGot
  icases Hpost with ⟨Hat, ⟨%f, %hf, Hs⟩⟩
  iapply (wp_load_rect (defs := defs₀ (F := F)) Variants.none (c : Thread nD τ) none Set.univ (m := Memref.whole cc0_scratch1) (r := slotR s) (S := (slotM s).view.set)
    (by rw [slot_set, View.set_slice_whole])) $$ [Hs]
  · iexact Hs
  iintro Hs
  iapply (h (((Memref.whole cc0_scratch1).access (slotR s)).read (Elt F) f) hf)
  unfold RecvSt
  isplitr; · iexact HK
  isplitr [HR]
  · isplitl [HO]; · iexact HO
    iapply Hback
    isplitl [Hat]; · iexact Hat
    iexists f
    isplitr; · ipureintro; exact hf
    iexact Hs
  · iexact HR

/-- Reading the own rows while the copies run. -/
theorem own_step {c : Dev nD} {o : Fin 2 → Nat} (ho : o = ![8 * c.val, 0])
    {hi : ∀ a, o a + S8x256.size a ≤ S256x256.size a} {hl}
    {rest : Vec F S8x256 .f32 → Prog (TpuEff nD τ sig (Elt F) Λ₀ .tc) A}
    (h : iprop(know I pv κ c ∗ SendSt I pv c 32 ∗ R) ⊢ run c (rest (rowsOf pv c c)) Q) :
    iprop(know I pv κ c ∗ SendSt I pv c 32 ∗ R)
      ⊢ run c (Prog.lift (TpuEff.load (Memref.whole cc0_scratch0) (Rect.unit (s := S256x256) o S8x256.size hi).toLoadRect hl) >>= rest) Q := by
  subst ho
  show _ ⊢ wp _ _ _ (.op (.load (Memref.whole cc0_scratch0) (srcR c).toLoadRect hl) rest) Q
  unfold SendSt
  iintro ⟨#HK, ⟨HO, Hst⟩, HR⟩
  ihave Hst := (upTo_at (sendPre I pv c) (sendPost I pv c) c 32 c.isLt) $$ Hst
  icases Hst with ⟨Hpost, Hback⟩
  have e : sendPost I pv c c = srcPts pv c c := if_neg fun x => x.1 rfl
  ihave Hpost := (Entails.of_eq e) $$ Hpost
  iapply (wp_load_rect (defs := defs₀ (F := F)) Variants.none (c : Thread nD τ) none Set.univ (m := Memref.whole cc0_scratch0) (r := srcR c) (S := (srcM c).view.set)
    (Finset.Subset.refl _)) $$ [Hpost]
  · iexact Hpost
  iintro Hs
  iapply h
  unfold SendSt
  isplitr; · iexact HK
  isplitr [HR]
  · isplitl [HO]; · iexact HO
    iapply Hback; iapply (Entails.of_eq e.symm); iexact Hs
  · iexact HR

end Cert.Moe
-- ==== Proof.Bits.lean ====
/- The bits under which the kernel talks, and the sum that it keeps of what arrives, in the terms of the exchange. -/
module

public import proofs.«01_k».proof.Proof.Steps2

@[expose] public section

noncomputable section

namespace Cert.Moe

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]

local notation "𝕄" => MT nD τ sig ℕ (Elt F) ℕ UU ℕ

variable {A : Type} {I : IVec S256x2 32} {pv : Dev nD → Part (F := F)} {κ : GSem nD τ sig → ℕ}
  {Q : A → sProp (MT nD τ sig ℕ (Elt F) ℕ UU ℕ)}

/-- A program that returns is done. -/
theorem run_ret {c : Dev nD} {a : A} {P : sProp (MT nD τ sig ℕ (Elt F) ℕ UU ℕ)} (h : P ⊢ Q a) : P ⊢ run c (pure a) Q :=
  BIBase.Entails.trans h (by
    change _ ⊢ wp _ _ _ (.ret a) Q
    rw [wp_ret]
    iintro H
    imodintro
    iexact H)

/-- A program runs its first part and then the rest. -/
theorem run_bind {B : Type} {c : Dev nD} {p : Prog (TpuEff nD τ sig (Elt F) Λ₀ .tc) B} {k : B → Prog (TpuEff nD τ sig (Elt F) Λ₀ .tc) A}
    {P : sProp (MT nD τ sig ℕ (Elt F) ℕ UU ℕ)} (h : P ⊢ run c p fun b => run c (k b) Q) : P ⊢ run c (p >>= k) Q :=
  BIBase.Entails.trans h (Entails.of_eq (wp_bind ..).symm)

/-- The device reads its own number. -/
theorem dev_step {c : Dev nD} {rest : Dev nD → Prog (TpuEff nD τ sig (Elt F) Λ₀ .tc) A}
    {P : sProp (MT nD τ sig ℕ (Elt F) ℕ UU ℕ)} (h : P ⊢ run c (rest c) Q) : P ⊢ run c (Prog.lift TpuEff.deviceId >>= rest) Q := by
  show _ ⊢ wp _ _ _ (.op .deviceId rest) Q
  rw [wp_deviceId]
  exact h

/-- The barrier of the kernel's collective. -/
theorem bar_sem : (SemArray.scalar (sig.barrier 0 rfl) : Sems sig S_).sem = barrier0 := rfl

/-- A signal, and the wait for the signals, at the semaphore as the program names it. -/
theorem sig_at {I : IVec S256x2 32} {pv : Dev nD → Part (F := F)} {κ : GSem nD τ sig → ℕ} {R : sProp (MT nD τ sig ℕ (Elt F) ℕ UU ℕ)}
    {c : Dev nD} (k : Dev nD) {b : Sem sig} (hb : b = barrier0) {cond : BitVec 1} (hc : cond = 1#1 ↔ c ≠ k) {dst : cond = 1#1 → Dev nD}
    (hd : ∀ h, dst h = k) {rest : Prog (TpuEff nD τ sig (Elt F) Λ₀ .tc) A}
    (h : iprop(know I pv κ c ∗ SigSt I c (k.val + 1) ∗ R) ⊢ run c rest Q) :
    iprop(know I pv κ c ∗ SigSt I c k.val ∗ R)
      ⊢ run c (if h : cond = 1#1 then (semSignalWord (dst h) b 1#32 >>= fun _ => rest) else rest) Q := by
  subst hb
  exact sig_step k hc hd h
theorem bar_at {I : IVec S256x2 32} {pv : Dev nD → Part (F := F)} {κ : GSem nD τ sig → ℕ} {R : sProp (MT nD τ sig ℕ (Elt F) ℕ UU ℕ)}
    {c : Dev nD} {b : Sem sig} (hb : b = barrier0) {rest : Prog (TpuEff nD τ sig (Elt F) Λ₀ .tc) A}
    (h : iprop(know I pv κ c ∗ SendSt I pv c 0 ∗ bigSep Finset.univ (sigPost I c) ∗ atPos ET (barC c) 1 ∅ 0 ∗ R) ⊢ run c rest Q) :
    iprop(know I pv κ c ∗ SigSt I c 32 ∗ cred (tallyAt (barC c) 4 31) ∗ atPos ET (barC c) 0 ∅ 0
        ∗ bigSep Finset.univ (copyToks (F := F) c) ∗ bigSep Finset.univ (srcPts pv c) ∗ R)
      ⊢ run c (semWaitWord b 31#32 >>= fun _ => rest) Q := by
  subst hb
  exact bar_step h

theorem col_slices : ∀ j : Dev nD, S32x1.Slices ![j.val, 0] S1x1 := by decide
theorem row_slices : ∀ s : Dev nD, S1x32.Slices ![0, s.val] S1x1 := by decide

/-- One entry of a column, and of a row. -/
theorem col_at (v : IVec S32x1 32) (j : Dev nD) {hp} :
    extractAt ![0, 0] (extractStridedSlice S1x1 ![j.val, 0] v (col_slices j)) hp = v (ix2 j 0) :=
  congrArg v (funext fun a => by
    refine Fin.cases ?_ (fun b => ?_) a
    · exact Fin.ext (Nat.add_zero _)
    · refine Fin.cases ?_ (fun e => e.elim0) b
      exact Fin.ext rfl)
theorem row_at (v : IVec S1x32 32) (s : Dev nD) {hp} :
    extractAt ![0, 0] (extractStridedSlice S1x1 ![0, s.val] v (row_slices s)) hp = v (ix2 0 s) :=
  congrArg v (funext fun a => by
    refine Fin.cases ?_ (fun b => ?_) a
    · exact Fin.ext rfl
    · refine Fin.cases ?_ (fun e => e.elim0) b
      exact Fin.ext (Nat.add_zero _))

theorem andi_iff : ∀ p b : BitVec 1, Scalar.andi p b = 1#1 ↔ p = 1#1 ∧ b = 1#1 := by decide

/-- The comparison of two device numbers. -/
theorem ne_dev (c k : Dev nD) : Scalar.cmpi .ne (BitVec.ofNat 32 c.val) (BitVec.ofNat 32 k.val) = 1#1 ↔ c ≠ k := by
  rw [← ofNat_ne]
  show BitVec.ofBool (BitVec.ofNat 32 c.val != BitVec.ofNat 32 k.val) = 1#1 ↔ _
  by_cases h : BitVec.ofNat 32 c.val = BitVec.ofNat 32 k.val
  · simp [h]
  · simp [h, bne, beq_eq_false_iff_ne.2 h]

section Bits

variable {c : Dev nD} {v2 : BitVec 32} (hv : v2 = BitVec.ofNat 32 c.val)

include hv

/-- Device `c` sends to device `k`: another device, and needed. -/
theorem send_talk (k : Dev nD) {a b : BitVec 1} (ha : a = Scalar.cmpi .ne v2 (BitVec.ofNat 32 k.val)) (hb : b = 1#1 ↔ Needs I c k) :
    Scalar.andi a b = 1#1 ↔ Talks I c k := by
  subst ha hv
  rw [andi_iff, hb, ne_dev]
  exact Iff.rfl
/-- Device `s` sends to device `c`. -/
theorem recv_talk (s : Dev nD) {a b : BitVec 1} (ha : a = Scalar.cmpi .ne v2 (BitVec.ofNat 32 s.val)) (hb : b = 1#1 ↔ Needs I s c) :
    Scalar.andi a b = 1#1 ↔ Talks I s c := by
  subst ha hv
  rw [andi_iff, hb, ne_dev]
  exact and_congr ne_comm Iff.rfl

variable {v234 : IVec S32x1 32} (hs : ∀ j : Dev nD, Scalar.cmpi .sgt (v234 (ix2 j 0)) 0#32 = 1#1 ↔ Needs I c j)
variable {v273 : IVec S1x32 32} (hr : ∀ s : Dev nD, Scalar.cmpi .sgt (v273 (ix2 0 s)) 0#32 = 1#1 ↔ Needs I s c)

omit hv in
include hs in
theorem send_need (k : Dev nD) {w : BitVec 32} (hw : w = v234 (ix2 k 0)) : Scalar.cmpi .sgt w 0#32 = 1#1 ↔ Needs I c k := by
  subst hw; exact hs k
omit hv in
include hr in
theorem recv_need (s : Dev nD) {w : BitVec 32} (hw : w = v273 (ix2 0 s)) : Scalar.cmpi .sgt w 0#32 = 1#1 ↔ Needs I s c := by
  subst hw; exact hr s

include hs in
/-- The bit of a copy to device `k`, as a condition, and as a mask. -/
theorem send_bit (k : Dev nD) {hp} :
    Scalar.andi (Scalar.cmpi .ne v2 (BitVec.ofNat 32 k.val))
      (Scalar.cmpi .sgt (extractAt ![0, 0] (extractStridedSlice S1x1 ![k.val, 0] v234 (col_slices k)) hp) 0#32) = 1#1 ↔ Talks I c k :=
  send_talk hv k rfl (send_need hs k (col_at v234 k))
include hr in
theorem recv_bit (s : Dev nD) {hp} :
    Scalar.andi (Scalar.cmpi .ne v2 (BitVec.ofNat 32 s.val))
      (Scalar.cmpi .sgt (extractAt ![0, 0] (extractStridedSlice S1x1 ![0, s.val] v273 (row_slices s)) hp) 0#32) = 1#1 ↔ Talks I s c :=
  recv_talk hv s rfl (recv_need hr s (row_at v273 s))

end Bits

/-! ## The sum -/

variable (I pv)

/-- What device `s` adds to the rows of device `c`. -/
def addend (c s : Dev nD) : FVec F S8x256 .f32 := if Talks I s c then rowsOf pv s c else k0_pay56 (F := F)

/-- The own rows and what the first `n` devices add. -/
def acc (c : Dev nD) : ℕ → FVec F S8x256 .f32
  | 0 => rowsOf pv c c
  | n + 1 => addf (acc c n) (addend I pv c (devAt n))

variable {I pv}

theorem acc_step {c : Dev nD} (s : Dev nD) {a w : FVec F S8x256 .f32} (ha : a = acc I pv c s.val) (hw : w = addend I pv c s) :
    addf a w = acc I pv c (s.val + 1) := by
  subst ha hw
  show _ = addf (acc I pv c s.val) (addend I pv c (devAt s.val))
  rw [devAt_val]

/-- The masked rows that the kernel adds. -/
theorem sel_eq {c : Dev nD} (s : Dev nD) {b : BitVec 1} (hb : b = 1#1 ↔ Talks I s c) {v : Vec F S1x8x256 .f32}
    (hv : Talks I s c → shapeCast S8x256 v shapeCasts_S1x8x256_S8x256 = rowsOf pv s c) :
    Scalar.select b (shapeCast S8x256 v shapeCasts_S1x8x256_S8x256) (k0_pay56 (F := F)) = addend I pv c s := by
  unfold addend Scalar.select
  by_cases h : Talks I s c
  · rw [if_pos h, hv h]
    exact if_pos (hb.2 h)
  · rw [if_neg h]
    exact if_neg fun x => h (hb.1 x)

end Cert.Moe
-- ==== Proof.Front.lean ====
/- The first part of the body: from the staged arrays to the device's part of the sum, and the numbers of rows that say which
   devices talk. -/
module

public import proofs.«01_k».proof.Proof.Bits

@[expose] public section

noncomputable section

namespace Cert.Moe

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]

local notation "𝕄" => MT nD τ sig ℕ (Elt F) ℕ UU ℕ

variable {A : Type} {I : IVec S256x2 32} {pv : Dev nD → Part (F := F)} {κ : GSem nD τ sig → ℕ} {c : Dev nD}
  {R S P : sProp (MT nD τ sig ℕ (Elt F) ℕ UU ℕ)} {Q : A → sProp (MT nD τ sig ℕ (Elt F) ℕ UU ℕ)}

/-! ## The buffers cut into slots and rows -/

theorem src_disj : ∀ j ∈ (Finset.univ : Finset (Dev nD)), ∀ k ∈ (Finset.univ : Finset (Dev nD)), j ≠ k →
    Disjoint (srcR j).set (srcR k).set := by
  intro j _ k _ hne
  rw [Finset.disjoint_left]
  intro i hi hk
  rw [Rect.mem_set_unit] at hi hk
  have key : ∀ x : ℕ, (8 * j.val ≤ x ∧ x < 8 * j.val + 8) → (8 * k.val ≤ x ∧ x < 8 * k.val + 8) → j.val = k.val := by
    intro x h1 h2; omega
  exact hne (Fin.ext (key _ (hi 0) (hk 0)))

theorem src_cover : (Finset.univ : Finset (Dev nD)).biUnion (fun j => (srcR j).set) = Finset.univ := by
  ext i
  simp only [Finset.mem_biUnion, Finset.mem_univ, true_and, iff_true]
  have hi : (i 0).val < 256 := (i 0).isLt
  have hi1 : (i 1).val < 256 := (i 1).isLt
  have hb : (i 0).val / 8 < 32 := Nat.div_lt_of_lt_mul hi
  have key : ∀ x : ℕ, 8 * (x / 8) ≤ x ∧ x < 8 * (x / 8) + 8 := by intro x; omega
  refine ⟨⟨(i 0).val / 8, hb⟩, ?_⟩
  rw [Rect.mem_set_unit]
  intro a
  match a with
  | 0 => exact key _
  | 1 => exact ⟨Nat.zero_le _, hi1⟩

theorem slot_disj : ∀ j ∈ (Finset.univ : Finset (Dev nD)), ∀ k ∈ (Finset.univ : Finset (Dev nD)), j ≠ k →
    Disjoint (slotR j).set (slotR k).set := by
  intro j _ k _ hne
  rw [Finset.disjoint_left]
  intro i hi hk
  rw [Rect.mem_set_unit] at hi hk
  have key : ∀ x : ℕ, (j.val ≤ x ∧ x < j.val + 1) → (k.val ≤ x ∧ x < k.val + 1) → j.val = k.val := by
    intro x h1 h2; omega
  exact hne (Fin.ext (key _ (hi 0) (hk 0)))

theorem slot_cover : (Finset.univ : Finset (Dev nD)).biUnion (fun j => (slotR j).set) = Finset.univ := by
  ext i
  simp only [Finset.mem_biUnion, Finset.mem_univ, true_and, iff_true]
  have hi1 : (i 1).val < 8 := (i 1).isLt
  have hi2 : (i 2).val < 256 := (i 2).isLt
  refine ⟨⟨(i 0).val, (i 0).isLt⟩, ?_⟩
  rw [Rect.mem_set_unit]
  intro a
  match a with
  | 0 => exact ⟨le_refl _, Nat.lt_succ_self _⟩
  | 1 => exact ⟨Nat.zero_le _, hi1⟩
  | 2 => exact ⟨Nat.zero_le _, hi2⟩

/-- The same points-to over equal sets. -/
theorem pts_set {ℓ : Loc nD τ sig} {S T : Finset (Idx ℓ)} (h : S = T) (f : Buf (Elt F) ℓ) :
    (ℓ ↦[S]{fullShare} f : sProp 𝕄) = ℓ ↦[T]{fullShare} f := by rw [h]

/-- The buffer of the part of the sum is its rows, device by device. -/
theorem src_split (c : Dev nD) :
    (((c : Thread nD τ).loc cc0_scratch0) ↦{fullShare} pv c : sProp 𝕄) = bigSep Finset.univ (srcPts pv c) := by
  have e := pointsTo_biUnion (Ix := ℕ) (Name := ℕ) (U := UU) (Lvl := ℕ) (ℓ := (c : Thread nD τ).loc cc0_scratch0) (q := fullShare)
    (f := pv c) Finset.univ (fun j : Dev nD => (srcR j).set) src_disj
  refine (pts_set src_cover.symm _).trans (e.trans (bigSep_congr fun k _ => ?_))
  exact (pts_set (ℓ := (c : Thread nD τ).loc cc0_scratch0) (src_set k) _).symm

/-- The buffer of the slots gives each slot. -/
theorem slot_split (c : Dev nD) (f : Slots (F := F)) :
    (((c : Thread nD τ).loc cc0_scratch1) ↦{fullShare} f : sProp 𝕄) ⊢ bigSep Finset.univ (slotAny (F := F) c) := by
  have e := pointsTo_biUnion (Ix := ℕ) (Name := ℕ) (U := UU) (Lvl := ℕ) (ℓ := (c : Thread nD τ).loc cc0_scratch1) (q := fullShare)
    (f := f) Finset.univ (fun j : Dev nD => (slotR j).set) slot_disj
  refine (Entails.of_eq ((pts_set slot_cover.symm _).trans e)).trans (bigSep_mono fun k _ => ?_)
  change BIBase.Entails (PROP := sProp 𝕄) _ _
  iintro H; iexists f
  iapply (Entails.of_eq (pts_set (ℓ := (c : Thread nD τ).loc cc0_scratch1) (slot_set k) f).symm)
  iexact H

instance slots_nonempty : Nonempty (Slots (F := F)) := ⟨fun _ => Scalar.ofBits .f32 0x00000000#32⟩

/-- The slots together are the buffer again. -/
theorem slot_join (c : Dev nD) :
    bigSep Finset.univ (slotGot I pv c) ⊢ iprop(∃ f : Slots (F := F), ((c : Thread nD τ).loc cc0_scratch1) ↦{fullShare} f) := by
  have h1 : bigSep Finset.univ (slotGot I pv c)
      ⊢ bigSep Finset.univ (fun k : Dev nD => iprop(∃ f : Slots (F := F), ((c : Thread nD τ).loc cc0_scratch1) ↦[(slotR k).set]{fullShare} f)) :=
    bigSep_mono fun k _ => by
      change BIBase.Entails (PROP := sProp 𝕄) _ _
      unfold slotGot
      iintro ⟨%f, -, H⟩
      iexists f
      iapply (Entails.of_eq (pts_set (ℓ := (c : Thread nD τ).loc cc0_scratch1) (slot_set k) f))
      iexact H
  refine BIBase.Entails.trans h1 ?_
  refine BIBase.Entails.trans (bigSep_exists_pi Finset.univ _) ?_
  iintro ⟨%fs, H⟩
  ihave H := (pointsTo_biUnion_join (ℓ := (c : Thread nD τ).loc cc0_scratch1) (q := fullShare) Finset.univ
    (fun j : Dev nD => (slotR j).set) fs (fs 0) slot_disj) $$ H
  icases H with ⟨%g, -, H⟩
  iexists g
  iapply (Entails.of_eq (pts_set (ℓ := (c : Thread nD τ).loc cc0_scratch1) slot_cover g))
  iexact H

/-! ## Loads of the staged arrays -/

/-- A load of an owned buffer reads its contents. -/
theorem load_own {ms : CoreSpace} {s : Shape} {e : EltTy} {m : Memref sig .tc ms s e} {X : s.Idx → Elt F e} {r : LoadRect s} {hl : m.view.LoadsAt r}
    {rest : (r.shape.Idx → Elt F e) → Prog (TpuEff nD τ sig (Elt F) Λ₀ .tc) A}
    (hP : P ⊢ iprop(owns (c : Thread nD τ) m fullShare X ∗ (owns (c : Thread nD τ) m fullShare X -∗ P)))
    (h : P ⊢ run c (rest (fun x => X (r.idx x))) Q) :
    P ⊢ run c (Prog.lift (TpuEff.load m r hl) >>= rest) Q := by
  show _ ⊢ wp _ _ _ (.op (.load m r hl) rest) Q
  refine hP.trans ?_
  unfold owns
  iintro ⟨⟨%f, %hf, H⟩, Hback⟩
  subst hf
  iapply (wp_load (defs := defs₀ (F := F)) Variants.none (c : Thread nD τ) none Set.univ (m := m) (r := r) (S := m.view.set)
    (View.setOn_subset_set _ _ )) $$ H
  iintro H
  iapply h
  iapply Hback
  iexists f
  isplitr; · ipureintro; rfl
  iexact H

variable {X0 : Vec F S256x128 .f32} {X1 : Vec F S128x64 .f32} {X2 : Vec F S256x2 .i32} {X3 : Vec F S2x128x256 .f32}

/-- The staged arrays of device `c`. -/
def ins (c : Dev nD) (X0 : Vec F S256x128 .f32) (X1 : Vec F S128x64 .f32) (X2 : Vec F S256x2 .i32) (X3 : Vec F S2x128x256 .f32) : sProp 𝕄 :=
  iprop(owns (c : Thread nD τ) (win0_0.stage 0) fullShare X0 ∗ owns (c : Thread nD τ) (win0_1.stage 0) fullShare X1
    ∗ owns (c : Thread nD τ) (win0_2.stage 0) fullShare X2 ∗ owns (c : Thread nD τ) (win0_3.stage 0) fullShare X3)

theorem ins_0 : iprop(P ∗ S ∗ (ins c X0 X1 X2 X3 ∗ R)) ⊢ iprop(owns (c : Thread nD τ) (win0_0.stage 0) fullShare X0
    ∗ (owns (c : Thread nD τ) (win0_0.stage 0) fullShare X0 -∗ iprop(P ∗ S ∗ (ins c X0 X1 X2 X3 ∗ R)))) := by
  unfold ins
  iintro ⟨HP, HS, ⟨H0, H1, H2, H3⟩, HR⟩
  isplitl [H0]; · iexact H0
  iintro H0
  isplitl [HP]; · iexact HP
  isplitl [HS]; · iexact HS
  isplitr [HR]
  · isplitl [H0]; · iexact H0
    isplitl [H1]; · iexact H1
    isplitl [H2]; · iexact H2
    iexact H3
  · iexact HR

theorem ins_1 : iprop(P ∗ S ∗ (ins c X0 X1 X2 X3 ∗ R)) ⊢ iprop(owns (c : Thread nD τ) (win0_1.stage 0) fullShare X1
    ∗ (owns (c : Thread nD τ) (win0_1.stage 0) fullShare X1 -∗ iprop(P ∗ S ∗ (ins c X0 X1 X2 X3 ∗ R)))) := by
  unfold ins
  iintro ⟨HP, HS, ⟨H0, H1, H2, H3⟩, HR⟩
  isplitl [H1]; · iexact H1
  iintro H1
  isplitl [HP]; · iexact HP
  isplitl [HS]; · iexact HS
  isplitr [HR]
  · isplitl [H0]; · iexact H0
    isplitl [H1]; · iexact H1
    isplitl [H2]; · iexact H2
    iexact H3
  · iexact HR

theorem ins_2 : iprop(P ∗ S ∗ (ins c X0 X1 X2 X3 ∗ R)) ⊢ iprop(owns (c : Thread nD τ) (win0_2.stage 0) fullShare X2
    ∗ (owns (c : Thread nD τ) (win0_2.stage 0) fullShare X2 -∗ iprop(P ∗ S ∗ (ins c X0 X1 X2 X3 ∗ R)))) := by
  unfold ins
  iintro ⟨HP, HS, ⟨H0, H1, H2, H3⟩, HR⟩
  isplitl [H2]; · iexact H2
  iintro H2
  isplitl [HP]; · iexact HP
  isplitl [HS]; · iexact HS
  isplitr [HR]
  · isplitl [H0]; · iexact H0
    isplitl [H1]; · iexact H1
    isplitl [H2]; · iexact H2
    iexact H3
  · iexact HR

theorem ins_3 : iprop(P ∗ S ∗ (ins c X0 X1 X2 X3 ∗ R)) ⊢ iprop(owns (c : Thread nD τ) (win0_3.stage 0) fullShare X3
    ∗ (owns (c : Thread nD τ) (win0_3.stage 0) fullShare X3 -∗ iprop(P ∗ S ∗ (ins c X0 X1 X2 X3 ∗ R)))) := by
  unfold ins
  iintro ⟨HP, HS, ⟨H0, H1, H2, H3⟩, HR⟩
  isplitl [H3]; · iexact H3
  iintro H3
  isplitl [HP]; · iexact HP
  isplitl [HS]; · iexact HS
  isplitr [HR]
  · isplitl [H0]; · iexact H0
    isplitl [H1]; · iexact H1
    isplitl [H2]; · iexact H2
    iexact H3
  · iexact HR

/-! ## What the loads read -/

abbrev xAll (X0 : Vec F S256x128 .f32) : Vec F S256x128 .f32 :=
  fun x => X0 ((Rect.unit (s := S256x128) ![0, 0] S256x128.size inb_S256x128_S256x128_0_0).toLoadRect.idx x)
abbrev rAll (X1 : Vec F S128x64 .f32) : Vec F S128x64 .f32 :=
  fun x => X1 ((Rect.unit (s := S128x64) ![0, 0] S128x64.size inb_S128x64_S128x64_0_0).toLoadRect.idx x)
abbrev iCol0 (X2 : Vec F S256x2 .i32) : Vec F S256x1 .i32 :=
  fun x => X2 ((Rect.unit (s := S256x2) ![0, 0] S256x1.size inb_S256x2_S256x1_0_0).toLoadRect.idx x)
abbrev iCol1 (X2 : Vec F S256x2 .i32) : Vec F S256x1 .i32 :=
  fun x => X2 ((Rect.unit (s := S256x2) ![0, 1] S256x1.size inb_S256x2_S256x1_0_1).toLoadRect.idx x)
abbrev wAt0 (X3 : Vec F S2x128x256 .f32) : Vec F S1x128x256 .f32 :=
  fun x => X3 ((Rect.unit (s := S2x128x256) ![0, 0, 0] S1x128x256.size inb_S2x128x256_S1x128x256_0_0_0).toLoadRect.idx x)
abbrev wAt1 (X3 : Vec F S2x128x256 .f32) : Vec F S1x128x256 .f32 :=
  fun x => X3 ((Rect.unit (s := S2x128x256) ![1, 0, 0] S1x128x256.size inb_S2x128x256_S1x128x256_1_0_0).toLoadRect.idx x)
abbrev iRows (c : Dev nD) (X2 : Vec F S256x2 .i32) : Vec F S8x2 .i32 :=
  fun x => X2 ((Rect.unit (s := S256x2) (k0_off1 c) S8x2.size (k0_off1_inb c)).toLoadRect.idx x)

abbrev zero32 : F .f32 := Scalar.ofBits .f32 0x00000000#32

/-- The first expert's share of the part, the second's, and the second's gates. -/
abbrev mid0 (c : Dev nD) (X0 : Vec F S256x128 .f32) (X1 : Vec F S128x64 .f32) (X2 : Vec F S256x2 .i32) (X3 : Vec F S2x128x256 .f32) : FVec F S256x256 .f32 :=
  k0_pay10 (BitVec.ofNat 32 c.val) (k0_pay2 (xAll X0)) (k0_pay3 (xAll X0) (rAll X1)) (k0_pay4 (iCol0 X2)) (k0_pay5 (iCol1 X2))
    (k0_pay6 (xAll X0) (rAll X1) (iCol0 X2)) (k0_pay7 (iCol1 X2)) zero32 (wAt0 X3)
abbrev mid1 (X0 : Vec F S256x128 .f32) (X3 : Vec F S2x128x256 .f32) : FVec F S256x256 .f32 := k0_pay11 (k0_pay2 (xAll X0)) (wAt1 X3)
abbrev mid2 (c : Dev nD) (X0 : Vec F S256x128 .f32) (X1 : Vec F S128x64 .f32) (X2 : Vec F S256x2 .i32) : FVec F S256x256 .f32 :=
  k0_pay12 (BitVec.ofNat 32 c.val) (k0_pay3 (xAll X0) (rAll X1)) (k0_pay4 (iCol0 X2)) (k0_pay5 (iCol1 X2))
    (k0_pay6 (xAll X0) (rAll X1) (iCol0 X2)) (k0_pay7 (iCol1 X2)) zero32

/-- Device `c`'s part of the sum. -/
def partOf (c : Dev nD) (X0 : Vec F S256x128 .f32) (X1 : Vec F S128x64 .f32) (X2 : Vec F S256x2 .i32) (X3 : Vec F S2x128x256 .f32) : Part (F := F) :=
  k0_pay13 (mid0 c X0 X1 X2 X3) (mid1 X0 X3) (mid2 c X0 X1 X2)

/-! ## The parts of the body -/

/-- The loads at the end of the body's fourth part. -/
theorem loads4_run
    {Q : (Σ' (v101 : FVec F S256x128 .f32) (v113 : FVec F S256x64 .f32) (v115 : IVec S256x1 32) (v117 : IVec S256x1 32) (v124 : FVec F S256x1 .f32) (v126 : IVec S256x64 1), F .f32) → sProp (MT nD τ sig ℕ (Elt F) ℕ UU ℕ)}
    (h : iprop(P ∗ S ∗ (ins c X0 X1 X2 X3 ∗ R)) ⊢ Q ⟨k0_pay2 (xAll X0), k0_pay3 (xAll X0) (rAll X1), k0_pay4 (iCol0 X2), k0_pay5 (iCol1 X2),
      k0_pay6 (xAll X0) (rAll X1) (iCol0 X2), k0_pay7 (iCol1 X2), zero32⟩) :
    iprop(P ∗ S ∗ (ins c X0 X1 X2 X3 ∗ R)) ⊢ run c (do
          let v100 : Vec F S256x128 .f32 ← Prog.lift (.load (win0_0.stage 0) (Rect.unit (s := S256x128) ![0, 0] S256x128.size inb_S256x128_S256x128_0_0).toLoadRect (View.loadsAt_vmem h_S256x128))
          let v102 : Vec F S128x64 .f32 ← Prog.lift (.load (win0_1.stage 0) (Rect.unit (s := S128x64) ![0, 0] S128x64.size inb_S128x64_S128x64_0_0).toLoadRect (View.loadsAt_vmem h_S128x64))
          let v114 : Vec F S256x1 .i32 ← Prog.lift (.load (win0_2.stage 0) (Rect.unit (s := S256x2) ![0, 0] S256x1.size inb_S256x2_S256x1_0_0).toLoadRect (View.loadsAt_vmem h_S256x1))
          let v116 : Vec F S256x1 .i32 ← Prog.lift (.load (win0_2.stage 0) (Rect.unit (s := S256x2) ![0, 1] S256x1.size inb_S256x2_S256x1_0_1).toLoadRect (View.loadsAt_vmem h_S256x1))
          have cst_43 : F .f32 := Scalar.ofBits .f32 0x00000000#32
          pure ⟨k0_pay2 v100, k0_pay3 v100 v102, k0_pay4 v114, k0_pay5 v116, k0_pay6 v100 v102 v114, k0_pay7 v116, cst_43⟩
        ) Q := by
  refine load_own ins_0 ?_
  refine load_own ins_1 ?_
  refine load_own ins_2 ?_
  refine load_own ins_2 ?_
  exact run_ret h

/-- The body's fifth part: the loads of the two experts' arrays. -/
theorem part5_run {v2 : BitVec 32} {v101 : FVec F S256x128 .f32} {v113 : FVec F S256x64 .f32} {v115 v117 : IVec S256x1 32}
    {v124 : FVec F S256x1 .f32} {v126 : IVec S256x64 1} {z : F .f32}
    {Q : (Σ' (v151 : FVec F S256x256 .f32) (v167 : FVec F S256x256 .f32), FVec F S256x256 .f32) → sProp (MT nD τ sig ℕ (Elt F) ℕ UU ℕ)}
    (h : iprop(P ∗ S ∗ (ins c X0 X1 X2 X3 ∗ R)) ⊢ Q ⟨k0_pay10 v2 v101 v113 v115 v117 v124 v126 z (wAt0 X3), k0_pay11 v101 (wAt1 X3),
      k0_pay12 v2 v113 v115 v117 v124 v126 z⟩) :
    iprop(P ∗ S ∗ (ins c X0 X1 X2 X3 ∗ R))
      ⊢ run c (k0_part5 (F := F) (win0_0.stage 0) (hstage0_0 0) (win0_1.stage 0) (hstage0_1 0) (win0_2.stage 0) (hstage0_2 0) (win0_3.stage 0) (hstage0_3 0) (win0_4.stage 0) (hstage0_4 0) (Memref.whole cc0_scratch0) (Memref.isWhole_whole _)
      (Memref.whole cc0_scratch1) (Memref.isWhole_whole _) cc0_scratch2 cc0_scratch3 v2 v101 v113 v115 v117 v124 v126 z) Q := by
  rw [k0_part5_eq_skeleton]
  unfold k0_part5_skel
  refine load_own ins_3 ?_
  refine load_own ins_3 ?_
  exact run_ret h

/-- The body's sixth part: the store of the part of the sum, and the loads of the two columns of the index array. -/
theorem part6_run {v151 v167 v168 : FVec F S256x256 .f32}
    {Q : (Σ' (v199 : IVec S256x1 32) (v201 : IVec S256x1 32) (c2_i32_75 : BitVec 32) (v203 : IVec S256x1 32) (v210 : IVec S256x1 32), BitVec 32) → sProp (MT nD τ sig ℕ (Elt F) ℕ UU ℕ)}
    (h : iprop(P ∗ S ∗ (ins c X0 X1 X2 X3 ∗ ((((c : Thread nD τ).loc cc0_scratch0) ↦{fullShare} (k0_pay13 v151 v167 v168 : Part (F := F))) ∗ R)))
      ⊢ Q ⟨k0_pay14 (iCol0 X2), k0_pay15 (iCol1 X2), 2#32, k0_pay16 (iCol1 X2), k0_pay17 (iCol1 X2), 0#32⟩) :
    iprop(P ∗ S ∗ (ins c X0 X1 X2 X3 ∗ ((∃ f : Part (F := F), ((c : Thread nD τ).loc cc0_scratch0) ↦{fullShare} f) ∗ R)))
      ⊢ run c (k0_part6 (F := F) (win0_0.stage 0) (hstage0_0 0) (win0_1.stage 0) (hstage0_1 0) (win0_2.stage 0) (hstage0_2 0) (win0_3.stage 0) (hstage0_3 0) (win0_4.stage 0) (hstage0_4 0) (Memref.whole cc0_scratch0) (Memref.isWhole_whole _)
      (Memref.whole cc0_scratch1) (Memref.isWhole_whole _) cc0_scratch2 cc0_scratch3 v151 v167 v168) Q := by
  rw [k0_part6_eq_skeleton]
  unfold k0_part6_skel
  iintro ⟨HP, HS, HI, ⟨%f, Hf⟩, HR⟩
  iapply (wp_load (defs := defs₀ (F := F)) Variants.none (c : Thread nD τ) none Set.univ (m := Memref.whole cc0_scratch0)
    (S := Finset.univ) (Finset.subset_univ _)) $$ Hf
  iintro Hf
  iapply (wp_store (defs := defs₀ (F := F)) Variants.none (c : Thread nD τ) none Set.univ (m := Memref.whole cc0_scratch0)
    (r := Rect.unit (s := S256x256) ![0, 0] S256x256.size inb_S256x256_S256x256_0_0) (f := f) (S := Finset.univ) (Finset.subset_univ _)) $$ Hf
  iintro Hf
  ihave Hf := (Entails.of_eq (congrArg (fun g => (((c : Thread nD τ).loc cc0_scratch0) ↦{fullShare} g : sProp 𝕄))
    (Memref.write_access_unit_zero_univ (Elt F) cc0_scratch0 (by decide) _ f _))) $$ Hf
  iapply (show iprop(P ∗ S ∗ (ins c X0 X1 X2 X3 ∗ ((((c : Thread nD τ).loc cc0_scratch0) ↦{fullShare} (k0_pay13 v151 v167 v168 : Part (F := F))) ∗ R))) ⊢ _ from by
    refine load_own ins_2 ?_
    refine load_own ins_2 ?_
    exact run_ret h)
  isplitl [HP]; · iexact HP
  isplitl [HS]; · iexact HS
  isplitl [HI]; · iexact HI
  isplitl [Hf]; · iexact Hf
  iexact HR

/-- The body's seventh part: the load of the device's own rows of the index array. -/
theorem part7_run {v2 z2 z0 : BitVec 32} {v199 v201 v203 v210 : IVec S256x1 32}
    {Q : (Σ' (v234 : IVec S32x1 32) (v240 : IVec S8x2 32) (v254 : IVec S8x2 1), IVec S8x2 1) → sProp (MT nD τ sig ℕ (Elt F) ℕ UU ℕ)}
    (h : iprop(P ∗ S ∗ (ins c X0 X1 X2 X3 ∗ R)) ⊢ Q ⟨k0_pay18 v2 v199 v201 z2 v203 v210 z0, k0_pay20 (iRows c X2), k0_pay21 (iRows c X2), k0_pay22 (iRows c X2)⟩) :
    iprop(P ∗ S ∗ (ins c X0 X1 X2 X3 ∗ R))
      ⊢ run c (k0_part7 (F := F) (win0_0.stage 0) (hstage0_0 0) (win0_1.stage 0) (hstage0_1 0) (win0_2.stage 0) (hstage0_2 0) (win0_3.stage 0) (hstage0_3 0) (win0_4.stage 0) (hstage0_4 0) (Memref.whole cc0_scratch0) (Memref.isWhole_whole _)
      (Memref.whole cc0_scratch1) (Memref.isWhole_whole _) cc0_scratch2 cc0_scratch3 c v2 v199 v201 z2 v203 v210 z0) Q := by
  rw [k0_part7_eq_skeleton]
  unfold k0_part7_skel
  refine load_own ins_2 ?_
  exact run_ret h

/-! ## The numbers of rows -/

theorem iCol0_at (X2 : Vec F S256x2 .i32) (t : Fin 256) : iCol0 X2 (ix2 t 0) = X2 (ix2 t 0) := by
  refine congrArg X2 (funext fun a => Fin.ext ?_)
  match a with
  | 0 => show 0 + 1 * t.val = t.val; omega
  | 1 => rfl

theorem iCol1_at (X2 : Vec F S256x2 .i32) (t : Fin 256) : iCol1 X2 (ix2 t 0) = X2 (ix2 t 1) := by
  refine congrArg X2 (funext fun a => Fin.ext ?_)
  match a with
  | 0 => show 0 + 1 * t.val = t.val; omega
  | 1 => rfl

theorem iRows_at (c : Dev nD) (X2 : Vec F S256x2 .i32) (r : Fin 8) (k : Fin 2) : iRows c X2 (ix2 r k) = X2 (ix2 (row c r) k) := by
  refine congrArg X2 (funext fun a => Fin.ext ?_)
  match a with
  | 0 =>
    show k0_off1 c 0 + 1 * r.val = c.val * 8 + r.val
    rw [k0_off1_eq]; show 8 * c.val + 1 * r.val = _; omega
  | 1 =>
    show k0_off1 c 1 + 1 * k.val = k.val
    rw [k0_off1_eq]; show 0 + 1 * k.val = _; omega

/-- The number of rows that device `j` needs of this device, and of each device that this one needs. -/
theorem sends (X2 : Vec F S256x2 .i32) (j : Dev nD) :
    Scalar.cmpi .sgt (k0_pay18 (BitVec.ofNat 32 c.val) (k0_pay14 (iCol0 X2)) (k0_pay15 (iCol1 X2)) 2#32 (k0_pay16 (iCol1 X2)) (k0_pay17 (iCol1 X2)) 0#32
      (ix2 j 0)) 0#32 = 1#1 ↔ Needs X2 c j := send_count (iCol0_at X2) (iCol1_at X2) c j
theorem recvs (X2 : Vec F S256x2 .i32) (s : Dev nD) :
    Scalar.cmpi .sgt (k0_pay23 (k0_pay20 (iRows c X2)) (k0_pay21 (iRows c X2)) (k0_pay22 (iRows c X2)) (ix2 0 s)) 0#32 = 1#1 ↔ Needs X2 s c :=
  recv_count c (iRows_at c X2) s

end Cert.Moe
-- ==== Proof.Part1.lean ====
/- The signals of the body. -/
module

public import proofs.«01_k».proof.Proof.Bits

@[expose] public section

set_option maxRecDepth 65536

noncomputable section

namespace Cert.Moe

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]

variable {I : IVec S256x2 32} {pv : Dev nD → Part (F := F)} {κ : GSem nD τ sig → ℕ} {c : Dev nD}
  {R : sProp (MT nD τ sig ℕ (Elt F) ℕ UU ℕ)}

/-- The conditions of the signals: every other device. -/
theorem cond1_iff : ∀ c : Dev nD, k0_cond1 c = 1#1 ↔ c ≠ 0 := by decide +kernel
theorem cond2_iff : ∀ c : Dev nD, k0_cond2 c = 1#1 ↔ c ≠ 1 := by decide +kernel
theorem cond3_iff : ∀ c : Dev nD, k0_cond3 c = 1#1 ↔ c ≠ 2 := by decide +kernel
theorem cond4_iff : ∀ c : Dev nD, k0_cond4 c = 1#1 ↔ c ≠ 3 := by decide +kernel
theorem cond5_iff : ∀ c : Dev nD, k0_cond5 c = 1#1 ↔ c ≠ 4 := by decide +kernel
theorem cond6_iff : ∀ c : Dev nD, k0_cond6 c = 1#1 ↔ c ≠ 5 := by decide +kernel
theorem cond7_iff : ∀ c : Dev nD, k0_cond7 c = 1#1 ↔ c ≠ 6 := by decide +kernel
theorem cond8_iff : ∀ c : Dev nD, k0_cond8 c = 1#1 ↔ c ≠ 7 := by decide +kernel
theorem cond9_iff : ∀ c : Dev nD, k0_cond9 c = 1#1 ↔ c ≠ 8 := by decide +kernel
theorem cond10_iff : ∀ c : Dev nD, k0_cond10 c = 1#1 ↔ c ≠ 9 := by decide +kernel
theorem cond11_iff : ∀ c : Dev nD, k0_cond11 c = 1#1 ↔ c ≠ 10 := by decide +kernel
theorem cond12_iff : ∀ c : Dev nD, k0_cond12 c = 1#1 ↔ c ≠ 11 := by decide +kernel
theorem cond13_iff : ∀ c : Dev nD, k0_cond13 c = 1#1 ↔ c ≠ 12 := by decide +kernel
theorem cond14_iff : ∀ c : Dev nD, k0_cond14 c = 1#1 ↔ c ≠ 13 := by decide +kernel
theorem cond15_iff : ∀ c : Dev nD, k0_cond15 c = 1#1 ↔ c ≠ 14 := by decide +kernel
theorem cond16_iff : ∀ c : Dev nD, k0_cond16 c = 1#1 ↔ c ≠ 15 := by decide +kernel
theorem cond17_iff : ∀ c : Dev nD, k0_cond17 c = 1#1 ↔ c ≠ 16 := by decide +kernel
theorem cond18_iff : ∀ c : Dev nD, k0_cond18 c = 1#1 ↔ c ≠ 17 := by decide +kernel
theorem cond19_iff : ∀ c : Dev nD, k0_cond19 c = 1#1 ↔ c ≠ 18 := by decide +kernel
theorem cond20_iff : ∀ c : Dev nD, k0_cond20 c = 1#1 ↔ c ≠ 19 := by decide +kernel
theorem cond21_iff : ∀ c : Dev nD, k0_cond21 c = 1#1 ↔ c ≠ 20 := by decide +kernel
theorem cond22_iff : ∀ c : Dev nD, k0_cond22 c = 1#1 ↔ c ≠ 21 := by decide +kernel
theorem cond23_iff : ∀ c : Dev nD, k0_cond23 c = 1#1 ↔ c ≠ 22 := by decide +kernel
theorem cond24_iff : ∀ c : Dev nD, k0_cond24 c = 1#1 ↔ c ≠ 23 := by decide +kernel
theorem cond25_iff : ∀ c : Dev nD, k0_cond25 c = 1#1 ↔ c ≠ 24 := by decide +kernel
theorem cond26_iff : ∀ c : Dev nD, k0_cond26 c = 1#1 ↔ c ≠ 25 := by decide +kernel
theorem cond27_iff : ∀ c : Dev nD, k0_cond27 c = 1#1 ↔ c ≠ 26 := by decide +kernel
theorem cond28_iff : ∀ c : Dev nD, k0_cond28 c = 1#1 ↔ c ≠ 27 := by decide +kernel
theorem cond29_iff : ∀ c : Dev nD, k0_cond29 c = 1#1 ↔ c ≠ 28 := by decide +kernel
theorem cond30_iff : ∀ c : Dev nD, k0_cond30 c = 1#1 ↔ c ≠ 29 := by decide +kernel
theorem cond31_iff : ∀ c : Dev nD, k0_cond31 c = 1#1 ↔ c ≠ 30 := by decide +kernel
theorem cond32_iff : ∀ c : Dev nD, k0_cond32 c = 1#1 ↔ c ≠ 31 := by decide +kernel

attribute [local irreducible] k0_cond1 k0_cond2 k0_cond3 k0_cond4 k0_cond5 k0_cond6 k0_cond7 k0_cond8 k0_cond9 k0_cond10 k0_cond11 k0_cond12 k0_cond13 k0_cond14 k0_cond15 k0_cond16 k0_cond17 k0_cond18 k0_cond19 k0_cond20 k0_cond21 k0_cond22 k0_cond23 k0_cond24 k0_cond25 k0_cond26 k0_cond27 k0_cond28 k0_cond29 k0_cond30 k0_cond31 k0_cond32

/-- Signals: part 1 of the body. -/
theorem part1_run
    {Q : (Σ' (_ : Dev nD) (_ : BitVec 32), Sems sig S_) → sProp (MT nD τ sig ℕ (Elt F) ℕ UU ℕ)}
    (h : ∀ (v2 : BitVec 32) (v3 : Sems sig S_), v2 = BitVec.ofNat 32 c.val → v3.sem = barrier0 → iprop(know I pv κ c ∗ SigSt I c ((7 : Dev nD).val + 1) ∗ R) ⊢ Q ⟨c, v2, v3⟩) :
    iprop(know I pv κ c ∗ SigSt I c (0 : Dev nD).val ∗ R)
      ⊢ run c (k0_part1 (F := F) (win0_0.stage 0) (hstage0_0 0) (win0_1.stage 0) (hstage0_1 0) (win0_2.stage 0) (hstage0_2 0) (win0_3.stage 0) (hstage0_3 0) (win0_4.stage 0) (hstage0_4 0) (Memref.whole cc0_scratch0) (Memref.isWhole_whole _)
      (Memref.whole cc0_scratch1) (Memref.isWhole_whole _) cc0_scratch2 cc0_scratch3  ) Q := by
  rw [k0_part1_eq_skeleton]
  unfold k0_part1_skel
  refine dev_step ?_
  refine sig_at 0 bar_sem (cond1_iff c) (dst := fun h => ⟨k0_dev1, k0_dev1_lt c h⟩) (fun _ => Fin.ext k0_dev1_eq) ?_
  refine sig_at 1 bar_sem (cond2_iff c) (dst := fun h => ⟨k0_dev2, k0_dev2_lt c h⟩) (fun _ => Fin.ext k0_dev2_eq) ?_
  refine sig_at 2 bar_sem (cond3_iff c) (dst := fun h => ⟨k0_dev3, k0_dev3_lt c h⟩) (fun _ => Fin.ext k0_dev3_eq) ?_
  refine sig_at 3 bar_sem (cond4_iff c) (dst := fun h => ⟨k0_dev4, k0_dev4_lt c h⟩) (fun _ => Fin.ext k0_dev4_eq) ?_
  refine sig_at 4 bar_sem (cond5_iff c) (dst := fun h => ⟨k0_dev5, k0_dev5_lt c h⟩) (fun _ => Fin.ext k0_dev5_eq) ?_
  refine sig_at 5 bar_sem (cond6_iff c) (dst := fun h => ⟨k0_dev6, k0_dev6_lt c h⟩) (fun _ => Fin.ext k0_dev6_eq) ?_
  refine sig_at 6 bar_sem (cond7_iff c) (dst := fun h => ⟨k0_dev7, k0_dev7_lt c h⟩) (fun _ => Fin.ext k0_dev7_eq) ?_
  refine sig_at 7 bar_sem (cond8_iff c) (dst := fun h => ⟨k0_dev8, k0_dev8_lt c h⟩) (fun _ => Fin.ext k0_dev8_eq) ?_
  exact run_ret (h _ _ (word_dev c) bar_sem)

/-- Signals: part 2 of the body. -/
theorem part2_run {v2 : BitVec 32} {v3 : Sems sig S_} (h3 : v3.sem = barrier0)
    {Q : ((PUnit)) → sProp (MT nD τ sig ℕ (Elt F) ℕ UU ℕ)}
    (h : iprop(know I pv κ c ∗ SigSt I c ((17 : Dev nD).val + 1) ∗ R) ⊢ Q ⟨⟩) :
    iprop(know I pv κ c ∗ SigSt I c (8 : Dev nD).val ∗ R)
      ⊢ run c (k0_part2 (F := F) (win0_0.stage 0) (hstage0_0 0) (win0_1.stage 0) (hstage0_1 0) (win0_2.stage 0) (hstage0_2 0) (win0_3.stage 0) (hstage0_3 0) (win0_4.stage 0) (hstage0_4 0) (Memref.whole cc0_scratch0) (Memref.isWhole_whole _)
      (Memref.whole cc0_scratch1) (Memref.isWhole_whole _) cc0_scratch2 cc0_scratch3 c v2 v3 ) Q := by
  rw [k0_part2_eq_skeleton]
  unfold k0_part2_skel
  refine sig_at 8 h3 (cond9_iff c) (dst := fun h => ⟨k0_dev9, k0_dev9_lt c h⟩) (fun _ => Fin.ext k0_dev9_eq) ?_
  refine sig_at 9 h3 (cond10_iff c) (dst := fun h => ⟨k0_dev10, k0_dev10_lt c h⟩) (fun _ => Fin.ext k0_dev10_eq) ?_
  refine sig_at 10 h3 (cond11_iff c) (dst := fun h => ⟨k0_dev11, k0_dev11_lt c h⟩) (fun _ => Fin.ext k0_dev11_eq) ?_
  refine sig_at 11 h3 (cond12_iff c) (dst := fun h => ⟨k0_dev12, k0_dev12_lt c h⟩) (fun _ => Fin.ext k0_dev12_eq) ?_
  refine sig_at 12 h3 (cond13_iff c) (dst := fun h => ⟨k0_dev13, k0_dev13_lt c h⟩) (fun _ => Fin.ext k0_dev13_eq) ?_
  refine sig_at 13 h3 (cond14_iff c) (dst := fun h => ⟨k0_dev14, k0_dev14_lt c h⟩) (fun _ => Fin.ext k0_dev14_eq) ?_
  refine sig_at 14 h3 (cond15_iff c) (dst := fun h => ⟨k0_dev15, k0_dev15_lt c h⟩) (fun _ => Fin.ext k0_dev15_eq) ?_
  refine sig_at 15 h3 (cond16_iff c) (dst := fun h => ⟨k0_dev16, k0_dev16_lt c h⟩) (fun _ => Fin.ext k0_dev16_eq) ?_
  refine sig_at 16 h3 (cond17_iff c) (dst := fun h => ⟨k0_dev17, k0_dev17_lt c h⟩) (fun _ => Fin.ext k0_dev17_eq) ?_
  refine sig_at 17 h3 (cond18_iff c) (dst := fun h => ⟨k0_dev18, k0_dev18_lt c h⟩) (fun _ => Fin.ext k0_dev18_eq) ?_
  exact run_ret h

/-- Signals: part 3 of the body. -/
theorem part3_run {v2 : BitVec 32} {v3 : Sems sig S_} (h3 : v3.sem = barrier0)
    {Q : ((PUnit)) → sProp (MT nD τ sig ℕ (Elt F) ℕ UU ℕ)}
    (h : iprop(know I pv κ c ∗ SigSt I c ((27 : Dev nD).val + 1) ∗ R) ⊢ Q ⟨⟩) :
    iprop(know I pv κ c ∗ SigSt I c (18 : Dev nD).val ∗ R)
      ⊢ run c (k0_part3 (F := F) (win0_0.stage 0) (hstage0_0 0) (win0_1.stage 0) (hstage0_1 0) (win0_2.stage 0) (hstage0_2 0) (win0_3.stage 0) (hstage0_3 0) (win0_4.stage 0) (hstage0_4 0) (Memref.whole cc0_scratch0) (Memref.isWhole_whole _)
      (Memref.whole cc0_scratch1) (Memref.isWhole_whole _) cc0_scratch2 cc0_scratch3 c v2 v3 ) Q := by
  rw [k0_part3_eq_skeleton]
  unfold k0_part3_skel
  refine sig_at 18 h3 (cond19_iff c) (dst := fun h => ⟨k0_dev19, k0_dev19_lt c h⟩) (fun _ => Fin.ext k0_dev19_eq) ?_
  refine sig_at 19 h3 (cond20_iff c) (dst := fun h => ⟨k0_dev20, k0_dev20_lt c h⟩) (fun _ => Fin.ext k0_dev20_eq) ?_
  refine sig_at 20 h3 (cond21_iff c) (dst := fun h => ⟨k0_dev21, k0_dev21_lt c h⟩) (fun _ => Fin.ext k0_dev21_eq) ?_
  refine sig_at 21 h3 (cond22_iff c) (dst := fun h => ⟨k0_dev22, k0_dev22_lt c h⟩) (fun _ => Fin.ext k0_dev22_eq) ?_
  refine sig_at 22 h3 (cond23_iff c) (dst := fun h => ⟨k0_dev23, k0_dev23_lt c h⟩) (fun _ => Fin.ext k0_dev23_eq) ?_
  refine sig_at 23 h3 (cond24_iff c) (dst := fun h => ⟨k0_dev24, k0_dev24_lt c h⟩) (fun _ => Fin.ext k0_dev24_eq) ?_
  refine sig_at 24 h3 (cond25_iff c) (dst := fun h => ⟨k0_dev25, k0_dev25_lt c h⟩) (fun _ => Fin.ext k0_dev25_eq) ?_
  refine sig_at 25 h3 (cond26_iff c) (dst := fun h => ⟨k0_dev26, k0_dev26_lt c h⟩) (fun _ => Fin.ext k0_dev26_eq) ?_
  refine sig_at 26 h3 (cond27_iff c) (dst := fun h => ⟨k0_dev27, k0_dev27_lt c h⟩) (fun _ => Fin.ext k0_dev27_eq) ?_
  refine sig_at 27 h3 (cond28_iff c) (dst := fun h => ⟨k0_dev28, k0_dev28_lt c h⟩) (fun _ => Fin.ext k0_dev28_eq) ?_
  exact run_ret h

/-- Signals: part 4 of the body. -/
theorem part4_run {v2 : BitVec 32} {v3 : Sems sig S_} (h3 : v3.sem = barrier0)
    {Q : ((Σ' (v101 : FVec F S256x128 .f32) (v113 : FVec F S256x64 .f32) (v115 : IVec S256x1 32) (v117 : IVec S256x1 32) (v124 : FVec F S256x1 .f32) (v126 : IVec S256x64 1), F .f32)) → sProp (MT nD τ sig ℕ (Elt F) ℕ UU ℕ)}
    (h : iprop(know I pv κ c ∗ SigSt I c ((31 : Dev nD).val + 1) ∗ R) ⊢ run c (do
          let v100 : Vec F S256x128 .f32 ← Prog.lift (.load (win0_0.stage 0) (Rect.unit (s := S256x128) ![0, 0] S256x128.size inb_S256x128_S256x128_0_0).toLoadRect (View.loadsAt_vmem h_S256x128))
          let v102 : Vec F S128x64 .f32 ← Prog.lift (.load (win0_1.stage 0) (Rect.unit (s := S128x64) ![0, 0] S128x64.size inb_S128x64_S128x64_0_0).toLoadRect (View.loadsAt_vmem h_S128x64))
          let v114 : Vec F S256x1 .i32 ← Prog.lift (.load (win0_2.stage 0) (Rect.unit (s := S256x2) ![0, 0] S256x1.size inb_S256x2_S256x1_0_0).toLoadRect (View.loadsAt_vmem h_S256x1))
          let v116 : Vec F S256x1 .i32 ← Prog.lift (.load (win0_2.stage 0) (Rect.unit (s := S256x2) ![0, 1] S256x1.size inb_S256x2_S256x1_0_1).toLoadRect (View.loadsAt_vmem h_S256x1))
          have cst_43 : F .f32 := Scalar.ofBits .f32 0x00000000#32
          pure ⟨k0_pay2 v100, k0_pay3 v100 v102, k0_pay4 v114, k0_pay5 v116, k0_pay6 v100 v102 v114, k0_pay7 v116, cst_43⟩
        ) Q) :
    iprop(know I pv κ c ∗ SigSt I c (28 : Dev nD).val ∗ R)
      ⊢ run c (k0_part4 (F := F) (win0_0.stage 0) (hstage0_0 0) (win0_1.stage 0) (hstage0_1 0) (win0_2.stage 0) (hstage0_2 0) (win0_3.stage 0) (hstage0_3 0) (win0_4.stage 0) (hstage0_4 0) (Memref.whole cc0_scratch0) (Memref.isWhole_whole _)
      (Memref.whole cc0_scratch1) (Memref.isWhole_whole _) cc0_scratch2 cc0_scratch3 c v2 v3 ) Q := by
  rw [k0_part4_eq_skeleton]
  unfold k0_part4_skel
  refine sig_at 28 h3 (cond29_iff c) (dst := fun h => ⟨k0_dev29, k0_dev29_lt c h⟩) (fun _ => Fin.ext k0_dev29_eq) ?_
  refine sig_at 29 h3 (cond30_iff c) (dst := fun h => ⟨k0_dev30, k0_dev30_lt c h⟩) (fun _ => Fin.ext k0_dev30_eq) ?_
  refine sig_at 30 h3 (cond31_iff c) (dst := fun h => ⟨k0_dev31, k0_dev31_lt c h⟩) (fun _ => Fin.ext k0_dev31_eq) ?_
  refine sig_at 31 h3 (cond32_iff c) (dst := fun h => ⟨k0_dev32, k0_dev32_lt c h⟩) (fun _ => Fin.ext k0_dev32_eq) ?_
  exact h

end Cert.Moe
-- ==== Proof.Part2.lean ====
/- The first copies of the body. -/
module

public import proofs.«01_k».proof.Proof.Bits

@[expose] public section

set_option maxRecDepth 65536

noncomputable section

namespace Cert.Moe

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]

variable {I : IVec S256x2 32} {pv : Dev nD → Part (F := F)} {κ : GSem nD τ sig → ℕ} {c : Dev nD}
  {R : sProp (MT nD τ sig ℕ (Elt F) ℕ UU ℕ)}

/-- Copies: part 8 of the body. -/
theorem part8_run {v3 : Sems sig S_} (h3 : v3.sem = barrier0)
    {v2 : BitVec 32} (hv : v2 = BitVec.ofNat 32 c.val)
    {v234 : IVec S32x1 32} (hs : ∀ j : Dev nD, Scalar.cmpi .sgt (v234 (ix2 j 0)) 0#32 = 1#1 ↔ Needs I c j)
    {v240 : IVec S8x2 32} {v254 v258 : IVec S8x2 1}
    {Q : ((Σ' (v273 : IVec S1x32 32), BitVec 1)) → sProp (MT nD τ sig ℕ (Elt F) ℕ UU ℕ)}
    (h : ∀ (yb : BitVec 1), (yb = 1#1 ↔ Talks I c 3) → iprop(know I pv κ c ∗ SendSt I pv c ((2 : Dev nD).val + 1) ∗ (bigSep Finset.univ (sigPost I c) ∗ atPos ET (barC c) 1 ∅ 0 ∗ R)) ⊢ Q ⟨k0_pay23 v240 v254 v258, yb⟩) :
    iprop(know I pv κ c ∗ SigSt I c 32 ∗ cred (tallyAt (barC c) 4 31) ∗ atPos ET (barC c) 0 ∅ 0
        ∗ bigSep Finset.univ (copyToks (F := F) c) ∗ bigSep Finset.univ (srcPts pv c) ∗ R)
      ⊢ run c (k0_part8 (F := F) (win0_0.stage 0) (hstage0_0 0) (win0_1.stage 0) (hstage0_1 0) (win0_2.stage 0) (hstage0_2 0) (win0_3.stage 0) (hstage0_3 0) (win0_4.stage 0) (hstage0_4 0) (Memref.whole cc0_scratch0) (Memref.isWhole_whole _)
      (Memref.whole cc0_scratch1) (Memref.isWhole_whole _) cc0_scratch2 cc0_scratch3 c v2 v3 v234 v240 v254 v258 ) Q := by
  rw [k0_part8_eq_skeleton]
  unfold k0_part8_skel
  refine bar_at h3 ?_
  refine send_step 0 (by exact (ext_bit _).trans (send_bit hv hs 0)) (send_sem 0 rfl _) (recv_sem c (k0_off2_eq c) _) (k0_off3_eq c) rfl rfl ?_
  refine send_step 1 (by exact (ext_bit _).trans (send_bit hv hs 1)) (send_sem 1 rfl _) (recv_sem c (k0_off4_eq c) _) (k0_off5_eq c) rfl rfl ?_
  refine send_step 2 (by exact (ext_bit _).trans (send_bit hv hs 2)) (send_sem 2 rfl _) (recv_sem c (k0_off6_eq c) _) (k0_off7_eq c) rfl rfl ?_
  exact run_ret (h _ (send_bit hv hs 3))

/-- Copies: part 9 of the body. -/
theorem part9_run {v2 : BitVec 32} (hv : v2 = BitVec.ofNat 32 c.val)
    {v234 : IVec S32x1 32} (hs : ∀ j : Dev nD, Scalar.cmpi .sgt (v234 (ix2 j 0)) 0#32 = 1#1 ↔ Needs I c j)
    {xb : BitVec 1} (hxb : xb = 1#1 ↔ Talks I c 3)
    {Q : ((BitVec 32)) → sProp (MT nD τ sig ℕ (Elt F) ℕ UU ℕ)}
    (h : ∀ (yc : BitVec 32), (yc = 9#32) → iprop(know I pv κ c ∗ SendSt I pv c ((8 : Dev nD).val + 1) ∗ R) ⊢ Q yc) :
    iprop(know I pv κ c ∗ SendSt I pv c (3 : Dev nD).val ∗ R)
      ⊢ run c (k0_part9 (F := F) (win0_0.stage 0) (hstage0_0 0) (win0_1.stage 0) (hstage0_1 0) (win0_2.stage 0) (hstage0_2 0) (win0_3.stage 0) (hstage0_3 0) (win0_4.stage 0) (hstage0_4 0) (Memref.whole cc0_scratch0) (Memref.isWhole_whole _)
      (Memref.whole cc0_scratch1) (Memref.isWhole_whole _) cc0_scratch2 cc0_scratch3 c v2 v234 xb) Q := by
  rw [k0_part9_eq_skeleton]
  unfold k0_part9_skel
  refine send_step 3 (by exact (ext_bit _).trans (hxb)) (send_sem 3 rfl _) (recv_sem c (k0_off8_eq c) _) (k0_off9_eq c) rfl rfl ?_
  refine send_step 4 (by exact (ext_bit _).trans (send_bit hv hs 4)) (send_sem 4 rfl _) (recv_sem c (k0_off10_eq c) _) (k0_off11_eq c) rfl rfl ?_
  refine send_step 5 (by exact (ext_bit _).trans (send_bit hv hs 5)) (send_sem 5 rfl _) (recv_sem c (k0_off12_eq c) _) (k0_off13_eq c) rfl rfl ?_
  refine send_step 6 (by exact (ext_bit _).trans (send_bit hv hs 6)) (send_sem 6 rfl _) (recv_sem c (k0_off14_eq c) _) (k0_off15_eq c) rfl rfl ?_
  refine send_step 7 (by exact (ext_bit _).trans (send_bit hv hs 7)) (send_sem 7 rfl _) (recv_sem c (k0_off16_eq c) _) (k0_off17_eq c) rfl rfl ?_
  refine send_step 8 (by exact (ext_bit _).trans (send_bit hv hs 8)) (send_sem 8 rfl _) (recv_sem c (k0_off18_eq c) _) (k0_off19_eq c) rfl rfl ?_
  exact run_ret (h _ rfl)

/-- Copies: part 10 of the body. -/
theorem part10_run {v2 : BitVec 32} (hv : v2 = BitVec.ofNat 32 c.val)
    {v234 : IVec S32x1 32} (hs : ∀ j : Dev nD, Scalar.cmpi .sgt (v234 (ix2 j 0)) 0#32 = 1#1 ↔ Needs I c j)
    {xc : BitVec 32} (hxc : xc = 9#32)
    {Q : ((Σ' (v372 : BitVec 1), BitVec 1)) → sProp (MT nD τ sig ℕ (Elt F) ℕ UU ℕ)}
    (h : ∀ (ya : BitVec 1) (yb : BitVec 1), (ya = Scalar.cmpi .ne v2 (BitVec.ofNat 32 (14 : Dev nD).val)) → (yb = 1#1 ↔ Needs I c 14) → iprop(know I pv κ c ∗ SendSt I pv c ((13 : Dev nD).val + 1) ∗ R) ⊢ Q ⟨ya, yb⟩) :
    iprop(know I pv κ c ∗ SendSt I pv c (9 : Dev nD).val ∗ R)
      ⊢ run c (k0_part10 (F := F) (win0_0.stage 0) (hstage0_0 0) (win0_1.stage 0) (hstage0_1 0) (win0_2.stage 0) (hstage0_2 0) (win0_3.stage 0) (hstage0_3 0) (win0_4.stage 0) (hstage0_4 0) (Memref.whole cc0_scratch0) (Memref.isWhole_whole _)
      (Memref.whole cc0_scratch1) (Memref.isWhole_whole _) cc0_scratch2 cc0_scratch3 c v2 v234 xc) Q := by
  subst hxc
  rw [k0_part10_eq_skeleton]
  unfold k0_part10_skel
  refine send_step 9 (by exact (ext_bit _).trans (send_bit hv hs 9)) (send_sem 9 rfl _) (recv_sem c (k0_off20_eq c) _) (k0_off21_eq c) rfl rfl ?_
  refine send_step 10 (by exact (ext_bit _).trans (send_bit hv hs 10)) (send_sem 10 rfl _) (recv_sem c (k0_off22_eq c) _) (k0_off23_eq c) rfl rfl ?_
  refine send_step 11 (by exact (ext_bit _).trans (send_bit hv hs 11)) (send_sem 11 rfl _) (recv_sem c (k0_off24_eq c) _) (k0_off25_eq c) rfl rfl ?_
  refine send_step 12 (by exact (ext_bit _).trans (send_bit hv hs 12)) (send_sem 12 rfl _) (recv_sem c (k0_off26_eq c) _) (k0_off27_eq c) rfl rfl ?_
  refine send_step 13 (by exact (ext_bit _).trans (send_bit hv hs 13)) (send_sem 13 rfl _) (recv_sem c (k0_off28_eq c) _) (k0_off29_eq c) rfl rfl ?_
  exact run_ret (h _ _ rfl (send_need hs 14 (col_at v234 14)))

/-- Copies: part 11 of the body. -/
theorem part11_run {v2 : BitVec 32} (hv : v2 = BitVec.ofNat 32 c.val)
    {v234 : IVec S32x1 32} (hs : ∀ j : Dev nD, Scalar.cmpi .sgt (v234 (ix2 j 0)) 0#32 = 1#1 ↔ Needs I c j)
    {xa : BitVec 1} (hxa : xa = Scalar.cmpi .ne v2 (BitVec.ofNat 32 (14 : Dev nD).val))
    {xb : BitVec 1} (hxb : xb = 1#1 ↔ Needs I c 14)
    {Q : ((PUnit)) → sProp (MT nD τ sig ℕ (Elt F) ℕ UU ℕ)}
    (h : iprop(know I pv κ c ∗ SendSt I pv c ((19 : Dev nD).val + 1) ∗ R) ⊢ Q ⟨⟩) :
    iprop(know I pv κ c ∗ SendSt I pv c (14 : Dev nD).val ∗ R)
      ⊢ run c (k0_part11 (F := F) (win0_0.stage 0) (hstage0_0 0) (win0_1.stage 0) (hstage0_1 0) (win0_2.stage 0) (hstage0_2 0) (win0_3.stage 0) (hstage0_3 0) (win0_4.stage 0) (hstage0_4 0) (Memref.whole cc0_scratch0) (Memref.isWhole_whole _)
      (Memref.whole cc0_scratch1) (Memref.isWhole_whole _) cc0_scratch2 cc0_scratch3 c v2 v234 xa xb) Q := by
  rw [k0_part11_eq_skeleton]
  unfold k0_part11_skel
  refine send_step 14 (by exact (ext_bit _).trans (send_talk hv 14 hxa hxb)) (send_sem 14 rfl _) (recv_sem c (k0_off30_eq c) _) (k0_off31_eq c) rfl rfl ?_
  refine send_step 15 (by exact (ext_bit _).trans (send_bit hv hs 15)) (send_sem 15 rfl _) (recv_sem c (k0_off32_eq c) _) (k0_off33_eq c) rfl rfl ?_
  refine send_step 16 (by exact (ext_bit _).trans (send_bit hv hs 16)) (send_sem 16 rfl _) (recv_sem c (k0_off34_eq c) _) (k0_off35_eq c) rfl rfl ?_
  refine send_step 17 (by exact (ext_bit _).trans (send_bit hv hs 17)) (send_sem 17 rfl _) (recv_sem c (k0_off36_eq c) _) (k0_off37_eq c) rfl rfl ?_
  refine send_step 18 (by exact (ext_bit _).trans (send_bit hv hs 18)) (send_sem 18 rfl _) (recv_sem c (k0_off38_eq c) _) (k0_off39_eq c) rfl rfl ?_
  refine send_step 19 (by exact (ext_bit _).trans (send_bit hv hs 19)) (send_sem 19 rfl _) (recv_sem c (k0_off40_eq c) _) (k0_off41_eq c) rfl rfl ?_
  exact run_ret h

end Cert.Moe
-- ==== Proof.Part3.lean ====
/- The last copies of the body, and the first arrivals. -/
module

public import proofs.«01_k».proof.Proof.Bits

@[expose] public section

set_option maxRecDepth 65536

noncomputable section

namespace Cert.Moe

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]

variable {I : IVec S256x2 32} {pv : Dev nD → Part (F := F)} {κ : GSem nD τ sig → ℕ} {c : Dev nD}
  {R : sProp (MT nD τ sig ℕ (Elt F) ℕ UU ℕ)}

/-- Copies: part 12 of the body. -/
theorem part12_run {v2 : BitVec 32} (hv : v2 = BitVec.ofNat 32 c.val)
    {v234 : IVec S32x1 32} (hs : ∀ j : Dev nD, Scalar.cmpi .sgt (v234 (ix2 j 0)) 0#32 = 1#1 ↔ Needs I c j)
    {Q : ((Σ' (v449 : BitVec 1) (v451 : BitVec 32), BitVec 32)) → sProp (MT nD τ sig ℕ (Elt F) ℕ UU ℕ)}
    (h : ∀ (ya : BitVec 1) (yw : BitVec 32) (y0 : BitVec 32), (ya = Scalar.cmpi .ne v2 (BitVec.ofNat 32 (25 : Dev nD).val)) → (yw = v234 (ix2 (25 : Dev nD) 0)) → (y0 = 0#32) → iprop(know I pv κ c ∗ SendSt I pv c ((24 : Dev nD).val + 1) ∗ R) ⊢ Q ⟨ya, yw, y0⟩) :
    iprop(know I pv κ c ∗ SendSt I pv c (20 : Dev nD).val ∗ R)
      ⊢ run c (k0_part12 (F := F) (win0_0.stage 0) (hstage0_0 0) (win0_1.stage 0) (hstage0_1 0) (win0_2.stage 0) (hstage0_2 0) (win0_3.stage 0) (hstage0_3 0) (win0_4.stage 0) (hstage0_4 0) (Memref.whole cc0_scratch0) (Memref.isWhole_whole _)
      (Memref.whole cc0_scratch1) (Memref.isWhole_whole _) cc0_scratch2 cc0_scratch3 c v2 v234 ) Q := by
  rw [k0_part12_eq_skeleton]
  unfold k0_part12_skel
  refine send_step 20 (by exact (ext_bit _).trans (send_bit hv hs 20)) (send_sem 20 rfl _) (recv_sem c (k0_off42_eq c) _) (k0_off43_eq c) rfl rfl ?_
  refine send_step 21 (by exact (ext_bit _).trans (send_bit hv hs 21)) (send_sem 21 rfl _) (recv_sem c (k0_off44_eq c) _) (k0_off45_eq c) rfl rfl ?_
  refine send_step 22 (by exact (ext_bit _).trans (send_bit hv hs 22)) (send_sem 22 rfl _) (recv_sem c (k0_off46_eq c) _) (k0_off47_eq c) rfl rfl ?_
  refine send_step 23 (by exact (ext_bit _).trans (send_bit hv hs 23)) (send_sem 23 rfl _) (recv_sem c (k0_off48_eq c) _) (k0_off49_eq c) rfl rfl ?_
  refine send_step 24 (by exact (ext_bit _).trans (send_bit hv hs 24)) (send_sem 24 rfl _) (recv_sem c (k0_off50_eq c) _) (k0_off51_eq c) rfl rfl ?_
  exact run_ret (h _ _ _ rfl (col_at v234 25) rfl)

/-- Copies: part 13 of the body. -/
theorem part13_run {v2 : BitVec 32} (hv : v2 = BitVec.ofNat 32 c.val)
    {v234 : IVec S32x1 32} (hs : ∀ j : Dev nD, Scalar.cmpi .sgt (v234 (ix2 j 0)) 0#32 = 1#1 ↔ Needs I c j)
    {xa : BitVec 1} (hxa : xa = Scalar.cmpi .ne v2 (BitVec.ofNat 32 (25 : Dev nD).val))
    {xw : BitVec 32} (hxw : xw = v234 (ix2 (25 : Dev nD) 0))
    {x0 : BitVec 32} (hx0 : x0 = 0#32)
    {Q : ((BitVec 1)) → sProp (MT nD τ sig ℕ (Elt F) ℕ UU ℕ)}
    (h : ∀ (yb : BitVec 1), (yb = 1#1 ↔ Talks I c 30) → iprop(know I pv κ c ∗ SendSt I pv c ((29 : Dev nD).val + 1) ∗ R) ⊢ Q yb) :
    iprop(know I pv κ c ∗ SendSt I pv c (25 : Dev nD).val ∗ R)
      ⊢ run c (k0_part13 (F := F) (win0_0.stage 0) (hstage0_0 0) (win0_1.stage 0) (hstage0_1 0) (win0_2.stage 0) (hstage0_2 0) (win0_3.stage 0) (hstage0_3 0) (win0_4.stage 0) (hstage0_4 0) (Memref.whole cc0_scratch0) (Memref.isWhole_whole _)
      (Memref.whole cc0_scratch1) (Memref.isWhole_whole _) cc0_scratch2 cc0_scratch3 c v2 v234 xa xw x0) Q := by
  subst hx0
  rw [k0_part13_eq_skeleton]
  unfold k0_part13_skel
  refine send_step 25 (by exact (ext_bit _).trans (send_talk hv 25 hxa (send_need hs 25 hxw))) (send_sem 25 rfl _) (recv_sem c (k0_off52_eq c) _) (k0_off53_eq c) rfl rfl ?_
  refine send_step 26 (by exact (ext_bit _).trans (send_bit hv hs 26)) (send_sem 26 rfl _) (recv_sem c (k0_off54_eq c) _) (k0_off55_eq c) rfl rfl ?_
  refine send_step 27 (by exact (ext_bit _).trans (send_bit hv hs 27)) (send_sem 27 rfl _) (recv_sem c (k0_off56_eq c) _) (k0_off57_eq c) rfl rfl ?_
  refine send_step 28 (by exact (ext_bit _).trans (send_bit hv hs 28)) (send_sem 28 rfl _) (recv_sem c (k0_off58_eq c) _) (k0_off59_eq c) rfl rfl ?_
  refine send_step 29 (by exact (ext_bit _).trans (send_bit hv hs 29)) (send_sem 29 rfl _) (recv_sem c (k0_off60_eq c) _) (k0_off61_eq c) rfl rfl ?_
  exact run_ret (h _ ((ext_bit _).trans (send_bit hv hs 30)))

/-- The last copies, the own rows, the first arrivals: part 14 of the body. -/
theorem part14_run {v2 : BitVec 32} (hv : v2 = BitVec.ofNat 32 c.val)
    {v234 : IVec S32x1 32} (hs : ∀ j : Dev nD, Scalar.cmpi .sgt (v234 (ix2 j 0)) 0#32 = 1#1 ↔ Needs I c j)
    {v273 : IVec S1x32 32} (hr : ∀ s : Dev nD, Scalar.cmpi .sgt (v273 (ix2 0 s)) 0#32 = 1#1 ↔ Needs I s c)
    {xb : BitVec 1} (hxb : xb = 1#1 ↔ Talks I c 30)
    {R' : sProp (MT nD τ sig ℕ (Elt F) ℕ UU ℕ)}
    (hcv : iprop(know I pv κ c ∗ SendSt I pv c 32 ∗ R) ⊢ iprop(know I pv κ c ∗ RecvSt I pv c 0 ∗ R'))
    {Q : ((Σ' (v501 : FVec F S8x256 .f32) (v523 : FVec F S8x256 .f32) (v524 : BitVec 1) (v526 : BitVec 32), BitVec 32)) → sProp (MT nD τ sig ℕ (Elt F) ℕ UU ℕ)}
    (h : ∀ (yt : FVec F S8x256 .f32) (ya : BitVec 1) (yw : BitVec 32) (y0 : BitVec 32), (yt = acc I pv c (2 : Dev nD).val) → (ya = Scalar.cmpi .ne v2 (BitVec.ofNat 32 (2 : Dev nD).val)) → (yw = v273 (ix2 0 (2 : Dev nD))) → (y0 = 0#32) → iprop(know I pv κ c ∗ RecvSt I pv c ((1 : Dev nD).val + 1) ∗ R') ⊢ Q ⟨k0_pay56 (F := F), yt, ya, yw, y0⟩) :
    iprop(know I pv κ c ∗ SendSt I pv c (30 : Dev nD).val ∗ R)
      ⊢ run c (k0_part14 (F := F) (win0_0.stage 0) (hstage0_0 0) (win0_1.stage 0) (hstage0_1 0) (win0_2.stage 0) (hstage0_2 0) (win0_3.stage 0) (hstage0_3 0) (win0_4.stage 0) (hstage0_4 0) (Memref.whole cc0_scratch0) (Memref.isWhole_whole _)
      (Memref.whole cc0_scratch1) (Memref.isWhole_whole _) cc0_scratch2 cc0_scratch3 c v2 v234 v273 xb) Q := by
  rw [k0_part14_eq_skeleton]
  unfold k0_part14_skel
  refine send_step 30 (hxb) (send_sem 30 rfl _) (recv_sem c (k0_off62_eq c) _) (k0_off63_eq c) rfl rfl ?_
  refine send_step 31 (by exact (ext_bit _).trans (send_bit hv hs 31)) (send_sem 31 rfl _) (recv_sem c (k0_off64_eq c) _) (k0_off65_eq c) rfl rfl ?_
  refine own_step (k0_off66_eq c) ?_
  refine BIBase.Entails.trans hcv ?_
  refine recv_step 0 (by exact (ext_bit _).trans (recv_bit hv hr 0)) (recv_sem 0 rfl _) (by rfl) ?_
  refine load_step 0 (by decide) rfl fun _ g0 => ?_
  refine recv_step 1 (by exact (ext_bit _).trans (recv_bit hv hr 1)) (recv_sem 1 rfl _) (by rfl) ?_
  refine load_step 1 (by decide) rfl fun _ g1 => ?_
  exact run_ret (h _ _ _ _ (acc_step 1 (acc_step 0 rfl (by exact sel_eq 0 (recv_bit hv hr 0) g0)) (by exact sel_eq 1 (recv_bit hv hr 1) g1)) rfl (row_at v273 2) rfl)

end Cert.Moe
-- ==== Proof.Part4.lean ====
/- Arrivals. -/
module

public import proofs.«01_k».proof.Proof.Bits

@[expose] public section

set_option maxRecDepth 65536

noncomputable section

namespace Cert.Moe

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]

variable {I : IVec S256x2 32} {pv : Dev nD → Part (F := F)} {κ : GSem nD τ sig → ℕ} {c : Dev nD}
  {R : sProp (MT nD τ sig ℕ (Elt F) ℕ UU ℕ)}

/-- Arrivals: part 15 of the body. -/
theorem part15_run {v2 : BitVec 32} (hv : v2 = BitVec.ofNat 32 c.val)
    {v273 : IVec S1x32 32} (hr : ∀ s : Dev nD, Scalar.cmpi .sgt (v273 (ix2 0 s)) 0#32 = 1#1 ↔ Needs I s c)
    {xv : FVec F S8x256 .f32} (hxv : xv = k0_pay56 (F := F)) {xt : FVec F S8x256 .f32} (hxt : xt = acc I pv c (2 : Dev nD).val)
    {xa : BitVec 1} (hxa : xa = Scalar.cmpi .ne v2 (BitVec.ofNat 32 (2 : Dev nD).val))
    {xw : BitVec 32} (hxw : xw = v273 (ix2 0 (2 : Dev nD)))
    {x0 : BitVec 32} (hx0 : x0 = 0#32)
    {Q : ((Σ' (v556 : FVec F S8x256 .f32), BitVec 1)) → sProp (MT nD τ sig ℕ (Elt F) ℕ UU ℕ)}
    (h : ∀ (yt : FVec F S8x256 .f32) (yb : BitVec 1), (yt = acc I pv c (5 : Dev nD).val) → (yb = 1#1 ↔ Talks I 5 c) → iprop(know I pv κ c ∗ RecvSt I pv c ((5 : Dev nD).val + 1) ∗ R) ⊢ Q ⟨yt, yb⟩) :
    iprop(know I pv κ c ∗ RecvSt I pv c (2 : Dev nD).val ∗ R)
      ⊢ run c (k0_part15 (F := F) (win0_0.stage 0) (hstage0_0 0) (win0_1.stage 0) (hstage0_1 0) (win0_2.stage 0) (hstage0_2 0) (win0_3.stage 0) (hstage0_3 0) (win0_4.stage 0) (hstage0_4 0) (Memref.whole cc0_scratch0) (Memref.isWhole_whole _)
      (Memref.whole cc0_scratch1) (Memref.isWhole_whole _) cc0_scratch2 cc0_scratch3 v2 v273 xv xt xa xw x0) Q := by
  subst hxv hx0
  rw [k0_part15_eq_skeleton]
  unfold k0_part15_skel
  refine recv_step 2 (by exact (ext_bit _).trans (recv_talk hv 2 hxa (recv_need hr 2 hxw))) (recv_sem 2 rfl _) (by rfl) ?_
  refine load_step 2 (by decide) rfl fun _ g2 => ?_
  refine recv_step 3 (by exact (ext_bit _).trans (recv_bit hv hr 3)) (recv_sem 3 rfl _) (by rfl) ?_
  refine load_step 3 (by decide) rfl fun _ g3 => ?_
  refine recv_step 4 (by exact (ext_bit _).trans (recv_bit hv hr 4)) (recv_sem 4 rfl _) (by rfl) ?_
  refine load_step 4 (by decide) rfl fun _ g4 => ?_
  refine recv_step 5 (by exact (ext_bit _).trans (recv_bit hv hr 5)) (recv_sem 5 rfl _) (by rfl) ?_
  exact run_ret (h _ _ (acc_step 4 (acc_step 3 (acc_step 2 hxt (by exact sel_eq 2 (recv_talk hv 2 hxa (recv_need hr 2 hxw)) g2)) (by exact sel_eq 3 (recv_bit hv hr 3) g3)) (by exact sel_eq 4 (recv_bit hv hr 4) g4)) (recv_bit hv hr 5))

/-- Arrivals: part 16 of the body. -/
theorem part16_run {v2 : BitVec 32} (hv : v2 = BitVec.ofNat 32 c.val)
    {v273 : IVec S1x32 32} (hr : ∀ s : Dev nD, Scalar.cmpi .sgt (v273 (ix2 0 s)) 0#32 = 1#1 ↔ Needs I s c)
    {xv : FVec F S8x256 .f32} (hxv : xv = k0_pay56 (F := F)) {xt : FVec F S8x256 .f32} (hxt : xt = acc I pv c (5 : Dev nD).val)
    {xb : BitVec 1} (hxb : xb = 1#1 ↔ Talks I 5 c)
    {Q : ((Σ' (v589 : FVec F S8x256 .f32), FVec F S8x256 .f32)) → sProp (MT nD τ sig ℕ (Elt F) ℕ UU ℕ)}
    (h : ∀ (yt : FVec F S8x256 .f32) (ys : FVec F S8x256 .f32), (yt = acc I pv c (8 : Dev nD).val) → (ys = addend I pv c 8) → iprop(know I pv κ c ∗ RecvSt I pv c ((8 : Dev nD).val + 1) ∗ R) ⊢ Q ⟨yt, ys⟩) :
    iprop(know I pv κ c ∗ RecvSt I pv c (6 : Dev nD).val ∗ R)
      ⊢ run c (k0_part16 (F := F) (win0_0.stage 0) (hstage0_0 0) (win0_1.stage 0) (hstage0_1 0) (win0_2.stage 0) (hstage0_2 0) (win0_3.stage 0) (hstage0_3 0) (win0_4.stage 0) (hstage0_4 0) (Memref.whole cc0_scratch0) (Memref.isWhole_whole _)
      (Memref.whole cc0_scratch1) (Memref.isWhole_whole _) cc0_scratch2 cc0_scratch3 v2 v273 xv xt xb) Q := by
  subst hxv
  rw [k0_part16_eq_skeleton]
  unfold k0_part16_skel
  refine load_step 5 (by decide) rfl fun _ g5 => ?_
  refine recv_step 6 (by exact (ext_bit _).trans (recv_bit hv hr 6)) (recv_sem 6 rfl _) (by rfl) ?_
  refine load_step 6 (by decide) rfl fun _ g6 => ?_
  refine recv_step 7 (by exact (ext_bit _).trans (recv_bit hv hr 7)) (recv_sem 7 rfl _) (by rfl) ?_
  refine load_step 7 (by decide) rfl fun _ g7 => ?_
  refine recv_step 8 (by exact (ext_bit _).trans (recv_bit hv hr 8)) (recv_sem 8 rfl _) (by rfl) ?_
  refine load_step 8 (by decide) rfl fun _ g8 => ?_
  exact run_ret (h _ _ (acc_step 7 (acc_step 6 (acc_step 5 hxt (by exact sel_eq 5 (hxb) g5)) (by exact sel_eq 6 (recv_bit hv hr 6) g6)) (by exact sel_eq 7 (recv_bit hv hr 7) g7)) (sel_eq 8 (recv_bit hv hr 8) g8))

/-- Arrivals: part 17 of the body. -/
theorem part17_run {v2 : BitVec 32} (hv : v2 = BitVec.ofNat 32 c.val)
    {v273 : IVec S1x32 32} (hr : ∀ s : Dev nD, Scalar.cmpi .sgt (v273 (ix2 0 s)) 0#32 = 1#1 ↔ Needs I s c)
    {xv : FVec F S8x256 .f32} (hxv : xv = k0_pay56 (F := F)) {xt : FVec F S8x256 .f32} (hxt : xt = acc I pv c (8 : Dev nD).val)
    {xs : FVec F S8x256 .f32} (hxs : xs = addend I pv c 8)
    {Q : ((Σ' (v633 : FVec F S8x256 .f32) (v634 : BitVec 1) (v636 : BitVec 32), BitVec 32)) → sProp (MT nD τ sig ℕ (Elt F) ℕ UU ℕ)}
    (h : ∀ (yt : FVec F S8x256 .f32) (ya : BitVec 1) (yw : BitVec 32) (y0 : BitVec 32), (yt = acc I pv c (12 : Dev nD).val) → (ya = Scalar.cmpi .ne v2 (BitVec.ofNat 32 (12 : Dev nD).val)) → (yw = v273 (ix2 0 (12 : Dev nD))) → (y0 = 0#32) → iprop(know I pv κ c ∗ RecvSt I pv c ((11 : Dev nD).val + 1) ∗ R) ⊢ Q ⟨yt, ya, yw, y0⟩) :
    iprop(know I pv κ c ∗ RecvSt I pv c (9 : Dev nD).val ∗ R)
      ⊢ run c (k0_part17 (F := F) (win0_0.stage 0) (hstage0_0 0) (win0_1.stage 0) (hstage0_1 0) (win0_2.stage 0) (hstage0_2 0) (win0_3.stage 0) (hstage0_3 0) (win0_4.stage 0) (hstage0_4 0) (Memref.whole cc0_scratch0) (Memref.isWhole_whole _)
      (Memref.whole cc0_scratch1) (Memref.isWhole_whole _) cc0_scratch2 cc0_scratch3 v2 v273 xv xt xs) Q := by
  subst hxv
  rw [k0_part17_eq_skeleton]
  unfold k0_part17_skel
  refine recv_step 9 (by exact (ext_bit _).trans (recv_bit hv hr 9)) (recv_sem 9 rfl _) (by rfl) ?_
  refine load_step 9 (by decide) rfl fun _ g9 => ?_
  refine recv_step 10 (by exact (ext_bit _).trans (recv_bit hv hr 10)) (recv_sem 10 rfl _) (by rfl) ?_
  refine load_step 10 (by decide) rfl fun _ g10 => ?_
  refine recv_step 11 (by exact (ext_bit _).trans (recv_bit hv hr 11)) (recv_sem 11 rfl _) (by rfl) ?_
  refine load_step 11 (by decide) rfl fun _ g11 => ?_
  exact run_ret (h _ _ _ _ (acc_step 11 (acc_step 10 (acc_step 9 (acc_step 8 hxt (by exact hxs)) (by exact sel_eq 9 (recv_bit hv hr 9) g9)) (by exact sel_eq 10 (recv_bit hv hr 10) g10)) (by exact sel_eq 11 (recv_bit hv hr 11) g11)) rfl (row_at v273 12) rfl)

/-- Arrivals: part 18 of the body. -/
theorem part18_run {v2 : BitVec 32} (hv : v2 = BitVec.ofNat 32 c.val)
    {v273 : IVec S1x32 32} (hr : ∀ s : Dev nD, Scalar.cmpi .sgt (v273 (ix2 0 s)) 0#32 = 1#1 ↔ Needs I s c)
    {xv : FVec F S8x256 .f32} (hxv : xv = k0_pay56 (F := F)) {xt : FVec F S8x256 .f32} (hxt : xt = acc I pv c (12 : Dev nD).val)
    {xa : BitVec 1} (hxa : xa = Scalar.cmpi .ne v2 (BitVec.ofNat 32 (12 : Dev nD).val))
    {xw : BitVec 32} (hxw : xw = v273 (ix2 0 (12 : Dev nD)))
    {x0 : BitVec 32} (hx0 : x0 = 0#32)
    {Q : ((Σ' (v666 : FVec F S8x256 .f32), BitVec 1)) → sProp (MT nD τ sig ℕ (Elt F) ℕ UU ℕ)}
    (h : ∀ (yt : FVec F S8x256 .f32) (yb : BitVec 1), (yt = acc I pv c (15 : Dev nD).val) → (yb = 1#1 ↔ Talks I 15 c) → iprop(know I pv κ c ∗ RecvSt I pv c ((15 : Dev nD).val + 1) ∗ R) ⊢ Q ⟨yt, yb⟩) :
    iprop(know I pv κ c ∗ RecvSt I pv c (12 : Dev nD).val ∗ R)
      ⊢ run c (k0_part18 (F := F) (win0_0.stage 0) (hstage0_0 0) (win0_1.stage 0) (hstage0_1 0) (win0_2.stage 0) (hstage0_2 0) (win0_3.stage 0) (hstage0_3 0) (win0_4.stage 0) (hstage0_4 0) (Memref.whole cc0_scratch0) (Memref.isWhole_whole _)
      (Memref.whole cc0_scratch1) (Memref.isWhole_whole _) cc0_scratch2 cc0_scratch3 v2 v273 xv xt xa xw x0) Q := by
  subst hxv hx0
  rw [k0_part18_eq_skeleton]
  unfold k0_part18_skel
  refine recv_step 12 (by exact (ext_bit _).trans (recv_talk hv 12 hxa (recv_need hr 12 hxw))) (recv_sem 12 rfl _) (by rfl) ?_
  refine load_step 12 (by decide) rfl fun _ g12 => ?_
  refine recv_step 13 (by exact (ext_bit _).trans (recv_bit hv hr 13)) (recv_sem 13 rfl _) (by rfl) ?_
  refine load_step 13 (by decide) rfl fun _ g13 => ?_
  refine recv_step 14 (by exact (ext_bit _).trans (recv_bit hv hr 14)) (recv_sem 14 rfl _) (by rfl) ?_
  refine load_step 14 (by decide) rfl fun _ g14 => ?_
  refine recv_step 15 (by exact (ext_bit _).trans (recv_bit hv hr 15)) (recv_sem 15 rfl _) (by rfl) ?_
  exact run_ret (h _ _ (acc_step 14 (acc_step 13 (acc_step 12 hxt (by exact sel_eq 12 (recv_talk hv 12 hxa (recv_need hr 12 hxw)) g12)) (by exact sel_eq 13 (recv_bit hv hr 13) g13)) (by exact sel_eq 14 (recv_bit hv hr 14) g14)) (recv_bit hv hr 15))

/-- Arrivals: part 19 of the body. -/
theorem part19_run {v2 : BitVec 32} (hv : v2 = BitVec.ofNat 32 c.val)
    {v273 : IVec S1x32 32} (hr : ∀ s : Dev nD, Scalar.cmpi .sgt (v273 (ix2 0 s)) 0#32 = 1#1 ↔ Needs I s c)
    {xv : FVec F S8x256 .f32} (hxv : xv = k0_pay56 (F := F)) {xt : FVec F S8x256 .f32} (hxt : xt = acc I pv c (15 : Dev nD).val)
    {xb : BitVec 1} (hxb : xb = 1#1 ↔ Talks I 15 c)
    {Q : ((Σ' (v699 : FVec F S8x256 .f32), FVec F S8x256 .f32)) → sProp (MT nD τ sig ℕ (Elt F) ℕ UU ℕ)}
    (h : ∀ (yt : FVec F S8x256 .f32) (ys : FVec F S8x256 .f32), (yt = acc I pv c (18 : Dev nD).val) → (ys = addend I pv c 18) → iprop(know I pv κ c ∗ RecvSt I pv c ((18 : Dev nD).val + 1) ∗ R) ⊢ Q ⟨yt, ys⟩) :
    iprop(know I pv κ c ∗ RecvSt I pv c (16 : Dev nD).val ∗ R)
      ⊢ run c (k0_part19 (F := F) (win0_0.stage 0) (hstage0_0 0) (win0_1.stage 0) (hstage0_1 0) (win0_2.stage 0) (hstage0_2 0) (win0_3.stage 0) (hstage0_3 0) (win0_4.stage 0) (hstage0_4 0) (Memref.whole cc0_scratch0) (Memref.isWhole_whole _)
      (Memref.whole cc0_scratch1) (Memref.isWhole_whole _) cc0_scratch2 cc0_scratch3 v2 v273 xv xt xb) Q := by
  subst hxv
  rw [k0_part19_eq_skeleton]
  unfold k0_part19_skel
  refine load_step 15 (by decide) rfl fun _ g15 => ?_
  refine recv_step 16 (by exact (ext_bit _).trans (recv_bit hv hr 16)) (recv_sem 16 rfl _) (by rfl) ?_
  refine load_step 16 (by decide) rfl fun _ g16 => ?_
  refine recv_step 17 (by exact (ext_bit _).trans (recv_bit hv hr 17)) (recv_sem 17 rfl _) (by rfl) ?_
  refine load_step 17 (by decide) rfl fun _ g17 => ?_
  refine recv_step 18 (by exact (ext_bit _).trans (recv_bit hv hr 18)) (recv_sem 18 rfl _) (by rfl) ?_
  refine load_step 18 (by decide) rfl fun _ g18 => ?_
  exact run_ret (h _ _ (acc_step 17 (acc_step 16 (acc_step 15 hxt (by exact sel_eq 15 (hxb) g15)) (by exact sel_eq 16 (recv_bit hv hr 16) g16)) (by exact sel_eq 17 (recv_bit hv hr 17) g17)) (sel_eq 18 (recv_bit hv hr 18) g18))

end Cert.Moe
-- ==== Proof.Part5.lean ====
/- The last arrivals. -/
module

public import proofs.«01_k».proof.Proof.Bits

@[expose] public section

set_option maxRecDepth 65536

noncomputable section

namespace Cert.Moe

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]

variable {I : IVec S256x2 32} {pv : Dev nD → Part (F := F)} {κ : GSem nD τ sig → ℕ} {c : Dev nD}
  {R : sProp (MT nD τ sig ℕ (Elt F) ℕ UU ℕ)}

/-- Arrivals: part 20 of the body. -/
theorem part20_run {v2 : BitVec 32} (hv : v2 = BitVec.ofNat 32 c.val)
    {v273 : IVec S1x32 32} (hr : ∀ s : Dev nD, Scalar.cmpi .sgt (v273 (ix2 0 s)) 0#32 = 1#1 ↔ Needs I s c)
    {xv : FVec F S8x256 .f32} (hxv : xv = k0_pay56 (F := F)) {xt : FVec F S8x256 .f32} (hxt : xt = acc I pv c (18 : Dev nD).val)
    {xs : FVec F S8x256 .f32} (hxs : xs = addend I pv c 18)
    {Q : ((Σ' (v743 : FVec F S8x256 .f32) (v744 : BitVec 1) (v746 : BitVec 32), BitVec 32)) → sProp (MT nD τ sig ℕ (Elt F) ℕ UU ℕ)}
    (h : ∀ (yt : FVec F S8x256 .f32) (ya : BitVec 1) (yw : BitVec 32) (y0 : BitVec 32), (yt = acc I pv c (22 : Dev nD).val) → (ya = Scalar.cmpi .ne v2 (BitVec.ofNat 32 (22 : Dev nD).val)) → (yw = v273 (ix2 0 (22 : Dev nD))) → (y0 = 0#32) → iprop(know I pv κ c ∗ RecvSt I pv c ((21 : Dev nD).val + 1) ∗ R) ⊢ Q ⟨yt, ya, yw, y0⟩) :
    iprop(know I pv κ c ∗ RecvSt I pv c (19 : Dev nD).val ∗ R)
      ⊢ run c (k0_part20 (F := F) (win0_0.stage 0) (hstage0_0 0) (win0_1.stage 0) (hstage0_1 0) (win0_2.stage 0) (hstage0_2 0) (win0_3.stage 0) (hstage0_3 0) (win0_4.stage 0) (hstage0_4 0) (Memref.whole cc0_scratch0) (Memref.isWhole_whole _)
      (Memref.whole cc0_scratch1) (Memref.isWhole_whole _) cc0_scratch2 cc0_scratch3 v2 v273 xv xt xs) Q := by
  subst hxv
  rw [k0_part20_eq_skeleton]
  unfold k0_part20_skel
  refine recv_step 19 (by exact (ext_bit _).trans (recv_bit hv hr 19)) (recv_sem 19 rfl _) (by rfl) ?_
  refine load_step 19 (by decide) rfl fun _ g19 => ?_
  refine recv_step 20 (by exact (ext_bit _).trans (recv_bit hv hr 20)) (recv_sem 20 rfl _) (by rfl) ?_
  refine load_step 20 (by decide) rfl fun _ g20 => ?_
  refine recv_step 21 (by exact (ext_bit _).trans (recv_bit hv hr 21)) (recv_sem 21 rfl _) (by rfl) ?_
  refine load_step 21 (by decide) rfl fun _ g21 => ?_
  exact run_ret (h _ _ _ _ (acc_step 21 (acc_step 20 (acc_step 19 (acc_step 18 hxt (by exact hxs)) (by exact sel_eq 19 (recv_bit hv hr 19) g19)) (by exact sel_eq 20 (recv_bit hv hr 20) g20)) (by exact sel_eq 21 (recv_bit hv hr 21) g21)) rfl (row_at v273 22) rfl)

/-- Arrivals: part 21 of the body. -/
theorem part21_run {v2 : BitVec 32} (hv : v2 = BitVec.ofNat 32 c.val)
    {v273 : IVec S1x32 32} (hr : ∀ s : Dev nD, Scalar.cmpi .sgt (v273 (ix2 0 s)) 0#32 = 1#1 ↔ Needs I s c)
    {xv : FVec F S8x256 .f32} (hxv : xv = k0_pay56 (F := F)) {xt : FVec F S8x256 .f32} (hxt : xt = acc I pv c (22 : Dev nD).val)
    {xa : BitVec 1} (hxa : xa = Scalar.cmpi .ne v2 (BitVec.ofNat 32 (22 : Dev nD).val))
    {xw : BitVec 32} (hxw : xw = v273 (ix2 0 (22 : Dev nD)))
    {x0 : BitVec 32} (hx0 : x0 = 0#32)
    {Q : ((Σ' (v776 : FVec F S8x256 .f32), BitVec 1)) → sProp (MT nD τ sig ℕ (Elt F) ℕ UU ℕ)}
    (h : ∀ (yt : FVec F S8x256 .f32) (yb : BitVec 1), (yt = acc I pv c (25 : Dev nD).val) → (yb = 1#1 ↔ Talks I 25 c) → iprop(know I pv κ c ∗ RecvSt I pv c ((25 : Dev nD).val + 1) ∗ R) ⊢ Q ⟨yt, yb⟩) :
    iprop(know I pv κ c ∗ RecvSt I pv c (22 : Dev nD).val ∗ R)
      ⊢ run c (k0_part21 (F := F) (win0_0.stage 0) (hstage0_0 0) (win0_1.stage 0) (hstage0_1 0) (win0_2.stage 0) (hstage0_2 0) (win0_3.stage 0) (hstage0_3 0) (win0_4.stage 0) (hstage0_4 0) (Memref.whole cc0_scratch0) (Memref.isWhole_whole _)
      (Memref.whole cc0_scratch1) (Memref.isWhole_whole _) cc0_scratch2 cc0_scratch3 v2 v273 xv xt xa xw x0) Q := by
  subst hxv hx0
  rw [k0_part21_eq_skeleton]
  unfold k0_part21_skel
  refine recv_step 22 (by exact (ext_bit _).trans (recv_talk hv 22 hxa (recv_need hr 22 hxw))) (recv_sem 22 rfl _) (by rfl) ?_
  refine load_step 22 (by decide) rfl fun _ g22 => ?_
  refine recv_step 23 (by exact (ext_bit _).trans (recv_bit hv hr 23)) (recv_sem 23 rfl _) (by rfl) ?_
  refine load_step 23 (by decide) rfl fun _ g23 => ?_
  refine recv_step 24 (by exact (ext_bit _).trans (recv_bit hv hr 24)) (recv_sem 24 rfl _) (by rfl) ?_
  refine load_step 24 (by decide) rfl fun _ g24 => ?_
  refine recv_step 25 (by exact (ext_bit _).trans (recv_bit hv hr 25)) (recv_sem 25 rfl _) (by rfl) ?_
  exact run_ret (h _ _ (acc_step 24 (acc_step 23 (acc_step 22 hxt (by exact sel_eq 22 (recv_talk hv 22 hxa (recv_need hr 22 hxw)) g22)) (by exact sel_eq 23 (recv_bit hv hr 23) g23)) (by exact sel_eq 24 (recv_bit hv hr 24) g24)) (recv_bit hv hr 25))

/-- Arrivals: part 22 of the body. -/
theorem part22_run {v2 : BitVec 32} (hv : v2 = BitVec.ofNat 32 c.val)
    {v273 : IVec S1x32 32} (hr : ∀ s : Dev nD, Scalar.cmpi .sgt (v273 (ix2 0 s)) 0#32 = 1#1 ↔ Needs I s c)
    {xv : FVec F S8x256 .f32} (hxv : xv = k0_pay56 (F := F)) {xt : FVec F S8x256 .f32} (hxt : xt = acc I pv c (25 : Dev nD).val)
    {xb : BitVec 1} (hxb : xb = 1#1 ↔ Talks I 25 c)
    {Q : ((Σ' (v809 : FVec F S8x256 .f32), FVec F S8x256 .f32)) → sProp (MT nD τ sig ℕ (Elt F) ℕ UU ℕ)}
    (h : ∀ (yt : FVec F S8x256 .f32) (ys : FVec F S8x256 .f32), (yt = acc I pv c (28 : Dev nD).val) → (ys = addend I pv c 28) → iprop(know I pv κ c ∗ RecvSt I pv c ((28 : Dev nD).val + 1) ∗ R) ⊢ Q ⟨yt, ys⟩) :
    iprop(know I pv κ c ∗ RecvSt I pv c (26 : Dev nD).val ∗ R)
      ⊢ run c (k0_part22 (F := F) (win0_0.stage 0) (hstage0_0 0) (win0_1.stage 0) (hstage0_1 0) (win0_2.stage 0) (hstage0_2 0) (win0_3.stage 0) (hstage0_3 0) (win0_4.stage 0) (hstage0_4 0) (Memref.whole cc0_scratch0) (Memref.isWhole_whole _)
      (Memref.whole cc0_scratch1) (Memref.isWhole_whole _) cc0_scratch2 cc0_scratch3 v2 v273 xv xt xb) Q := by
  subst hxv
  rw [k0_part22_eq_skeleton]
  unfold k0_part22_skel
  refine load_step 25 (by decide) rfl fun _ g25 => ?_
  refine recv_step 26 (by exact (ext_bit _).trans (recv_bit hv hr 26)) (recv_sem 26 rfl _) (by rfl) ?_
  refine load_step 26 (by decide) rfl fun _ g26 => ?_
  refine recv_step 27 (by exact (ext_bit _).trans (recv_bit hv hr 27)) (recv_sem 27 rfl _) (by rfl) ?_
  refine load_step 27 (by decide) rfl fun _ g27 => ?_
  refine recv_step 28 (by exact (ext_bit _).trans (recv_bit hv hr 28)) (recv_sem 28 rfl _) (by rfl) ?_
  refine load_step 28 (by decide) rfl fun _ g28 => ?_
  exact run_ret (h _ _ (acc_step 27 (acc_step 26 (acc_step 25 hxt (by exact sel_eq 25 (hxb) g25)) (by exact sel_eq 26 (recv_bit hv hr 26) g26)) (by exact sel_eq 27 (recv_bit hv hr 27) g27)) (sel_eq 28 (recv_bit hv hr 28) g28))

/-- Arrivals: part 23 of the body. -/
theorem part23_run {v2 : BitVec 32} (hv : v2 = BitVec.ofNat 32 c.val)
    {v273 : IVec S1x32 32} (hr : ∀ s : Dev nD, Scalar.cmpi .sgt (v273 (ix2 0 s)) 0#32 = 1#1 ↔ Needs I s c)
    {xv : FVec F S8x256 .f32} (hxv : xv = k0_pay56 (F := F)) {xt : FVec F S8x256 .f32} (hxt : xt = acc I pv c (28 : Dev nD).val)
    {xs : FVec F S8x256 .f32} (hxs : xs = addend I pv c 28)
    {Q : ((BitVec 32)) → sProp (MT nD τ sig ℕ (Elt F) ℕ UU ℕ)}
    (h : ∀ w : FVec F S8x256 .f32, w = acc I pv c 32 → iprop(know I pv κ c ∗ RecvSt I pv c ((31 : Dev nD).val + 1) ∗ R) ⊢ run c (do
          let _v854 : Vec F S8x256 .f32 ← Prog.lift (.load (win0_4.stage 0) (Rect.unit (s := S8x256) ![0, 0] S8x256.size inb_S8x256_S8x256_0_0).toLoadRect (View.loadsAt_vmem h_S8x256))
          Prog.lift (.store (win0_4.stage 0) (Rect.unit (s := S8x256) ![0, 0] S8x256.size inb_S8x256_S8x256_0_0) w Finset.univ (View.stores_vmem_bits_univ h_S8x256 rfl) (.inl rfl))
          pure 0#32) Q) :
    iprop(know I pv κ c ∗ RecvSt I pv c (29 : Dev nD).val ∗ R)
      ⊢ run c (k0_part23 (F := F) (win0_0.stage 0) (hstage0_0 0) (win0_1.stage 0) (hstage0_1 0) (win0_2.stage 0) (hstage0_2 0) (win0_3.stage 0) (hstage0_3 0) (win0_4.stage 0) (hstage0_4 0) (Memref.whole cc0_scratch0) (Memref.isWhole_whole _)
      (Memref.whole cc0_scratch1) (Memref.isWhole_whole _) cc0_scratch2 cc0_scratch3 v2 v273 xv xt xs) Q := by
  subst hxv
  rw [k0_part23_eq_skeleton]
  unfold k0_part23_skel
  refine recv_step 29 (by exact (ext_bit _).trans (recv_bit hv hr 29)) (recv_sem 29 rfl _) (by rfl) ?_
  refine load_step 29 (by decide) rfl fun _ g29 => ?_
  refine recv_step 30 (by exact (ext_bit _).trans (recv_bit hv hr 30)) (recv_sem 30 rfl _) (by rfl) ?_
  refine load_step 30 (by decide) rfl fun _ g30 => ?_
  refine recv_step 31 (by exact (ext_bit _).trans (recv_bit hv hr 31)) (recv_sem 31 rfl _) (by rfl) ?_
  refine load_step 31 (by decide) rfl fun _ g31 => ?_
  exact h _ (acc_step 31 (acc_step 30 (acc_step 29 (acc_step 28 hxt (by exact hxs)) (by exact sel_eq 29 (recv_bit hv hr 29) g29)) (by exact sel_eq 30 (recv_bit hv hr 30) g30)) (by exact sel_eq 31 (recv_bit hv hr 31) g31))

end Cert.Moe
-- ==== Proof.Part6.lean ====
/- The ends of the copies. -/
module

public import proofs.«01_k».proof.Proof.Bits

@[expose] public section

set_option maxRecDepth 65536

noncomputable section

namespace Cert.Moe

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]

variable {I : IVec S256x2 32} {pv : Dev nD → Part (F := F)} {κ : GSem nD τ sig → ℕ} {c : Dev nD}
  {R : sProp (MT nD τ sig ℕ (Elt F) ℕ UU ℕ)}

/-- Ends of copies: part 24 of the body. -/
theorem part24_run {v2 : BitVec 32} (hv : v2 = BitVec.ofNat 32 c.val)
    {v234 : IVec S32x1 32} (hs : ∀ j : Dev nD, Scalar.cmpi .sgt (v234 (ix2 j 0)) 0#32 = 1#1 ↔ Needs I c j)
    {x0 : BitVec 32} (hx0 : x0 = 0#32)
    {Q : ((Σ' (v890 : BitVec 1), BitVec 1)) → sProp (MT nD τ sig ℕ (Elt F) ℕ UU ℕ)}
    (h : ∀ (ya : BitVec 1) (yb : BitVec 1), (ya = Scalar.cmpi .ne v2 (BitVec.ofNat 32 (5 : Dev nD).val)) → (yb = 1#1 ↔ Needs I c 5) → iprop(know I pv κ c ∗ DoneSt I pv c ((4 : Dev nD).val + 1) ∗ R) ⊢ Q ⟨ya, yb⟩) :
    iprop(know I pv κ c ∗ DoneSt I pv c (0 : Dev nD).val ∗ R)
      ⊢ run c (k0_part24 (F := F) (win0_0.stage 0) (hstage0_0 0) (win0_1.stage 0) (hstage0_1 0) (win0_2.stage 0) (hstage0_2 0) (win0_3.stage 0) (hstage0_3 0) (win0_4.stage 0) (hstage0_4 0) (Memref.whole cc0_scratch0) (Memref.isWhole_whole _)
      (Memref.whole cc0_scratch1) (Memref.isWhole_whole _) cc0_scratch2 cc0_scratch3 c v2 v234 x0) Q := by
  subst hx0
  rw [k0_part24_eq_skeleton]
  unfold k0_part24_skel
  refine done_step 0 (by exact (ext_bit _).trans (send_bit hv hs 0)) (send_sem 0 rfl _) (by rfl) ?_
  refine done_step 1 (by exact (ext_bit _).trans (send_bit hv hs 1)) (send_sem 1 rfl _) (by rfl) ?_
  refine done_step 2 (by exact (ext_bit _).trans (send_bit hv hs 2)) (send_sem 2 rfl _) (by rfl) ?_
  refine done_step 3 (by exact (ext_bit _).trans (send_bit hv hs 3)) (send_sem 3 rfl _) (by rfl) ?_
  refine done_step 4 (by exact (ext_bit _).trans (send_bit hv hs 4)) (send_sem 4 rfl _) (by rfl) ?_
  exact run_ret (h _ _ rfl (send_need hs 5 (col_at v234 5)))

/-- Ends of copies: part 25 of the body. -/
theorem part25_run {v2 : BitVec 32} (hv : v2 = BitVec.ofNat 32 c.val)
    {v234 : IVec S32x1 32} (hs : ∀ j : Dev nD, Scalar.cmpi .sgt (v234 (ix2 j 0)) 0#32 = 1#1 ↔ Needs I c j)
    {xa : BitVec 1} (hxa : xa = Scalar.cmpi .ne v2 (BitVec.ofNat 32 (5 : Dev nD).val))
    {xb : BitVec 1} (hxb : xb = 1#1 ↔ Needs I c 5)
    {Q : ((PUnit)) → sProp (MT nD τ sig ℕ (Elt F) ℕ UU ℕ)}
    (h : iprop(know I pv κ c ∗ DoneSt I pv c ((10 : Dev nD).val + 1) ∗ R) ⊢ Q ⟨⟩) :
    iprop(know I pv κ c ∗ DoneSt I pv c (5 : Dev nD).val ∗ R)
      ⊢ run c (k0_part25 (F := F) (win0_0.stage 0) (hstage0_0 0) (win0_1.stage 0) (hstage0_1 0) (win0_2.stage 0) (hstage0_2 0) (win0_3.stage 0) (hstage0_3 0) (win0_4.stage 0) (hstage0_4 0) (Memref.whole cc0_scratch0) (Memref.isWhole_whole _)
      (Memref.whole cc0_scratch1) (Memref.isWhole_whole _) cc0_scratch2 cc0_scratch3 c v2 v234 xa xb) Q := by
  rw [k0_part25_eq_skeleton]
  unfold k0_part25_skel
  refine done_step 5 (by exact (ext_bit _).trans (send_talk hv 5 hxa hxb)) (send_sem 5 rfl _) (by rfl) ?_
  refine done_step 6 (by exact (ext_bit _).trans (send_bit hv hs 6)) (send_sem 6 rfl _) (by rfl) ?_
  refine done_step 7 (by exact (ext_bit _).trans (send_bit hv hs 7)) (send_sem 7 rfl _) (by rfl) ?_
  refine done_step 8 (by exact (ext_bit _).trans (send_bit hv hs 8)) (send_sem 8 rfl _) (by rfl) ?_
  refine done_step 9 (by exact (ext_bit _).trans (send_bit hv hs 9)) (send_sem 9 rfl _) (by rfl) ?_
  refine done_step 10 (by exact (ext_bit _).trans (send_bit hv hs 10)) (send_sem 10 rfl _) (by rfl) ?_
  exact run_ret h

/-- Ends of copies: part 26 of the body. -/
theorem part26_run {v2 : BitVec 32} (hv : v2 = BitVec.ofNat 32 c.val)
    {v234 : IVec S32x1 32} (hs : ∀ j : Dev nD, Scalar.cmpi .sgt (v234 (ix2 j 0)) 0#32 = 1#1 ↔ Needs I c j)
    {Q : ((Σ' (v967 : BitVec 1) (v969 : BitVec 32), BitVec 32)) → sProp (MT nD τ sig ℕ (Elt F) ℕ UU ℕ)}
    (h : ∀ (ya : BitVec 1) (yw : BitVec 32) (y0 : BitVec 32), (ya = Scalar.cmpi .ne v2 (BitVec.ofNat 32 (16 : Dev nD).val)) → (yw = v234 (ix2 (16 : Dev nD) 0)) → (y0 = 0#32) → iprop(know I pv κ c ∗ DoneSt I pv c ((15 : Dev nD).val + 1) ∗ R) ⊢ Q ⟨ya, yw, y0⟩) :
    iprop(know I pv κ c ∗ DoneSt I pv c (11 : Dev nD).val ∗ R)
      ⊢ run c (k0_part26 (F := F) (win0_0.stage 0) (hstage0_0 0) (win0_1.stage 0) (hstage0_1 0) (win0_2.stage 0) (hstage0_2 0) (win0_3.stage 0) (hstage0_3 0) (win0_4.stage 0) (hstage0_4 0) (Memref.whole cc0_scratch0) (Memref.isWhole_whole _)
      (Memref.whole cc0_scratch1) (Memref.isWhole_whole _) cc0_scratch2 cc0_scratch3 c v2 v234 ) Q := by
  rw [k0_part26_eq_skeleton]
  unfold k0_part26_skel
  refine done_step 11 (by exact (ext_bit _).trans (send_bit hv hs 11)) (send_sem 11 rfl _) (by rfl) ?_
  refine done_step 12 (by exact (ext_bit _).trans (send_bit hv hs 12)) (send_sem 12 rfl _) (by rfl) ?_
  refine done_step 13 (by exact (ext_bit _).trans (send_bit hv hs 13)) (send_sem 13 rfl _) (by rfl) ?_
  refine done_step 14 (by exact (ext_bit _).trans (send_bit hv hs 14)) (send_sem 14 rfl _) (by rfl) ?_
  refine done_step 15 (by exact (ext_bit _).trans (send_bit hv hs 15)) (send_sem 15 rfl _) (by rfl) ?_
  exact run_ret (h _ _ _ rfl (col_at v234 16) rfl)

/-- Ends of copies: part 27 of the body. -/
theorem part27_run {v2 : BitVec 32} (hv : v2 = BitVec.ofNat 32 c.val)
    {v234 : IVec S32x1 32} (hs : ∀ j : Dev nD, Scalar.cmpi .sgt (v234 (ix2 j 0)) 0#32 = 1#1 ↔ Needs I c j)
    {xa : BitVec 1} (hxa : xa = Scalar.cmpi .ne v2 (BitVec.ofNat 32 (16 : Dev nD).val))
    {xw : BitVec 32} (hxw : xw = v234 (ix2 (16 : Dev nD) 0))
    {x0 : BitVec 32} (hx0 : x0 = 0#32)
    {Q : ((BitVec 1)) → sProp (MT nD τ sig ℕ (Elt F) ℕ UU ℕ)}
    (h : ∀ (yb : BitVec 1), (yb = 1#1 ↔ Talks I c 21) → iprop(know I pv κ c ∗ DoneSt I pv c ((20 : Dev nD).val + 1) ∗ R) ⊢ Q yb) :
    iprop(know I pv κ c ∗ DoneSt I pv c (16 : Dev nD).val ∗ R)
      ⊢ run c (k0_part27 (F := F) (win0_0.stage 0) (hstage0_0 0) (win0_1.stage 0) (hstage0_1 0) (win0_2.stage 0) (hstage0_2 0) (win0_3.stage 0) (hstage0_3 0) (win0_4.stage 0) (hstage0_4 0) (Memref.whole cc0_scratch0) (Memref.isWhole_whole _)
      (Memref.whole cc0_scratch1) (Memref.isWhole_whole _) cc0_scratch2 cc0_scratch3 c v2 v234 xa xw x0) Q := by
  subst hx0
  rw [k0_part27_eq_skeleton]
  unfold k0_part27_skel
  refine done_step 16 (by exact (ext_bit _).trans (send_talk hv 16 hxa (send_need hs 16 hxw))) (send_sem 16 rfl _) (by rfl) ?_
  refine done_step 17 (by exact (ext_bit _).trans (send_bit hv hs 17)) (send_sem 17 rfl _) (by rfl) ?_
  refine done_step 18 (by exact (ext_bit _).trans (send_bit hv hs 18)) (send_sem 18 rfl _) (by rfl) ?_
  refine done_step 19 (by exact (ext_bit _).trans (send_bit hv hs 19)) (send_sem 19 rfl _) (by rfl) ?_
  refine done_step 20 (by exact (ext_bit _).trans (send_bit hv hs 20)) (send_sem 20 rfl _) (by rfl) ?_
  exact run_ret (h _ ((ext_bit _).trans (send_bit hv hs 21)))

/-- Ends of copies: part 28 of the body. -/
theorem part28_run {v2 : BitVec 32} (hv : v2 = BitVec.ofNat 32 c.val)
    {v234 : IVec S32x1 32} (hs : ∀ j : Dev nD, Scalar.cmpi .sgt (v234 (ix2 j 0)) 0#32 = 1#1 ↔ Needs I c j)
    {xb : BitVec 1} (hxb : xb = 1#1 ↔ Talks I c 21)
    {Q : ((Σ' (v1044 : BitVec 1), BitVec 32)) → sProp (MT nD τ sig ℕ (Elt F) ℕ UU ℕ)}
    (h : ∀ (ya : BitVec 1) (yw : BitVec 32), (ya = Scalar.cmpi .ne v2 (BitVec.ofNat 32 (27 : Dev nD).val)) → (yw = v234 (ix2 (27 : Dev nD) 0)) → iprop(know I pv κ c ∗ DoneSt I pv c ((26 : Dev nD).val + 1) ∗ R) ⊢ Q ⟨ya, yw⟩) :
    iprop(know I pv κ c ∗ DoneSt I pv c (21 : Dev nD).val ∗ R)
      ⊢ run c (k0_part28 (F := F) (win0_0.stage 0) (hstage0_0 0) (win0_1.stage 0) (hstage0_1 0) (win0_2.stage 0) (hstage0_2 0) (win0_3.stage 0) (hstage0_3 0) (win0_4.stage 0) (hstage0_4 0) (Memref.whole cc0_scratch0) (Memref.isWhole_whole _)
      (Memref.whole cc0_scratch1) (Memref.isWhole_whole _) cc0_scratch2 cc0_scratch3 c v2 v234 xb) Q := by
  rw [k0_part28_eq_skeleton]
  unfold k0_part28_skel
  refine done_step 21 (hxb) (send_sem 21 rfl _) (by rfl) ?_
  refine done_step 22 (by exact (ext_bit _).trans (send_bit hv hs 22)) (send_sem 22 rfl _) (by rfl) ?_
  refine done_step 23 (by exact (ext_bit _).trans (send_bit hv hs 23)) (send_sem 23 rfl _) (by rfl) ?_
  refine done_step 24 (by exact (ext_bit _).trans (send_bit hv hs 24)) (send_sem 24 rfl _) (by rfl) ?_
  refine done_step 25 (by exact (ext_bit _).trans (send_bit hv hs 25)) (send_sem 25 rfl _) (by rfl) ?_
  refine done_step 26 (by exact (ext_bit _).trans (send_bit hv hs 26)) (send_sem 26 rfl _) (by rfl) ?_
  exact run_ret (h _ _ rfl (col_at v234 27))

end Cert.Moe
-- ==== Proof.Between.lean ====
/- The body of the kernel, run from its parts: from the staged arrays to the device's block of the result. -/
module

public import proofs.«01_k».proof.Proof.Front
public import proofs.«01_k».proof.Proof.Part1
public import proofs.«01_k».proof.Proof.Part2
public import proofs.«01_k».proof.Proof.Part3
public import proofs.«01_k».proof.Proof.Part4
public import proofs.«01_k».proof.Proof.Part5
public import proofs.«01_k».proof.Proof.Part6

@[expose] public section

noncomputable section

namespace Cert.Moe

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]

local notation "𝕄" => MT nD τ sig ℕ (Elt F) ℕ UU ℕ

variable {A : Type} {I : IVec S256x2 32} {pv : Dev nD → Part (F := F)} {κ : GSem nD τ sig → ℕ} {c : Dev nD}
  {R P : sProp (MT nD τ sig ℕ (Elt F) ℕ UU ℕ)} {Q : A → sProp (MT nD τ sig ℕ (Elt F) ℕ UU ℕ)}

/-! ## Between the phases -/

/-- What device `c` holds for the arrivals: its places, and a claim to each coming copy. -/
def recvAt (I : IVec S256x2 32) (c : Dev nD) : sProp 𝕄 :=
  bigSep Finset.univ fun s : Dev nD => iprop(atPos ET (recvC c s) 0 ∅ 0 ∗ (if Talks I s c then cred (tallyAt (recvC c s) 5 N) else iprop(emp)))
/-- The places of its own copies. -/
def sendAt (c : Dev nD) : sProp 𝕄 := bigSep Finset.univ fun j : Dev nD => atPos ET (sendC c j) 0 ∅ 0

/-- After the last copy the waits for the arrivals begin. -/
theorem to_recv : iprop(know I pv κ c ∗ SendSt I pv c 32 ∗ (bigSep Finset.univ (sigPost I c) ∗ atPos ET (barC c) 1 ∅ 0 ∗ (recvAt I c ∗ R)))
    ⊢ iprop(know I pv κ c ∗ RecvSt I pv c 0 ∗ (bigSep Finset.univ (sendPost I pv c) ∗ atPos ET (barC c) 1 ∅ 0 ∗ R)) := by
  have e : iprop(bigSep Finset.univ (sigPost (F := F) I c) ∗ recvAt I c) ⊢ bigSep Finset.univ (recvPre (F := F) I c) := by
    unfold recvAt
    rw [← bigSep_sep']
    refine bigSep_mono fun k _ => ?_
    change BIBase.Entails (PROP := sProp 𝕄) _ _
    unfold sigPost recvPre
    by_cases hT : Talks I k c
    · rw [if_pos hT, if_pos hT, if_pos hT]
      iintro ⟨-, Ha, Hc⟩
      isplitl [Ha]; · iexact Ha
      iexact Hc
    · rw [if_neg hT, if_neg hT, if_neg hT]
      iintro ⟨Hs, Ha, -⟩
      isplitl [Ha]; · iexact Ha
      iexact Hs
  have e2 : dueS I c 32 = 0 := due_end _ _
  unfold SendSt RecvSt
  rw [upTo_zero, upTo_end, e2]
  iintro ⟨HK, ⟨HO, Hs⟩, Hg, Hb, Hr, HR⟩
  isplitl [HK]; · iexact HK
  isplitl [HO Hg Hr]
  · isplitl [HO]; · iexact HO
    iapply e
    isplitl [Hg]; · iexact Hg
    iexact Hr
  isplitl [Hs]; · iexact Hs
  isplitl [Hb]; · iexact Hb
  iexact HR

/-- After the last arrival the waits for the own copies begin. -/
theorem to_done : iprop(know I pv κ c ∗ RecvSt I pv c 32 ∗ (bigSep Finset.univ (sendPost I pv c) ∗ atPos ET (barC c) 1 ∅ 0 ∗ (sendAt c ∗ R)))
    ⊢ iprop(know I pv κ c ∗ DoneSt I pv c 0 ∗ (bigSep Finset.univ (recvPost I pv c) ∗ atPos ET (barC c) 1 ∅ 0 ∗ R)) := by
  have e : iprop(sendAt (F := F) c ∗ bigSep Finset.univ (sendPost (F := F) I pv c)) ⊢ bigSep Finset.univ (donePre (F := F) I pv c) := by
    unfold sendAt
    rw [← bigSep_sep']
    exact bigSep_mono fun k _ => BI.Entails.refl _
  unfold RecvSt DoneSt
  rw [upTo_zero, upTo_end]
  iintro ⟨HK, ⟨HO, Hr⟩, Hs, Hb, Ha, HR⟩
  isplitl [HK]; · iexact HK
  isplitl [HO Hs Ha]
  · isplitl [HO]; · iexact HO
    iapply e
    isplitl [Ha]; · iexact Ha
    iexact Hs
  isplitl [Hr]; · iexact Hr
  isplitl [Hb]; · iexact Hb
  iexact HR

/-! ## The store of the result -/

/-- A device's block of the result, staged. -/
abbrev outAt (c : Dev nD) (X : Vec F S8x256 .f32) : sProp 𝕄 := owns (c : Thread nD τ) (win0_4.stage 0) fullShare X

theorem full_emb (x : S8x256.Idx) : (Rect.unit (s := S8x256) ![0, 0] S8x256.size inb_S8x256_S8x256_0_0).emb x = x := by
  refine funext fun a => Fin.ext ?_
  match a with
  | 0 => show 0 + 1 * (x 0).val = (x 0).val; omega
  | 1 => show 0 + 1 * (x 1).val = (x 1).val; omega

/-- A store over an owned block leaves the block at the value stored. -/
theorem store_own {ms : CoreSpace} {m : Memref sig .tc ms S8x256 .f32} {w : FVec F S8x256 .f32} {hl hx hm}
    {S : sProp (MT nD τ sig ℕ (Elt F) ℕ UU ℕ)} {rest : Prog (TpuEff nD τ sig (Elt F) Λ₀ .tc) A}
    (h : iprop(P ∗ S ∗ (owns (c : Thread nD τ) m fullShare w ∗ R)) ⊢ run c rest Q) :
    iprop(P ∗ S ∗ ((∃ d, owns (c : Thread nD τ) m fullShare d) ∗ R)) ⊢ run c
      (Prog.lift (TpuEff.load m (Rect.unit (s := S8x256) ![0, 0] S8x256.size inb_S8x256_S8x256_0_0).toLoadRect hl) >>= fun _ =>
        Prog.lift (TpuEff.store m (Rect.unit (s := S8x256) ![0, 0] S8x256.size inb_S8x256_S8x256_0_0) w Finset.univ hx hm) >>= fun _ => rest) Q := by
  iintro ⟨HP, HS, ⟨%d, Ho⟩, HR⟩
  unfold owns
  icases Ho with ⟨%f, -, Hf⟩
  iapply (wp_load (defs := defs₀ (F := F)) Variants.none (c : Thread nD τ) none Set.univ (m := m)
    (S := m.view.set) (View.setOn_subset_set _ _)) $$ Hf
  iintro Hf
  iapply (wp_store (defs := defs₀ (F := F)) Variants.none (c : Thread nD τ) none Set.univ (m := m)
    (r := Rect.unit (s := S8x256) ![0, 0] S8x256.size inb_S8x256_S8x256_0_0) (f := f) (S := m.view.set)
    ((Memref.setOn_access_subset_setOn m _ Finset.univ).trans (View.setOn_subset_set _ _))) $$ Hf
  iintro Hf
  iapply h
  isplitl [HP]; · iexact HP
  isplitl [HS]; · iexact HS
  isplitl [Hf]
  · unfold owns
    iexists ((m.access (Rect.unit (s := S8x256) ![0, 0] S8x256.size inb_S8x256_S8x256_0_0)).write (Elt F) f w Finset.univ)
    isplitr
    · ipureintro
      funext x
      conv_lhs => rw [← full_emb x]
      exact View.read_slice_write_emb _ _ _ (Finset.mem_univ x)
    · iexact Hf
  iexact HR

theorem out_step {w : FVec F S8x256 .f32} {S : sProp (MT nD τ sig ℕ (Elt F) ℕ UU ℕ)} {Q : BitVec 32 → sProp (MT nD τ sig ℕ (Elt F) ℕ UU ℕ)}
    (h : iprop(P ∗ S ∗ (outAt c w ∗ R)) ⊢ Q 0#32) :
    iprop(P ∗ S ∗ ((∃ d, outAt c d) ∗ R)) ⊢ run c (do
          let _v854 : Vec F S8x256 .f32 ← Prog.lift (.load (win0_4.stage 0) (Rect.unit (s := S8x256) ![0, 0] S8x256.size inb_S8x256_S8x256_0_0).toLoadRect (View.loadsAt_vmem h_S8x256))
          Prog.lift (.store (win0_4.stage 0) (Rect.unit (s := S8x256) ![0, 0] S8x256.size inb_S8x256_S8x256_0_0) w Finset.univ (View.stores_vmem_bits_univ h_S8x256 rfl) (.inl rfl))
          pure 0#32) Q := store_own (run_ret h)

end Cert.Moe
-- ==== Proof.Body.lean ====
/- The body of the kernel, run from its parts: from the staged arrays to the device's block of the result. -/
module

public import proofs.«01_k».proof.Proof.Between
public import proofs.«01_k».proof.Proof.Part1
public import proofs.«01_k».proof.Proof.Part2
public import proofs.«01_k».proof.Proof.Part3
public import proofs.«01_k».proof.Proof.Part4
public import proofs.«01_k».proof.Proof.Part5
public import proofs.«01_k».proof.Proof.Part6

@[expose] public section

noncomputable section

namespace Cert.Moe

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]

local notation "𝕄" => MT nD τ sig ℕ (Elt F) ℕ UU ℕ

variable {I : IVec S256x2 32} {pv : Dev nD → Part (F := F)} {κ : GSem nD τ sig → ℕ} {c : Dev nD}
  {R : sProp (MT nD τ sig ℕ (Elt F) ℕ UU ℕ)}
  {X0 : Vec F S256x128 .f32} {X1 : Vec F S128x64 .f32} {X3 : Vec F S2x128x256 .f32}

/-- What device `c` starts the body with, after the tokens of its signals. -/
def startR (I : IVec S256x2 32) (c : Dev nD) (X0 : Vec F S256x128 .f32) (X1 : Vec F S128x64 .f32) (X3 : Vec F S2x128x256 .f32) : sProp 𝕄 :=
  iprop(ins c X0 X1 I X3 ∗ ((∃ f : Part (F := F), ((c : Thread nD τ).loc cc0_scratch0) ↦{fullShare} f)
    ∗ (cred (tallyAt (barC c) 4 31) ∗ atPos ET (barC c) 0 ∅ 0 ∗ bigSep Finset.univ (copyToks (F := F) c)
      ∗ recvAt I c ∗ sendAt c ∗ (∃ d, outAt c d))))

/-- What it ends with, besides the ends of its copies. -/
def endR (I : IVec S256x2 32) (pv : Dev nD → Part (F := F)) (c : Dev nD) (X0 : Vec F S256x128 .f32) (X1 : Vec F S128x64 .f32) (X3 : Vec F S2x128x256 .f32) : sProp 𝕄 :=
  iprop(bigSep Finset.univ (recvPost I pv c) ∗ atPos ET (barC c) 1 ∅ 0 ∗ (outAt c (acc I pv c 32) ∗ ins c X0 X1 I X3))

/-- From the stored part of the sum to the wait for the other devices. -/
theorem to_send (hp : pv c = partOf c X0 X1 I X3) :
    iprop(know I pv κ c ∗ SigSt I c 32 ∗ (ins c X0 X1 I X3 ∗ ((((c : Thread nD τ).loc cc0_scratch0) ↦{fullShare} partOf c X0 X1 I X3)
      ∗ (cred (tallyAt (barC c) 4 31) ∗ atPos ET (barC c) 0 ∅ 0 ∗ bigSep Finset.univ (copyToks (F := F) c)
      ∗ recvAt I c ∗ sendAt c ∗ (∃ d, outAt c d)))))
    ⊢ iprop(know I pv κ c ∗ SigSt I c 32 ∗ cred (tallyAt (barC c) 4 31) ∗ atPos ET (barC c) 0 ∅ 0
        ∗ bigSep Finset.univ (copyToks (F := F) c) ∗ bigSep Finset.univ (srcPts pv c)
        ∗ (recvAt I c ∗ (sendAt c ∗ ((∃ d, outAt c d) ∗ ins c X0 X1 I X3)))) := by
  rw [← hp]
  iintro ⟨HK, HS, HI, Hf, Hc, Ha, Ht, Hr, Hs, Ho⟩
  isplitl [HK]; · iexact HK
  isplitl [HS]; · iexact HS
  isplitl [Hc]; · iexact Hc
  isplitl [Ha]; · iexact Ha
  isplitl [Ht]; · iexact Ht
  isplitl [Hf]; · iapply (Entails.of_eq (src_split (pv := pv) c)); iexact Hf
  isplitl [Hr]; · iexact Hr
  isplitl [Hs]; · iexact Hs
  isplitl [Ho]; · iexact Ho
  iexact HI

/-- From the last arrival to the store of the result. -/
theorem to_out :
    iprop(know I pv κ c ∗ RecvSt I pv c 32 ∗ (bigSep Finset.univ (sendPost I pv c) ∗ atPos ET (barC c) 1 ∅ 0
      ∗ (sendAt c ∗ ((∃ d, outAt c d) ∗ ins c X0 X1 I X3))))
    ⊢ iprop(know I pv κ c ∗ iprop(DoneSt I pv c 0 ∗ bigSep Finset.univ (recvPost I pv c) ∗ atPos ET (barC c) 1 ∅ 0)
      ∗ ((∃ d, outAt c d) ∗ ins c X0 X1 I X3)) := by
  refine BIBase.Entails.trans to_done ?_
  iintro ⟨HK, HD, Hr, Hb, HR⟩
  isplitl [HK]; · iexact HK
  isplitr [HR]
  · isplitl [HD]; · iexact HD
    isplitl [Hr]; · iexact Hr
    iexact Hb
  · iexact HR

theorem to_end {w : Vec F S8x256 .f32} (hw : w = acc I pv c 32) :
    iprop(know I pv κ c ∗ iprop(DoneSt I pv c 0 ∗ bigSep Finset.univ (recvPost I pv c) ∗ atPos ET (barC c) 1 ∅ 0)
      ∗ (outAt c w ∗ ins c X0 X1 I X3))
    ⊢ iprop(know I pv κ c ∗ DoneSt I pv c 0 ∗ endR I pv c X0 X1 X3) := by
  subst hw
  unfold endR
  iintro ⟨HK, ⟨HD, Hr, Hb⟩, HR⟩
  isplitl [HK]; · iexact HK
  isplitl [HD]; · iexact HD
  isplitl [Hr]; · iexact Hr
  isplitl [Hb]; · iexact Hb
  iexact HR

/-- All but the end of the body. -/
theorem part29_run (hp : pv c = partOf c X0 X1 I X3)
    {Q : (Σ' (_ : Dev nD) (_ : BitVec 32) (_ : IVec S32x1 32) (_ : BitVec 1), IVec S1x1 32) → sProp (MT nD τ sig ℕ (Elt F) ℕ UU ℕ)}
    (h : ∀ (v2 : BitVec 32) (v234 : IVec S32x1 32), v2 = BitVec.ofNat 32 c.val →
      (∀ j : Dev nD, Scalar.cmpi .sgt (v234 (ix2 j 0)) 0#32 = 1#1 ↔ Needs I c j) →
      iprop(know I pv κ c ∗ DoneSt I pv c (30 : Dev nD).val ∗ endR I pv c X0 X1 X3) ⊢ Q ⟨c, v2, v234, Scalar.cmpi .ne v2 30#32, k0_pay132 v234⟩) :
    iprop(know I pv κ c ∗ SigSt I c (0 : Dev nD).val ∗ startR I c X0 X1 X3)
      ⊢ run c (k0_part29 (F := F) (win0_0.stage 0) (hstage0_0 0) (win0_1.stage 0) (hstage0_1 0) (win0_2.stage 0) (hstage0_2 0) (win0_3.stage 0) (hstage0_3 0) (win0_4.stage 0) (hstage0_4 0) (Memref.whole cc0_scratch0) (Memref.isWhole_whole _)
      (Memref.whole cc0_scratch1) (Memref.isWhole_whole _) cc0_scratch2 cc0_scratch3) Q := by
  rw [k0_part29_eq_skeleton]
  unfold k0_part29_skel
  refine run_bind (part1_run fun v2 v3 hv h3 => ?_)
  refine run_bind (part2_run h3 ?_)
  refine run_bind (part3_run h3 ?_)
  refine run_bind ?_
  refine part4_run h3 ?_
  unfold startR
  refine loads4_run ?_
  refine run_bind (part5_run ?_)
  refine run_bind (part6_run ?_)
  refine run_bind (part7_run ?_)
  subst hv
  refine BIBase.Entails.trans (to_send hp) ?_
  have hs := sends (F := F) (c := c) I
  have hr := recvs (F := F) (c := c) I
  refine run_bind (part8_run h3 rfl hs fun y8 h8 => ?_)
  generalize hw : k0_pay23 (k0_pay20 (iRows (F := F) c I)) (k0_pay21 (iRows (F := F) c I)) (k0_pay22 (iRows (F := F) c I)) = v273 at hr ⊢
  refine run_bind (part9_run rfl hs h8 fun y9 h9 => ?_)
  refine run_bind (part10_run rfl hs h9 fun ya10 yb10 ha10 hb10 => ?_)
  refine run_bind (part11_run rfl hs ha10 hb10 ?_)
  refine run_bind (part12_run rfl hs fun ya12 yw12 y012 ha12 hw12 h012 => ?_)
  refine run_bind (part13_run rfl hs ha12 hw12 h012 fun yb13 hb13 => ?_)
  refine run_bind (part14_run rfl hs hr hb13 to_recv fun yt14 ya14 yw14 y014 ht14 ha14 hw14 h014 => ?_)
  refine run_bind (part15_run rfl hr rfl ht14 ha14 hw14 h014 fun yt15 yb15 ht15 hb15 => ?_)
  refine run_bind (part16_run rfl hr rfl ht15 hb15 fun yt16 ys16 ht16 hs16 => ?_)
  refine run_bind (part17_run rfl hr rfl ht16 hs16 fun yt17 ya17 yw17 y017 ht17 ha17 hw17 h017 => ?_)
  refine run_bind (part18_run rfl hr rfl ht17 ha17 hw17 h017 fun yt18 yb18 ht18 hb18 => ?_)
  refine run_bind (part19_run rfl hr rfl ht18 hb18 fun yt19 ys19 ht19 hs19 => ?_)
  refine run_bind (part20_run rfl hr rfl ht19 hs19 fun yt20 ya20 yw20 y020 ht20 ha20 hw20 h020 => ?_)
  refine run_bind (part21_run rfl hr rfl ht20 ha20 hw20 h020 fun yt21 yb21 ht21 hb21 => ?_)
  refine run_bind (part22_run rfl hr rfl ht21 hb21 fun yt22 ys22 ht22 hs22 => ?_)
  refine run_bind (part23_run rfl hr rfl ht22 hs22 fun w23 h23 => ?_)
  refine BIBase.Entails.trans to_out (out_step ?_)
  refine BIBase.Entails.trans (to_end h23) ?_
  refine run_bind (part24_run rfl hs rfl fun ya24 yb24 ha24 hb24 => ?_)
  refine run_bind (part25_run rfl hs ha24 hb24 ?_)
  refine run_bind (part26_run rfl hs fun ya26 yw26 y026 ha26 hw26 h026 => ?_)
  refine run_bind (part27_run rfl hs ha26 hw26 h026 fun yb27 hb27 => ?_)
  refine run_bind (part28_run rfl hs hb27 fun ya28 yw28 ha28 hw28 => ?_)
  refine done_step 27 (by exact (ext_bit _).trans (send_talk rfl 27 ha28 (send_need hs 27 hw28))) (send_sem 27 rfl _) (by rfl) ?_
  refine done_step 28 (by exact (ext_bit _).trans (send_bit rfl hs 28)) (send_sem 28 rfl _) (by rfl) ?_
  refine done_step 29 (by exact (ext_bit _).trans (send_bit rfl hs 29)) (send_sem 29 rfl _) (by rfl) ?_
  exact run_ret (h _ _ rfl hs)

/-- The body of device `c`. -/
theorem body_run (hp : pv c = partOf c X0 X1 I X3) {Q : PUnit → sProp (MT nD τ sig ℕ (Elt F) ℕ UU ℕ)}
    (h : iprop(know I pv κ c ∗ DoneSt I pv c 32 ∗ endR I pv c X0 X1 X3) ⊢ Q ⟨⟩) :
    iprop(know I pv κ c ∗ SigSt I c 0 ∗ startR I c X0 X1 X3)
      ⊢ run c (cc0_body (F := F) (win0_0.stage 0) (hstage0_0 0) (win0_1.stage 0) (hstage0_1 0) (win0_2.stage 0) (hstage0_2 0) (win0_3.stage 0) (hstage0_3 0) (win0_4.stage 0) (hstage0_4 0) (Memref.whole cc0_scratch0) (Memref.isWhole_whole _)
      (Memref.whole cc0_scratch1) (Memref.isWhole_whole _) cc0_scratch2 cc0_scratch3) Q := by
  rw [cc0_body_eq_skeleton]
  unfold cc0_body_skel
  refine run_bind (part29_run hp fun v2 v234 hv hs => ?_)
  refine done_step 30 (by exact (ext_bit _).trans (send_bit hv hs 30)) (send_sem 30 rfl _) (by rfl) ?_
  refine done_step 31 (by exact (ext_bit _).trans (send_bit hv hs 31)) (send_sem 31 rfl _) (by rfl) ?_
  exact run_ret h

end Cert.Moe
-- ==== Proof.Data.lean ====
/- What the kernel is given and what it leaves: the contents of the arrays before and after, the part of the sum that each
   device computes, and the proof data of the one region. -/
module

public import proofs.«01_k».proof.Proof.Body
public import proofs.«01_k».proof.Proof.Gen.KernelIdeal.Launch

@[expose] public section

noncomputable section

namespace Cert.Moe

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ)

/-- What a device's buffers hold at the start. -/
abbrev V₀ (c : Dev nD) : Valuation τ sig (Elt F) := fun b => m (c, b)
/-- What they hold after the maximum of the routing indices over the devices. -/
abbrev V₁ (c : Dev nD) : Valuation τ sig (Elt F) := (ar0 (F := F)).after₀ (V₀ m) c

/-- All devices are in the one group. -/
theorem peer_eq (c d : Dev nD) (j : Fin (ar0 (F := F)).n) : (ar0 (F := F)).peer c j = (ar0 (F := F)).peer d j := by
  have h : (ar0 (F := F)).grp c = (ar0 (F := F)).grp d := Subsingleton.elim (α := Fin 1) _ _
  unfold AllReduce.Cfg.peer
  rw [h]

/-- So all devices have the same routing indices. -/
theorem V₁_v1 (c d : Dev nD) : V₁ m c main_v1 = V₁ m d main_v1 := by
  have h (c : Dev nD) : V₁ m c main_v1 = (ar0 (F := F)).toResult ((ar0 (F := F)).foldGroup fun j => V₀ m ((ar0 (F := F)).peer c j) (ar0 (F := F)).operand) :=
    (ar0 (F := F)).after₀_result (V₀ m) c
  rw [h c, h d]
  congr 2
  funext j
  rw [peer_eq c d j]

/-- The arrays as the windows stage them. -/
def stg0 (c : Dev nD) : Vec F S256x128 .f32 := ((cfg0.win 0).blk t0_0).view.read (Elt F) (V₁ m c main_arg0)
def stg1 (c : Dev nD) : Vec F S128x64 .f32 := ((cfg0.win 1).blk t0_0).view.read (Elt F) (V₁ m c main_arg1)
def stg2 (c : Dev nD) : Vec F S256x2 .i32 := ((cfg0.win 2).blk t0_0).view.read (Elt F) (V₁ m c main_v1)
def stg3 (c : Dev nD) : Vec F S2x128x256 .f32 := ((cfg0.win 3).blk t0_0).view.read (Elt F) (V₁ m c main_arg3)

theorem stg2_eq (c d : Dev nD) : stg2 m c = stg2 m d := by unfold stg2; rw [V₁_v1 m c d]

/-- The routing indices that all devices use. -/
abbrev idx : IVec S256x2 32 := stg2 m (0 : Dev nD)
/-- The part of the sum that a device computes. -/
def prt (c : Dev nD) : Part (F := F) := partOf c (stg0 m c) (stg1 m c) (idx m) (stg3 m c)
/-- The device's block of the result. -/
abbrev blkOf (c : Dev nD) : Vec F S8x256 .f32 := acc (idx m) (prt m) c 32

/-! ## What enters the region and what leaves it -/

/-- What the body is given beside the buffers. -/
def Xk (c : Dev nD) : sProp 𝕄 :=
  iprop(∃ κ, know (idx m) (prt m) κ c ∗ bigSep Finset.univ (fun k : Dev nD => dutyTok ET (barC k) 0 c)
    ∗ cred (tallyAt (barC c) 4 31) ∗ atPos ET (barC c) 0 ∅ 0 ∗ bigSep Finset.univ (copyToks (F := F) c) ∗ recvAt (idx m) c ∗ sendAt c)

/-- The device's own semaphores that are not the windows'. -/
abbrev osem : Fin 2 × Dev nD → SemLoc sig := fun q => if q.1 = 0 then .dma (sendS q.2) else .dma (recvS q.2)

/-- The scratch buffers, with contents that no one reads any more. -/
def scratch (c : Dev nD) : sProp 𝕄 :=
  iprop((∃ f : Part (F := F), ((c : Thread nD τ).loc cc0_scratch0) ↦{fullShare} f) ∗ (∃ f : Slots (F := F), ((c : Thread nD τ).loc cc0_scratch1) ↦{fullShare} f))

/-- What a device owes when the region starts. -/
abbrev owedX (c : Dev nD) : CellTallies nD τ sig ℕ := dueS (idx m) c 0 + dueB c 0

/-- The proof data of the region. -/
def dat0 (c : Dev nD) : Dat τ (Elt F) ℕ ℕ UU ℕ cfg0 c where
  A := fun | 0 => V₁ m c main_arg0 | 1 => V₁ m c main_arg1 | 2 => V₁ m c main_v1 | 3 => V₁ m c main_arg3 | 4 => V₁ m c main_v2 | ⟨_ + 5, h⟩ => absurd h (Nat.not_lt.2 (Nat.le_add_left _ _))
  after := fun | 0 => fun _ => stg0 m c | 1 => fun _ => stg1 m c | 2 => fun _ => stg2 m c | 3 => fun _ => stg3 m c | 4 => fun _ => blkOf m c | ⟨_ + 5, h⟩ => absurd h (Nat.not_lt.2 (Nat.le_add_left _ _))
  Φ t := if t.val = 0 then iprop(Xk m c ∗ scratch c ∗ ∃ r, prngReg c r)
    else iprop(semVal (barC c) 0 ∗ Pipeline.ownSems0 osem c ∗ scratch c ∗ ∃ r, prngReg c r)
  q _ := fullShare
  owed t := if t.val = 0 then owedX m c else 0

abbrev adm : (p : Fin 1) → (pcfgs (F := F) p).Adm := fun p => (cfgs p).toPCfg_adm
def pdats (p : Fin 1) (c : Dev nD) : Dat τ (Elt F) ℕ ℕ UU ℕ (Pipeline.pin (pcfgs (F := F)) adm p) c := match p with | 0 => dat0 m c

attribute [local irreducible] AllReduce.Cfg.after₀

theorem before0 (c : Dev nD) (d) : (dat0 m c).before 0 t0_0 d = stg0 m c := by unfold Dat.before; rw [if_pos (by decide)]; rfl
theorem before1 (c : Dev nD) (d) : (dat0 m c).before 1 t0_0 d = stg1 m c := by unfold Dat.before; rw [if_pos (by decide)]; rfl
theorem before2 (c : Dev nD) (d) : (dat0 m c).before 2 t0_0 d = stg2 m c := by unfold Dat.before; rw [if_pos (by decide)]; rfl
theorem before3 (c : Dev nD) (d) : (dat0 m c).before 3 t0_0 d = stg3 m c := by unfold Dat.before; rw [if_pos (by decide)]; rfl

theorem owed_zero (c : Dev nD) : (dat0 m c).owed 0 = owedX m c := by
  show (if ((0 : Fin (cfg0.N + 1)).val = 0) then owedX m c else 0) = owedX m c; exact if_pos rfl
theorem owed_first (c : Dev nD) : (dat0 m c).owed t0_0.castSucc = owedX m c := by
  show (if (t0_0.castSucc : Fin (cfg0.N + 1)).val = 0 then owedX m c else 0) = owedX m c; exact if_pos rfl
theorem owed_last (c : Dev nD) : (dat0 m c).owed (Fin.last cfg0.N) = 0 := by
  show (if (Fin.last cfg0.N).val = 0 then owedX m c else 0) = 0
  rw [Fin.val_last, if_neg (by rw [show cfg0.N = 1 from N_0]; decide)]
theorem owed_succ (c : Dev nD) : (dat0 m c).owed t0_0.succ = 0 := by
  show (if (t0_0.succ : Fin (cfg0.N + 1)).val = 0 then owedX m c else 0) = 0; exact if_neg (by decide)

/-- A debt at its contents is the debt of a point. -/
theorem owes_point {c : Dev nD} (t : Fin (cfg0.N + 1)) (O : CellTallies nD τ sig ℕ) (h : (dat0 m c).owed t = O) :
    iprop(∃ W, owes (c : Thread nD τ) O W) ⊢ ((dat0 m c).owesAt 0 t : sProp 𝕄) := by
  unfold Dat.owesAt Pipeline.owesWithin Dat.bound
  rw [h, show (dat0 m c).recorded t = Set.univ from rfl]
  iintro ⟨%W, HO⟩
  iexists W
  isplitr
  · ipureintro; exact fun _ _ => Or.inl trivial
  iexact HO
/-- And the other way. -/
theorem point_owes {c : Dev nD} (t : Fin (cfg0.N + 1)) (O : CellTallies nD τ sig ℕ) (h : (dat0 m c).owed t = O) :
    ((dat0 m c).owesAt 0 t : sProp 𝕄) ⊢ iprop(∃ W, owes (c : Thread nD τ) O W) := by
  unfold Dat.owesAt Pipeline.owesWithin
  rw [h]
  iintro ⟨%W, -, HO⟩
  iexists W
  iexact HO

end Cert.Moe
-- ==== Proof.Close.lean ====
/- After the last wait: the device's semaphores come back at zero and its scratch buffers whole. -/
module

public import proofs.«01_k».proof.Proof.Data

@[expose] public section

noncomputable section

namespace Cert.Moe

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]

local notation "𝕄" => MT nD τ sig ℕ (Elt F) ℕ UU ℕ

variable (I : IVec S256x2 32) (pv : Dev nD → Part (F := F)) (κ : GSem nD τ sig → ℕ) (c : Dev nD)

/-- The device's own counters at zero, as two families. -/
theorem own_sems : (Pipeline.ownSems0 osem c : sProp 𝕄)
    = iprop((bigSep Finset.univ fun j : Dev nD => semVal (sendC c j) 0) ∗ bigSep Finset.univ fun s : Dev nD => semVal (recvC c s) 0) := by
  unfold Pipeline.ownSems0
  rw [bigSep_univ_prod, BI.bigSep_fin_two]
  rfl

/-- The cells of a family that the device knows and whose rounds are over give their counters back. -/
theorem shut (gs : Dev nD → GSem nD τ sig) (R : Dev nD → ℕ) (hI : ∀ k, recs I pv κ c k ⊢ cellInv ET (exch I pv) (κ (gs k)) (gs k))
    (hR : ∀ k, ∀ r, R k ≤ r → (exch I pv).duties (gs k) r = ∅) :
    iprop(know I pv κ c ∗ bigSep Finset.univ fun k => atPos ET (gs k) (R k) ∅ 0)
      ⊢ (|={Set.univ}=> bigSep Finset.univ fun k => semVal (gs k) 0 : sProp 𝕄) := by
  refine BIBase.Entails.trans ?_ (Rounds.cells_close ET (exch I pv) Finset.univ gs (fun k => κ (gs k)) (fun _ _ => Set.mem_univ _) (fun _ _ h => h) R
    (fun k _ => hR k))
  refine bigSep_with_persistent (R := know I pv κ c) (Φ := fun k => atPos ET (gs k) (R k) ∅ 0) fun k _ => ?_
  iintro ⟨#HK, Hat⟩
  isplitr
  · iapply (hI k); iapply (know_recs I pv κ c k); iexact HK
  iexact Hat

theorem recv_over (s : Dev nD) (r : ℕ) (h : (if Talks I s c then 1 else 0) ≤ r) : (exch I pv).duties (recvC c s) r = ∅ := by
  by_cases hT : Talks I s c
  · rw [if_pos hT] at h; exact duties_later I pv _ r h
  · rcases Nat.eq_zero_or_pos r with rfl | hr
    · exact duties_recv_none I pv c s hT
    · exact duties_later I pv _ r hr

theorem send_over (j : Dev nD) (r : ℕ) (h : (if Talks I c j then 1 else 0) ≤ r) : (exch I pv).duties (sendC c j) r = ∅ := by
  by_cases hT : Talks I c j
  · rw [if_pos hT] at h; exact duties_later I pv _ r h
  · rcases Nat.eq_zero_or_pos r with rfl | hr
    · exact duties_send_none I pv c j hT
    · exact duties_later I pv _ r hr

theorem recs_recv (k : Dev nD) : recs I pv κ c k ⊢ cellInv ET (exch I pv) (κ (recvC c k)) (recvC c k) := by
  unfold recs; iintro ⟨-, -, -, -, H, -⟩; iexact H
theorem recs_send (k : Dev nD) : recs I pv κ c k ⊢ cellInv ET (exch I pv) (κ (sendC c k)) (sendC c k) := by
  unfold recs; iintro ⟨-, -, H, -⟩; iexact H
theorem recs_bar (k : Dev nD) : recs I pv κ c k ⊢ cellInv ET (exch I pv) (κ (barC k)) (barC k) := by
  unfold recs; iintro ⟨H, -⟩; iexact H

variable {I pv κ c}
variable {X0 : Vec F S256x128 .f32} {X1 : Vec F S128x64 .f32} {X3 : Vec F S2x128x256 .f32}

/-- The end of the body. -/
theorem body_over : iprop(know I pv κ c ∗ DoneSt I pv c 32 ∗ endR I pv c X0 X1 X3)
    ⊢ (|={Set.univ}=> iprop((semVal (barC c) 0 ∗ Pipeline.ownSems0 osem c ∗ scratch c)
        ∗ (∃ W, owes (c : Thread nD τ) (0 : CellTallies nD τ sig ℕ) W) ∗ (outAt c (acc I pv c 32) ∗ ins c X0 X1 I X3)) : sProp 𝕄) := by
  unfold DoneSt endR
  rw [upTo_end, own_sems]
  have e1 : bigSep Finset.univ (donePost I pv c) ⊢ iprop((bigSep Finset.univ fun j : Dev nD => atPos ET (sendC c j) (if Talks I c j then 1 else 0) ∅ 0)
      ∗ bigSep Finset.univ (srcPts pv c)) := by
    rw [← bigSep_sep']; exact bigSep_mono fun k _ => BI.Entails.refl _
  have e2 : bigSep Finset.univ (recvPost I pv c) ⊢ iprop((bigSep Finset.univ fun s : Dev nD => atPos ET (recvC c s) (if Talks I s c then 1 else 0) ∅ 0)
      ∗ bigSep Finset.univ (slotGot I pv c)) := by
    rw [← bigSep_sep']; exact bigSep_mono fun k _ => BI.Entails.refl _
  iintro ⟨#HK, ⟨HO, Hd⟩, Hr, Hb, Hout, Hins⟩
  ihave Hd' := e1 $$ Hd
  icases Hd' with ⟨HdA, Hsrc⟩
  ihave Hr' := e2 $$ Hr
  icases Hr' with ⟨HrA, Hslot⟩
  imod (shut I pv κ c (fun j => sendC c j) (fun j => if Talks I c j then 1 else 0) (recs_send I pv κ c) (send_over I pv c)) $$ [HdA] with Hs0
  · isplitr; · iexact HK
    iexact HdA
  imod (shut I pv κ c (fun s => recvC c s) (fun s => if Talks I s c then 1 else 0) (recs_recv I pv κ c) (recv_over I pv c)) $$ [HrA] with Hv0
  · isplitr; · iexact HK
    iexact HrA
  imod (Rounds.cell_close ET (exch I pv) (g := barC c) (κ := κ (barC c)) (R := 1) (Set.mem_univ _) (fun h => h) (duties_later I pv (barC c))) $$ [Hb] with Hb0
  · isplitr
    · iapply (recs_bar I pv κ c c); iapply (know_recs I pv κ c c); iexact HK
    iexact Hb
  imodintro
  isplitl [Hb0 Hs0 Hv0 Hsrc Hslot]
  · isplitl [Hb0]; · iexact Hb0
    isplitl [Hs0 Hv0]
    · isplitl [Hs0] <;> iassumption
    unfold scratch
    isplitl [Hsrc]
    · iexists (pv c)
      iapply (Entails.of_eq (src_split c).symm); iexact Hsrc
    · iapply (slot_join c); iexact Hslot
  isplitl [HO]; · iexact HO
  isplitl [Hout] <;> iassumption

/-- The start of the body. -/
theorem body_start : iprop((bigSep Finset.univ (fun k : Dev nD => dutyTok ET (barC k) 0 c)
    ∗ cred (tallyAt (barC c) 4 31) ∗ atPos ET (barC c) 0 ∅ 0 ∗ bigSep Finset.univ (copyToks (F := F) c) ∗ recvAt I c ∗ sendAt c)
      ∗ scratch c ∗ (∃ W, owes (c : Thread nD τ) (dueS I c 0 + dueB c 0) W) ∗ (ins c X0 X1 I X3 ∗ ∃ d, outAt (F := F) c d))
    ⊢ iprop(SigSt I c 0 ∗ startR I c X0 X1 X3) := by
  unfold scratch SigSt startR
  rw [upTo_zero]
  have e : iprop(bigSep Finset.univ (fun k : Dev nD => dutyTok ET (barC k) 0 c) ∗ bigSep Finset.univ (slotAny (F := F) c))
      ⊢ bigSep Finset.univ (sigPre (F := F) c) := by
    rw [← bigSep_sep']; exact bigSep_mono fun k _ => BI.Entails.refl _
  iintro ⟨⟨Ht, Hc, Hb, Hcp, Hra, Hsa⟩, ⟨Hsrc, ⟨%f, Hslot⟩⟩, HO, Hins, Hout⟩
  ihave Hsl := (slot_split c f) $$ Hslot
  isplitl [HO Ht Hsl]
  · isplitl [HO]; · iexact HO
    iapply e
    isplitl [Ht] <;> iassumption
  isplitl [Hins]; · iexact Hins
  isplitl [Hsrc]; · iexact Hsrc
  isplitl [Hc]; · iexact Hc
  isplitl [Hb]; · iexact Hb
  isplitl [Hcp]; · iexact Hcp
  isplitl [Hra]; · iexact Hra
  isplitl [Hsa] <;> iassumption

end Cert.Moe
-- ==== Proof.Point.lean ====
/- The body at the region's one point. -/
module

public import proofs.«01_k».proof.Proof.Close

@[expose] public section

noncomputable section

namespace Cert.Moe

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ)

attribute [local irreducible] AllReduce.Cfg.after₀ stg0 stg1 stg2 stg3

/-- The state before the point and after it. -/
theorem Φ_first (c : Dev nD) : (dat0 m c).Φ t0_0.castSucc = iprop(Xk m c ∗ scratch c ∗ ∃ r, prngReg c r) := rfl
theorem Φ_after (c : Dev nD) : (dat0 m c).Φ t0_0.succ
    = iprop(semVal (barC c) 0 ∗ Pipeline.ownSems0 osem c ∗ scratch c ∗ ∃ r, prngReg c r) := rfl

/-- The body, called with the windows' buffers. -/
abbrev callBody (c : Dev nD) (Q : PUnit → sProp (MT nD τ sig ℕ (Elt F) ℕ UU ℕ)) : sProp 𝕄 := run c (cc0_body (F := F) (win0_0.stage 0) (hstage0_0 0) (win0_1.stage 0) (hstage0_1 0)
  (win0_2.stage 0) (hstage0_2 0) (win0_3.stage 0) (hstage0_3 0) (win0_4.stage 0) (hstage0_4 0)
  (Memref.whole cc0_scratch0) (Memref.isWhole_whole _) (Memref.whole cc0_scratch1) (Memref.isWhole_whole _) cc0_scratch2 cc0_scratch3) Q

/-- The body from the state before the point to the state after it. -/
theorem point_run (c : Dev nD) (hI : stg2 m c = idx m) :
    iprop((Xk m c ∗ scratch c ∗ ∃ r, prngReg c r) ∗ (∃ W, owes (c : Thread nD τ) (owedX m c) W)
      ∗ (ins c (stg0 m c) (stg1 m c) (stg2 m c) (stg3 m c) ∗ ∃ d, outAt (F := F) c d))
    ⊢ callBody c fun _ => iprop((semVal (barC c) 0 ∗ Pipeline.ownSems0 osem c ∗ scratch c ∗ ∃ r, prngReg c r)
        ∗ (∃ W, owes (c : Thread nD τ) (0 : CellTallies nD τ sig ℕ) W)
        ∗ (ins c (stg0 m c) (stg1 m c) (stg2 m c) (stg3 m c) ∗ outAt c (blkOf m c))) := by
  rw [hI]
  unfold Xk
  iintro ⟨⟨⟨%κ, #HK, HX⟩, Hscr, Hreg⟩, HO, Hio⟩
  ihave Hs := (body_start (F := F) (I := idx m) (c := c) (X0 := stg0 m c) (X1 := stg1 m c) (X3 := stg3 m c)) $$ [HX Hscr HO Hio]
  · isplitl [HX]; · iexact HX
    isplitl [Hscr]; · iexact Hscr
    isplitl [HO] <;> iassumption
  iapply (wp_fupd frame (wpE (defs₀ (F := F)) Variants.none (c : Thread nD τ) none))
  iapply (wp_wand frame (wpE (defs₀ (F := F)) Variants.none (c : Thread nD τ) none)
    (Q := fun _ => iprop(know (idx m) (prt m) κ c ∗ DoneSt (idx m) (prt m) c 32 ∗ endR (idx m) (prt m) c (stg0 m c) (stg1 m c) (stg3 m c)))) $$ [Hs]
  · iapply (body_run (c := c) (pv := prt m) (κ := κ) (I := idx m) (X0 := stg0 m c) (X1 := stg1 m c) (X3 := stg3 m c) rfl (BI.Entails.refl _))
    isplitr; · iexact HK
    iexact Hs
  iintro %a H
  imod body_over $$ H with ⟨⟨Hb0, Hown, Hscr⟩, HO, Hout, Hins⟩
  imodintro
  isplitl [Hb0 Hown Hscr Hreg]
  · isplitl [Hb0]; · iexact Hb0
    isplitl [Hown]; · iexact Hown
    isplitl [Hscr] <;> iassumption
  isplitl [HO]; · iexact HO
  isplitl [Hins] <;> iassumption

/-- The body obligation of the region. -/
theorem point (c : Dev nD) : BodyObligation (dat0 m c) defs₀ Variants.none 0 Set.univ := fun t => by
  obtain rfl := fin_N0 t
  rw [bigSep_W0, bigSep_W0, Φ_first, Φ_after]
  simp only [before0, before1, before2, before3]
  iintro ⟨HΦ, HO, ⟨%d0, H0⟩, ⟨%d1, H1⟩, ⟨%d2, H2⟩, ⟨%d3, H3⟩, ⟨%d4, H4⟩⟩
  ihave HO' := (point_owes m _ _ (owed_first m c)) $$ HO
  iapply (wp_wand frame (wpE (defs₀ (F := F)) Variants.none (c : Thread nD τ) none)) $$ [HΦ HO' H0 H1 H2 H3 H4]
  · iapply (point_run m c (stg2_eq m c 0))
    isplitl [HΦ]; · iexact HΦ
    isplitl [HO']; · iexact HO'
    isplitl [H0 H1 H2 H3]
    · unfold ins
      isplitl [H0]; · iexact H0
      isplitl [H1]; · iexact H1
      isplitl [H2] <;> iassumption
    · iexists _; iexact H4
  iintro %a ⟨HΦ, HO, Hins, Hout⟩
  unfold ins
  icases Hins with ⟨H0, H1, H2, H3⟩
  isplitl [HΦ]; · iexact HΦ
  isplitl [HO]; · iapply (owes_point m _ _ (owed_succ m c)); iexact HO
  isplitl [H0]; · iexact H0
  isplitl [H1]; · iexact H1
  isplitl [H2]; · iexact H2
  isplitl [H3]; · iexact H3
  iexact Hout

end Cert.Moe
-- ==== Proof.Region.lean ====
/- The region: what is kept for it, how its cells are opened, and its record. -/
module

public import proofs.«01_k».proof.Proof.Point

@[expose] public section

noncomputable section

namespace Cert.Moe

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ)

section Opening

variable (I : IVec S256x2 32) (pv : Dev nD → Part (F := F))

/-- What a device knows of its dealings with another before its own cells are open. -/
def facts (κ : GSem nD τ sig → ℕ) (c k : Dev nD) : sProp 𝕄 :=
  iprop(cellInv ET (exch I pv) (κ (barC k)) (barC k) ∗ reached ET (barC k) 0
    ∗ cellInv ET (exch I pv) (κ (sendC c k)) (sendC c k) ∗ cellInv ET (exch I pv) (κ (recvC c k)) (recvC c k)
    ∗ cellInv ET (exch I pv) (κ (recvC k c)) (recvC k c))

instance facts_persistent (κ : GSem nD τ sig → ℕ) (c k : Dev nD) : BI.Persistent (facts I pv κ c k) := by unfold facts; infer_instance

/-- The credit for the arrivals that are due. -/
def credR (c : Dev nD) : sProp 𝕄 :=
  bigSep Finset.univ fun s : Dev nD => if Talks I s c then cred (tallyAt (recvC c s) 5 N) else iprop(emp)

/-- What is kept for the region from the start. -/
def Tk (c : Dev nD) : sProp 𝕄 :=
  iprop(∃ κ, (bigSep Finset.univ fun k => facts I pv κ c k)
    ∗ ((bigSep Finset.univ fun k : Dev nD => openTok ET (sendC c k)) ∗ bigSep Finset.univ fun k : Dev nD => openTok ET (recvC c k))
    ∗ bigSep Finset.univ (fun k : Dev nD => dutyTok ET (barC k) 0 c)
    ∗ cred (tallyAt (barC c) 4 31) ∗ atPos ET (barC c) 0 ∅ 0 ∗ bigSep Finset.univ (copyToks (F := F) c) ∗ credR I c)

variable {I pv}

theorem facts_send (κ : GSem nD τ sig → ℕ) (c k : Dev nD) : facts I pv κ c k ⊢ cellInv ET (exch I pv) (κ (sendC c k)) (sendC c k) := by
  unfold facts; iintro ⟨-, -, H, -⟩; iexact H
theorem facts_recv (κ : GSem nD τ sig → ℕ) (c k : Dev nD) : facts I pv κ c k ⊢ cellInv ET (exch I pv) (κ (recvC c k)) (recvC c k) := by
  unfold facts; iintro ⟨-, -, -, H, -⟩; iexact H

/-- The cells of a family that the device may open, opened. -/
theorem opened (κ : GSem nD τ sig → ℕ) (c : Dev nD) (gs : Dev nD → GSem nD τ sig)
    (hI : ∀ k, facts I pv κ c k ⊢ cellInv ET (exch I pv) (κ (gs k)) (gs k)) :
    iprop((bigSep Finset.univ fun k => facts I pv κ c k) ∗ (bigSep Finset.univ fun k => openTok ET (gs k)) ∗ bigSep Finset.univ fun k => semVal (gs k) 0)
      ⊢ (|={Set.univ}=> iprop((bigSep Finset.univ fun k => atPos ET (gs k) 0 ∅ 0) ∗ bigSep Finset.univ fun k => reached ET (gs k) 0) : sProp 𝕄) := by
  have h := Rounds.cells_open ET (exch I pv) Finset.univ gs (fun k => κ (gs k)) (Es := Set.univ) (fun _ _ => Set.mem_univ _)
  rw [bigSep_sep' (Φ := fun k => (atPos ET (gs k) 0 ∅ 0 : sProp 𝕄))] at h
  refine BIBase.Entails.trans ?_ h
  have e : iprop((bigSep Finset.univ fun k => facts I pv κ c k) ∗ bigSep Finset.univ fun k => openTok ET (gs k))
      ⊢ (bigSep Finset.univ fun k => iprop(cellInv ET (exch I pv) (κ (gs k)) (gs k) ∗ openTok ET (gs k)) : sProp 𝕄) := by
    rw [← bigSep_sep']
    refine bigSep_mono fun k _ => ?_
    change BIBase.Entails (PROP := sProp 𝕄) _ _
    iintro ⟨Hf, Ho⟩
    isplitl [Hf]
    · iapply (hI k); iexact Hf
    iexact Ho
  iintro ⟨Hf, Ho, Hs⟩
  isplitr [Hs]
  · iapply e
    isplitl [Hf] <;> iassumption
  iexact Hs

/-- The records are made whole by the opened cells. -/
theorem know_made (κ : GSem nD τ sig → ℕ) (c : Dev nD) :
    iprop(levAts L lv ∗ (bigSep Finset.univ fun k => facts I pv κ c k) ∗ (bigSep Finset.univ fun k : Dev nD => reached ET (sendC c k) 0)
      ∗ bigSep Finset.univ fun k : Dev nD => reached ET (recvC c k) 0) ⊢ know I pv κ c := by
  unfold know
  have e : iprop((bigSep Finset.univ fun k => facts I pv κ c k) ∗ (bigSep Finset.univ fun k : Dev nD => reached ET (sendC c k) 0)
      ∗ bigSep Finset.univ fun k : Dev nD => reached ET (recvC c k) 0) ⊢ bigSep Finset.univ fun k => recs I pv κ c k := by
    rw [← bigSep_sep', ← bigSep_sep']
    refine bigSep_mono fun k _ => ?_
    change BIBase.Entails (PROP := sProp 𝕄) _ _
    unfold facts recs
    iintro ⟨⟨H1, H2, H3, H4, H5⟩, H6, H7⟩
    isplitl [H1]; · iexact H1
    isplitl [H2]; · iexact H2
    isplitl [H3]; · iexact H3
    isplitl [H6]; · iexact H6
    isplitl [H4]; · iexact H4
    isplitl [H7]; · iexact H7
    iexact H5
  iintro ⟨Hl, Hr⟩
  isplitl [Hl]; · iexact Hl
  iapply e; iexact Hr

end Opening

/-- The device's own cells are opened when the region is entered. -/
theorem hopen (c : Dev nD) : iprop(Tk (idx m) (prt m) c ∗ Pipeline.ownSems0 osem c ∗ levAts L lv) ⊢ (|={Set.univ}=> Xk m c : sProp 𝕄) := by
  rw [own_sems]
  unfold Tk Xk
  iintro ⟨⟨%κ, #Hf, ⟨HoS, HoV⟩, Ht, Hc, Hb, Hcp, Hcr⟩, ⟨HsS, HsV⟩, #Hlev⟩
  imod (opened (I := idx m) (pv := prt m) κ c (fun k => sendC c k) (facts_send κ c)) $$ [HoS HsS] with ⟨HaS, #HrS⟩
  · isplitr; · iexact Hf
    isplitl [HoS] <;> iassumption
  imod (opened (I := idx m) (pv := prt m) κ c (fun k => recvC c k) (facts_recv κ c)) $$ [HoV HsV] with ⟨HaV, #HrV⟩
  · isplitr; · iexact Hf
    isplitl [HoV] <;> iassumption
  imodintro
  iexists κ
  isplitr
  · iapply (know_made κ c)
    isplitr; · iexact Hlev
    isplitr; · iexact Hf
    isplitr; · iexact HrS
    iexact HrV
  isplitl [Ht]; · iexact Ht
  isplitl [Hc]; · iexact Hc
  isplitl [Hb]; · iexact Hb
  isplitl [Hcp]; · iexact Hcp
  isplitl [HaV Hcr]
  · unfold recvAt credR
    iapply (Entails.of_eq (bigSep_sep' (s := Finset.univ) (Φ := fun s : Dev nD => (atPos ET (recvC c s) 0 ∅ 0 : sProp 𝕄))
      (Ψ := fun s : Dev nD => (if Talks (idx m) s c then cred (tallyAt (recvC c s) 5 N) else iprop(emp) : sProp 𝕄))).symm)
    isplitl [HaV] <;> iassumption
  unfold sendAt
  iexact HaS

theorem scoped_eq (c : Dev nD) : (Pipeline.scopedRest (Ix := ℕ) (Name := ℕ) (U := UU) (Lvl := ℕ) (Val := Elt F) (Pipeline.pin (pcfgs (F := F)) adm 0).spec c : sProp 𝕄)
    = scratch c := scopedRest0_eq c

theorem hin (c : Dev nD) : iprop(Pipeline.scopedRest (Pipeline.pin (pcfgs (F := F)) adm 0).spec c ∗ (∃ r, prngReg c r)
      ∗ StableHlo.held (c.tc : Thread nD τ) ∅ (V₁ m c) ∗ Xk m c) ⊢ (pdats m 0 c).Φ 0 := by
  rw [show (pdats m 0 c).Φ 0 = iprop(Xk m c ∗ scratch c ∗ ∃ r, prngReg c r) from rfl, scoped_eq]
  iintro ⟨Hs, Hp, -, HX⟩
  isplitl [HX]; · iexact HX
  isplitl [Hs] <;> iassumption

/-- The buffers when the region is left: the result holds the device's block. -/
def V₂ (c : Dev nD) : Valuation τ sig (Elt F) := Function.update (V₁ m c) main_v2 ((dat0 m c).arrAt 4 cfg0.N)

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ semVal (barC c) 0) := by
  rw [show (pdats m 0 c).Φ (Fin.last _) = iprop(semVal (barC c) 0 ∗ Pipeline.ownSems0 osem c ∗ scratch c ∗ ∃ r, prngReg c r) from rfl, scoped_eq,
    show (StableHlo.held (c.tc : Thread nD τ) ∅ (V₂ m c) : sProp 𝕄) = iprop(emp) from BI.bigSep_empty]
  iintro ⟨Hb, Ho, Hs, Hp⟩
  isplitl [Hs]; · iexact Hs
  isplitl [Hp]; · iexact Hp
  isplitr; · iempintro
  isplitl [Ho] <;> iassumption

/-! ## The levels -/

theorem dueB_at {c : Dev nD} {n : ℕ} {g : GSem nD τ sig} {i : ℕ} (h : 0 < dueB c n g i) : g.1.2 = .tc ∧ i = 4 := by
  unfold dueB due at h
  rw [Finset.sum_apply, Finsupp.finsetSum_apply] at h
  obtain ⟨k, -, hk⟩ := Finset.exists_ne_zero_of_sum_ne_zero (Nat.pos_iff_ne_zero.1 h)
  rw [tallyAt_apply] at hk
  by_cases e : g = barC k ∧ i = 4
  · exact ⟨by rw [e.1], e.2⟩
  · rw [if_neg e] at hk; exact absurd rfl hk

/-- What is owed to the exchange is owed above the other indices. -/
theorem owedX_at {c : Dev nD} {g : GSem nD τ sig} {i : ℕ} (h : 0 < owedX m c g i) : i ∈ L g ∧ 3 < lv g i := by
  unfold owedX at h
  rw [Pi.add_apply, Finsupp.add_apply] at h
  rcases Nat.add_pos_iff_pos_or_pos.mp h with h | h
  · obtain ⟨h1, rfl⟩ := dueS_at _ h; exact ⟨by unfold L; rw [if_pos h1]; decide, by show 3 < 5; decide⟩
  · obtain ⟨h1, rfl⟩ := dueB_at h; exact ⟨by unfold L; rw [if_pos h1]; decide, by show 3 < 4; decide⟩

theorem cut (c : Dev nD) (t : Fin ((Pipeline.pin (pcfgs (F := F)) adm 0).N + 1)) (g : GSem nD τ sig) (i : ℕ) (h : 0 < (pdats m 0 c).owed t g i) :
    i ∈ L g ∧ (0 : ℕ) < lv g i := by
  have e : (pdats m 0 c).owed t = if t.val = 0 then owedX m c else 0 := rfl
  rw [e] at h
  split at h
  · obtain ⟨h1, h2⟩ := owedX_at m h; exact ⟨h1, by omega⟩
  · exact absurd h (Nat.lt_irrefl 0)

end Cert.Moe
-- ==== Proof.Record.lean ====
/- The two statements of the program as records: the maximum over the devices, and the region. -/
module

public import proofs.«01_k».proof.Proof.Region
public import Idealize.ShloMosaic.Lib.Pipeline.RegionTalk

@[expose] public section

noncomputable section

namespace Cert.Moe

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ)

/-! ## The maximum over the devices -/

theorem mem_L (c : Dev nD) (sm : SemLoc sig) {i : ℕ} (hi : i < 8) : i ∈ L ((c : Thread nD τ), sm) := by
  rw [L_tc]; exact Finset.mem_range.mpr hi

/-- The waits of the collective are below what the exchange is owed. -/
theorem hbar (c : Dev nD) : (levAts L lv : sProp 𝕄) ⊢ MayWait (c : Thread nD τ) (.reg (ar0 (F := F)).barrier) 1 (owedX m c + (ar0 (F := F)).dataDue c 2) :=
  MayOwe.of_cut (lev := lv) 1 (fun p hp => by rw [Finset.mem_singleton.mp hp]; exact mem_L _ _ (by simp))
    (fun g i hg => by
      rw [Pi.add_apply, Finsupp.add_apply] at hg
      rcases Nat.add_pos_iff_pos_or_pos.mp hg with h | h
      · exact (owedX_at m h).1
      · obtain ⟨_, -, rfl, rfl⟩ := (ar0 (F := F)).dataDue_pos h; exact mem_L _ _ (by decide))
    (fun p hp => by rw [Finset.mem_singleton.mp hp]; exact le_refl _)
    (fun g i hg => by
      rw [Pi.add_apply, Finsupp.add_apply] at hg
      rcases Nat.add_pos_iff_pos_or_pos.mp hg with h | h
      · exact lt_trans (by decide) (owedX_at m h).2
      · obtain ⟨_, -, rfl, rfl⟩ := (ar0 (F := F)).dataDue_pos h; exact (by decide : (1 : ℕ) < 2))
theorem hrecv (c : Dev nD) : (levAts L lv : sProp 𝕄) ⊢ MayWait (c : Thread nD τ) (.dma (ar0 (F := F)).recv) 2 (owedX m c) :=
  MayOwe.of_cut (lev := lv) 2 (fun p hp => by rw [Finset.mem_singleton.mp hp]; exact mem_L _ _ (by simp)) (fun g i hg => (owedX_at m hg).1)
    (fun p hp => by rw [Finset.mem_singleton.mp hp]; exact le_refl _) (fun g i hg => lt_trans (by decide) (owedX_at m hg).2)
theorem hsend (c : Dev nD) : (levAts L lv : sProp 𝕄) ⊢ MayWait (c : Thread nD τ) (.dma (ar0 (F := F)).send) 3 (owedX m c) :=
  MayOwe.of_cut (lev := lv) 3 (fun p hp => by rw [Finset.mem_singleton.mp hp]; exact mem_L _ _ (by simp)) (fun g i hg => (owedX_at m hg).1)
    (fun p hp => by rw [Finset.mem_singleton.mp hp]; exact le_refl _) (fun g i hg => (owedX_at m hg).2)

/-- The data of the collective. -/
abbrev datC := AllReduce.Dat.once (Ix := ℕ) (Name := ℕ) (U := UU) (Lvl := ℕ) (ar0 (F := F)) (V₀ m)
/-- The collective's cells have their invariants. -/
def invs : sProp 𝕄 := iprop(∃ κ, (datC m).cellInvs EC κ)
instance invs_persistent : BI.Persistent (invs m) := by unfold invs; infer_instance

/-- The buffers that the collective leaves alone. -/
abbrev offSite : Finset (DevRef τ sig) := Pipeline.ucRefs τ sig \ (ar0 (F := F)).siteRefs

/-- What is beside the collective while it runs. -/
def Rest (c : Dev nD) : sProp 𝕄 :=
  iprop(StableHlo.held (c.tc : Thread nD τ) (offSite (F := F)) (V₀ m c) ∗ (∃ r, prngReg c r) ∗ Tk (idx m) (prt m) c ∗ invs m)

/-- The maximum over the devices as a record. -/
def seg0 : Pipeline.HostSeg (Ix := ℕ) (Name := ℕ) (U := UU) (Lvl := ℕ) (pcfgs (F := F)) defs₀ Variants.none L lv :=
  collSeg0 EC Variants.none L lv (V₀ m) (owedX m) 1 1 2 3 2 (hbar m) (hrecv m) (hsend m) (Rest m)

/-! ## The region -/

abbrev arrs (F : FTy → Type) [FloatOps F] : Finset (DevRef τ sig) := Pipeline.arrRefs (τ := τ) (pcfgs (F := F) 0).spec
/-- The buffers that no window stages. -/
abbrev Sr (F : FTy → Type) [FloatOps F] : Finset (DevRef τ sig) := Pipeline.ucRefs τ sig \ arrs F

theorem arrs_sub : arrs F ⊆ Pipeline.ucRefs τ sig := Pipeline.arrRefs_sub_ucRefs _ (by decide : ∀ w : Fin 5, (Pipeline.arrRef spec0 w).isScoped = false)
theorem v2_mem : (Proc.devRef .tc main_v2 : DevRef τ sig) ∈ arrs F :=
  Finset.mem_map_of_mem _ (Finset.mem_image_of_mem (Pipeline.arrRef (pcfgs (F := F) 0).spec) (Finset.mem_univ (4 : Fin 5)))

theorem rest_same (c : Dev nD) (b : DevRef τ sig) (hb : b ∈ Sr F) : V₂ m c b = V₁ m c b := by
  unfold V₂
  exact Function.update_of_ne (fun h => (Finset.mem_sdiff.mp hb).2 (by rw [h]; exact v2_mem)) ..

theorem kit : Pipeline.PLaunchFacts (nD := nD) (τ := τ) (pcfgs (F := F)) 0 := launch0.toP

attribute [local irreducible] AllReduce.Cfg.after₀

theorem arr_first (c : Dev nD) (w : Fin 5) : (dat0 m c).arrAt w 0 = V₁ m c (Proc.devRef .tc (Pipeline.arrRef spec0 w)) := by
  fin_cases w <;> rfl

theorem V₂_ne (c : Dev nD) (b : DevRef τ sig) (h : b ≠ Proc.devRef .tc main_v2) : V₂ m c b = V₁ m c b := Function.update_of_ne h ..
theorem V₂_v2 (c : Dev nD) : V₂ m c main_v2 = (dat0 m c).arrAt 4 cfg0.N := Function.update_self ..

theorem arr_last (c : Dev nD) (w : Fin 5) : (dat0 m c).arrAt w cfg0.N = V₂ m c (Proc.devRef .tc (Pipeline.arrRef spec0 w)) := by
  fin_cases w
  · exact ((dat0 m c).arrAt_in 0 rfl _).trans (V₂_ne m c (Proc.devRef .tc main_arg0) (by decide)).symm
  · exact ((dat0 m c).arrAt_in 1 rfl _).trans (V₂_ne m c (Proc.devRef .tc main_arg1) (by decide)).symm
  · exact ((dat0 m c).arrAt_in 2 rfl _).trans (V₂_ne m c (Proc.devRef .tc main_v1) (by decide)).symm
  · exact ((dat0 m c).arrAt_in 3 rfl _).trans (V₂_ne m c (Proc.devRef .tc main_arg3) (by decide)).symm
  · exact (V₂_v2 m c).symm

/-- What passes the region by: the end of the collective. -/
def Er (c : Dev nD) : sProp 𝕄 := iprop(invs m ∗ (ar0 (F := F)).ghostAfter EC c 0)

theorem osem_facts : Pipeline.OwnSemFacts spec0 osem := by decide

set_option backward.isDefEq.respectTransparency.types false in
/-- The region as a record. -/
def reg0 : Pipeline.RegionSeg (pcfgs (F := F)) adm (pdats m) 0 defs₀ Variants.none L lv 0 :=
  Pipeline.RegionSeg.ofTalk (pcfgs (F := F)) adm (pdats m) 0 defs₀ Variants.none L lv 0 osem osem_facts
    ∅ (Sr F) (Finset.empty_subset _) kit rfl (fun c => (point m c).loose)
    (fun _ => 0) (owedX m) (fun c => (owed_zero m c).trans (zero_add _).symm) (owed_last m) (fun _ => rfl) (fun _ w => by fin_cases w <;> rfl)
    (V₁ m) (V₂ m) (fun c b hb => rest_same m c b (by rw [Finset.sdiff_empty] at hb; exact hb))
    (Tk (idx m) (prt m)) (fun c => semVal (barC c) 0) (Xk m) (fun c => semVal (barC c) 0) (hopen m) (hin m) (hout m)
    (fun c => by iintro H; imodintro; iexact H)
    (fun _ => 0)
    ⟨fun c _ _ => mem_L c _ (by decide), fun _ _ _ => le_refl _, fun c t g i h => cut m c t g i h⟩
    (Er m)
    (arr_first m) (arr_last m)

end Cert.Moe
-- ==== Proof.Chain.lean ====
/- The statements of the program follow one another: what one leaves is what the next is given. -/
module

public import proofs.«01_k».proof.Proof.Record

@[expose] public section

noncomputable section

namespace Cert.Moe

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ)

/-- The buffers after the collective, put together. -/
theorem held_all (c : Dev nD) : iprop(StableHlo.held (c.tc : Thread nD τ) (ar0 (F := F)).siteRefs (V₁ m c) ∗ StableHlo.held (c.tc : Thread nD τ) (offSite (F := F)) (V₀ m c))
    ⊢ (StableHlo.held (c.tc : Thread nD τ) (Pipeline.ucRefs τ sig) (V₁ m c) : sProp 𝕄) := by
  rw [StableHlo.held_sub_split (c.tc : Thread nD τ) (ar0 (F := F)).siteRefs_sub_ucRefs (V₁ m c),
    StableHlo.held_congr (c.tc : Thread nD τ) (S := offSite (F := F)) (V := V₁ m c) (V' := V₀ m c)
      fun b hb => (ar0 (F := F)).after₀_off_siteRefs (V₀ m) c (Finset.mem_sdiff.mp hb).2]

/-- The buffers at the start, taken apart. -/
theorem held_start (c : Dev nD) : (StableHlo.held (c.tc : Thread nD τ) (Pipeline.ucRefs τ sig) (V₀ m c) : sProp 𝕄)
    = iprop(StableHlo.held (c.tc : Thread nD τ) (ar0 (F := F)).siteRefs (V₀ m c) ∗ StableHlo.held (c.tc : Thread nD τ) (offSite (F := F)) (V₀ m c)) :=
  StableHlo.held_sub_split (c.tc : Thread nD τ) (ar0 (F := F)).siteRefs_sub_ucRefs (V₀ m c)

/-- The buffers as the region has them. -/
theorem held_region (c : Dev nD) (V : Valuation τ sig (Elt F)) : (StableHlo.held (c.tc : Thread nD τ) (Pipeline.ucRefs τ sig) V : sProp 𝕄)
    = iprop(StableHlo.held (c.tc : Thread nD τ) (arrs F) V ∗ StableHlo.held (c.tc : Thread nD τ) (Sr F) V) :=
  StableHlo.held_sub_split (c.tc : Thread nD τ) arrs_sub V

/-- The program as the list of the two records. -/
def segs : List (Pipeline.Seg (pcfgs (F := F)) adm (pdats m) 0 defs₀ Variants.none L lv) := [.host (seg0 m), .region (reg0 m)]

theorem main_eq (c : Dev nD) : main (F := F) c = Pipeline.Seg.run (segs m) := main_segs adm (pdats m) 0 Variants.none L lv (seg0 m) (reg0 m) rfl c

/-- After the collective the region may begin. -/
theorem seg0_reg0 (c : Dev nD) : (seg0 m).post c ⊢ (reg0 m).pre c := by
  show iprop(StableHlo.held (c.tc : Thread nD τ) (ar0 (F := F)).siteRefs (V₁ m c) ∗ (ar0 (F := F)).ghostAfter EC c 0
      ∗ (∃ W, owes (c : Thread nD τ) (owedX m c) W) ∗ Rest m c)
    ⊢ iprop(StableHlo.held (c.tc : Thread nD τ) (arrs F) (V₁ m c) ∗ (∃ r, prngReg c r)
      ∗ (StableHlo.held (c.tc : Thread nD τ) (Sr F) (V₁ m c) ∗ Er m c) ∗ Tk (idx m) (prt m) c ∗ ∃ Wd, owes (c : Thread nD τ) (0 + owedX m c) Wd)
  rw [zero_add]
  unfold Rest Er
  iintro ⟨Hs, Hg, HO, Hoff, Hp, HT, Hi⟩
  ihave Hall := (held_all m c) $$ [Hs Hoff]
  · isplitl [Hs] <;> iassumption
  ihave Hreg := (Entails.of_eq (held_region c (V₁ m c))) $$ Hall
  icases Hreg with ⟨Ha, Hr⟩
  isplitl [Ha]; · iexact Ha
  isplitl [Hp]; · iexact Hp
  isplitl [Hr Hi Hg]
  · isplitl [Hr]; · iexact Hr
    isplitl [Hi] <;> iassumption
  isplitl [HT]; · iexact HT
  iexact HO

/-- What a device has at the end. -/
def Tₙ (c : Dev nD) : sProp 𝕄 :=
  iprop(StableHlo.held (c.tc : Thread nD τ) (Pipeline.ucRefs τ sig) (V₂ m c) ∗ Er m c ∗ semVal (barC c) 0)

theorem reg0_end (c : Dev nD) : (reg0 m).post c ⊢ iprop(Tₙ m c ∗ ∃ W, owes (c : Thread nD τ) (0 : CellTallies nD τ sig ℕ) W) := by
  show iprop(StableHlo.held (c.tc : Thread nD τ) (arrs F) (V₂ m c) ∗ (∃ r, prngReg c r)
      ∗ (StableHlo.held (c.tc : Thread nD τ) (Sr F) (V₂ m c) ∗ Er m c) ∗ semVal (barC c) 0 ∗ ∃ Wd, owes (c : Thread nD τ) (0 : CellTallies nD τ sig ℕ) Wd) ⊢ _
  unfold Tₙ
  iintro ⟨Ha, -, ⟨Hr, HE⟩, Hb, HO⟩
  isplitr [HO]; swap; · iexact HO
  isplitl [Ha Hr]
  · iapply (Entails.of_eq (held_region c (V₂ m c)).symm)
    isplitl [Ha] <;> iassumption
  isplitl [HE] <;> iassumption

end Cert.Moe
-- ==== Proof.Cells.lean ====
/- The cells of the exchange, the tokens of its duties, and the credit that the devices have at the start. -/
module

public import proofs.«01_k».proof.Proof.Chain

@[expose] public section

noncomputable section

namespace Cert.Moe

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat BodyObligation)

variable {F : FTy → Type} [FloatOps F]

local notation "𝕄" => MT nD τ sig ℕ (Elt F) ℕ UU ℕ

/-! ## The cells -/

theorem recv_inj : Function.Injective recvS := by decide
theorem send_inj : Function.Injective sendS := by decide

/-- The cells for readiness. -/
def barEmb : Dev nD ↪ GSem nD τ sig := ⟨fun c => barC c, fun _ _ h => congrArg (fun g : GSem nD τ sig => g.1.1) h⟩
/-- The cells of the copies. -/
def scEmb : Dev nD × (Fin 2 × Dev nD) ↪ GSem nD τ sig :=
  ⟨fun ck => ((ck.1 : Thread nD τ), osem ck.2), fun _ _ h =>
    Prod.ext (congrArg (fun g : GSem nD τ sig => g.1.1) h) (osem_facts.inj (congrArg Prod.snd h))⟩

abbrev barCells : Finset (GSem nD τ sig) := Finset.univ.map barEmb
abbrev scCells : Finset (GSem nD τ sig) := Finset.univ.map scEmb

theorem cells_disj : Disjoint (barCells : Finset (GSem nD τ sig)) scCells := by
  rw [Finset.disjoint_left]
  rintro g h₁ h₂
  obtain ⟨c, -, rfl⟩ := Finset.mem_map.mp h₁
  obtain ⟨⟨d, q⟩, -, h⟩ := Finset.mem_map.mp h₂
  have h' : osem q = .reg barrier0 := congrArg Prod.snd h
  unfold osem at h'
  split at h' <;> cases h'

theorem bar_mem (c : Dev nD) : barC c ∈ (barCells ∪ scCells : Finset (GSem nD τ sig)) :=
  Finset.mem_union_left _ (Finset.mem_map_of_mem barEmb (Finset.mem_univ c))
theorem send_mem (c k : Dev nD) : sendC c k ∈ (barCells ∪ scCells : Finset (GSem nD τ sig)) :=
  Finset.mem_union_right _ (Finset.mem_map_of_mem scEmb (Finset.mem_univ (c, ((0 : Fin 2), k))))
theorem recv_mem (c k : Dev nD) : recvC c k ∈ (barCells ∪ scCells : Finset (GSem nD τ sig)) :=
  Finset.mem_union_right _ (Finset.mem_map_of_mem scEmb (Finset.mem_univ (c, ((1 : Fin 2), k))))

/-! ## The tokens -/

/-- The three duties that device `c` may have towards device `k`: its cell for readiness, and a copy's two cells. -/
abbrev tokAt (q : Dev nD × (Dev nD × Fin 3)) : GSem nD τ sig × ℕ × Dev nD :=
  match q with
  | (c, k, 0) => (barC k, 0, c)
  | (c, k, 1) => (sendC c k, 0, c)
  | (c, k, 2) => (recvC k c, 0, c)

/-- The duty that a token is for. -/
def tokOf (x : GSem nD τ sig × ℕ × Dev nD) : Dev nD × (Dev nD × Fin 3) :=
  match x.1.2 with
  | .reg _ => (x.2.2, x.1.1.1, 0)
  | .dma n => if 39 ≤ n.val then (x.2.2, x.1.1.1, 2) else (x.2.2, devAt (n.val - 7), 1)

theorem tokOf_tokAt (q : Dev nD × (Dev nD × Fin 3)) : tokOf (tokAt q) = q := by
  obtain ⟨c, k, i⟩ := q
  match i with
  | 0 => rfl
  | 1 => unfold tokOf; dsimp only [tokAt]; rw [if_neg (not_recv k), sub_send]
  | 2 => unfold tokOf; dsimp only [tokAt]; rw [if_pos (Nat.le_add_right _ _)]

def toks : Finset (GSem nD τ sig × ℕ × Dev nD) := Finset.univ.map ⟨tokAt, Function.LeftInverse.injective tokOf_tokAt⟩

/-- The tokens by the device that pays. -/
theorem toks_eq : (bigSep toks (fun x => dutyTok ET x.1 x.2.1 x.2.2) : sProp 𝕄)
    ⊢ bigSep Finset.univ fun c : Dev nD => iprop(bigSep Finset.univ (fun k : Dev nD => dutyTok ET (barC k) 0 c) ∗ bigSep Finset.univ (copyToks (F := F) c)) := by
  unfold toks
  rw [bigSep_map, bigSep_univ_prod]
  refine bigSep_mono fun c _ => ?_
  change BIBase.Entails (PROP := sProp 𝕄) _ _
  rw [← bigSep_sep', bigSep_univ_prod]
  refine bigSep_mono fun k _ => ?_
  change BIBase.Entails (PROP := sProp 𝕄) _ _
  rw [show (Finset.univ : Finset (Fin 3)) = {0, 1, 2} from by decide, bigSep_insert (by decide), bigSep_insert (by decide), bigSep_singleton]
  unfold copyToks
  change iprop(dutyTok ET (barC k) 0 c ∗ dutyTok ET (sendC c k) 0 c ∗ dutyTok ET (recvC k c) 0 c) ⊢ _
  iintro ⟨H0, H1, H2⟩
  isplitl [H0]; · iexact H0
  isplitl [H2] <;> iassumption

/-! ## The credit -/

section Tally

variable (T : Dev nD → Prop) [DecidablePred T] (f : Dev nD → GSem nD τ sig) (i₀ n : ℕ)

/-- What is owed at the cell of one of the devices. -/
theorem due_cell (hf : Function.Injective f) (c : Dev nD) (i : ℕ) :
    due T (fun k => tallyAt (f k) i₀ n) 0 (f c) i = if T c ∧ i = i₀ then n else 0 := by
  unfold due
  rw [Finset.sum_apply, Finsupp.finsetSum_apply]
  by_cases h : T c
  · rw [Finset.sum_eq_single c]
    · rw [tallyAt_apply]; simp only [true_and, h]
    · intro k _ hk
      rw [tallyAt_apply, if_neg fun e => hk (hf e.1).symm]
    · intro hc
      exact absurd (Finset.mem_filter.mpr ⟨Finset.mem_univ c, Nat.zero_le _, h⟩) hc
  · rw [if_neg fun e => h e.1]
    refine Finset.sum_eq_zero fun k hk => ?_
    rw [tallyAt_apply, if_neg fun e => h ?_]
    rw [hf e.1]
    exact (Finset.mem_filter.mp hk).2.2

/-- Nothing is owed at another cell. -/
theorem due_else (g : GSem nD τ sig) (hg : ∀ k, g ≠ f k) (i : ℕ) : due T (fun k => tallyAt (f k) i₀ n) 0 g i = 0 := by
  unfold due
  rw [Finset.sum_apply, Finsupp.finsetSum_apply]
  exact Finset.sum_eq_zero fun k _ => by rw [tallyAt_apply, if_neg fun e => hg k e.1]

end Tally

variable (I : IVec S256x2 32)

theorem barC_inj : Function.Injective (fun k : Dev nD => barC k) := fun _ _ h => congrArg (fun g : GSem nD τ sig => g.1.1) h
theorem recvC_inj (d : Dev nD) : Function.Injective (fun k : Dev nD => recvC k d) := fun _ _ h => congrArg (fun g : GSem nD τ sig => g.1.1) h
theorem bar_ne_recv (c k d : Dev nD) : barC c ≠ recvC k d := fun h => by cases congrArg Prod.snd h
theorem recv_ne_bar (c k d : Dev nD) : recvC k d ≠ barC c := fun h => by cases congrArg Prod.snd h

/-- What device `d` owes device `c`'s cell for readiness. -/
theorem owed_bar (d c : Dev nD) (i : ℕ) : (dueS I d 0 + dueB d 0) (barC c) i = if d ≠ c ∧ i = 4 then 1 else 0 := by
  rw [Pi.add_apply, Finsupp.add_apply, due_else (fun k => Talks I d k) (fun k => recvC k d) 5 N (barC c) (fun k => bar_ne_recv c k d) i,
    due_cell (fun k => d ≠ k) (fun k => barC k) 4 1 barC_inj c i, Nat.zero_add]

/-- What device `d` owes device `c`'s cell for the rows of device `s`. -/
theorem owed_recv (d c s : Dev nD) (i : ℕ) : (dueS I d 0 + dueB d 0) (recvC c s) i = if d = s then (if Talks I s c ∧ i = 5 then N else 0) else 0 := by
  rw [Pi.add_apply, Finsupp.add_apply, due_else (fun k => d ≠ k) (fun k => barC k) 4 1 (recvC c s) (fun k => recv_ne_bar k c s) i, Nat.add_zero]
  by_cases h : d = s
  · subst h
    rw [if_pos rfl, due_cell (fun k => Talks I d k) (fun k => recvC k d) 5 N (recvC_inj d) c i]
  · rw [if_neg h]
    refine due_else (fun k => Talks I d k) (fun k => recvC k d) 5 N (recvC c s) (fun k e => h ?_) i
    have e' : SemLoc.dma (recvS s) = SemLoc.dma (recvS d) := congrArg Prod.snd e
    exact (recv_inj (SemLoc.dma.inj e')).symm

theorem others (c : Dev nD) : (∑ d : Dev nD, if d ≠ c then 1 else 0) = 31 := by revert c; decide

theorem launch_bar (c : Dev nD) :
    tallyOn (barC c) (launchCredit (Pipeline.owing fun d => dueS I d 0 + dueB d 0) 0 (barC c)) = (tallyAt (barC c) 4 31 : CellTallies nD τ sig ℕ) := by
  unfold tallyAt
  refine congrArg _ (Finsupp.ext fun i => ?_)
  rw [Pipeline.launchCredit_owing, Finset.sum_congr rfl fun d _ => owed_bar I d c i, Finsupp.single_apply]
  by_cases hi : i = 4
  · subst hi
    rw [if_pos rfl]
    refine Eq.trans (Finset.sum_congr rfl fun d _ => ?_) (others c)
    by_cases h : d ≠ c
    · rw [if_pos ⟨h, rfl⟩, if_pos h]
    · rw [if_neg fun e => h e.1, if_neg h]
  · rw [if_neg (fun e => hi e.symm)]
    exact Finset.sum_eq_zero fun d _ => if_neg fun e => hi e.2

theorem launch_recv (c s : Dev nD) (h : Talks I s c) :
    tallyOn (recvC c s) (launchCredit (Pipeline.owing fun d => dueS I d 0 + dueB d 0) 0 (recvC c s)) = (tallyAt (recvC c s) 5 N : CellTallies nD τ sig ℕ) := by
  unfold tallyAt
  refine congrArg _ (Finsupp.ext fun i => ?_)
  rw [Pipeline.launchCredit_owing, Finset.sum_congr rfl fun d _ => owed_recv I d c s i, Finset.sum_ite_eq' Finset.univ s, if_pos (Finset.mem_univ _), Finsupp.single_apply]
  by_cases hi : i = 5
  · subst hi; rw [if_pos rfl, if_pos ⟨h, rfl⟩]
  · rw [if_neg fun e => hi e.2, if_neg (fun e => hi e.symm)]

def recvSem : Dev nD ↪ SemLoc sig := ⟨fun s => .dma (recvS s), fun _ _ h => recv_inj (SemLoc.dma.inj h)⟩

/-- The credit that a device has at the start for the exchange. -/
theorem creds (c : Dev nD) :
    (Pipeline.launchCred (fun d => dueS I d 0 + dueB d 0) c : sProp 𝕄) ⊢ iprop(cred (tallyAt (barC c) 4 31) ∗ credR I c) := by
  unfold Pipeline.launchCred credR
  rw [bigSep_univ_at _ (SemLoc.reg barrier0), launch_bar]
  refine sep_mono_right ?_
  have hs : Finset.univ.map recvSem ⊆ Finset.univ.erase (SemLoc.reg barrier0 : SemLoc sig) := fun sm h => by
    obtain ⟨s, -, rfl⟩ := Finset.mem_map.mp h
    exact Finset.mem_erase.mpr ⟨(fun e => by cases e), Finset.mem_univ _⟩
  refine BIBase.Entails.trans (bigSep_subset hs) ?_
  rw [bigSep_map]
  refine bigSep_mono fun s _ => ?_
  change BIBase.Entails (PROP := sProp 𝕄) _ _
  by_cases h : Talks I s c
  · rw [if_pos h, ← launch_recv I c s h]
    exact BI.Entails.refl _
  · rw [if_neg h]
    iintro -
    iempintro

end Cert.Moe
-- ==== Proof.Launch.lean ====
/- The launch: the cells are funded, and each device is given its part. -/
module

public import proofs.«01_k».proof.Proof.Chain
public import proofs.«01_k».proof.Proof.Cells
public import Idealize.ShloMosaic.Lib.Pipeline.SiteBlocks

@[expose] public section

noncomputable section

namespace Cert.Moe

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat BodyObligation)

variable {F : FTy → Type} [FloatOps F]

local notation "𝕄" => MT nD τ sig ℕ (Elt F) ℕ UU ℕ

open Idealize.ShloMosaic.SiteBlocks (onDev bigSep_onDev)

variable (m : (ℓ : Loc nD τ sig) → Buf (Elt F) ℓ) (ρ : Dev nD → PrngReg)

theorem together {Φ Ψ : Dev nD → sProp 𝕄} : iprop(bigSep Finset.univ Φ ∗ bigSep Finset.univ Ψ) ⊢ bigSep Finset.univ (fun c => iprop(Φ c ∗ Ψ c)) :=
  Entails.of_eq (bigSep_sep' _ _ _).symm
theorem apart {Φ Ψ : Dev nD → sProp 𝕄} : bigSep Finset.univ (fun c => iprop(Φ c ∗ Ψ c)) ⊢ iprop(bigSep Finset.univ Φ ∗ bigSep Finset.univ Ψ) :=
  Entails.of_eq (bigSep_sep' _ _ _)

/-! ## What every device knows, and what only one has -/

/-- Every cell has its invariant, and every cell for readiness is in its first round. -/
def records (κ : GSem nD τ sig → ℕ) : sProp 𝕄 :=
  iprop((bigSep (barCells ∪ scCells) fun g => cellInv ET (exch (idx m) (prt m)) (κ g) g) ∗ bigSep barCells fun g => reached ET g 0)

instance records_persistent (κ : GSem nD τ sig → ℕ) : BI.Persistent (records m κ) := by unfold records; infer_instance

theorem inv_at (κ : GSem nD τ sig → ℕ) {g : GSem nD τ sig} (h : g ∈ (barCells ∪ scCells : Finset (GSem nD τ sig))) :
    (bigSep (barCells ∪ scCells) fun g => (cellInv ET (exch (idx m) (prt m)) (κ g) g : sProp 𝕄)) ⊢ cellInv ET (exch (idx m) (prt m)) (κ g) g :=
  bigSep_elim h
theorem reached_at (k : Dev nD) : (bigSep barCells fun g => (reached ET g 0 : sProp 𝕄)) ⊢ reached ET (barC k) 0 :=
  bigSep_elim (Finset.mem_map_of_mem barEmb (Finset.mem_univ k))

theorem facts_of (κ : GSem nD τ sig → ℕ) (c k : Dev nD) : records m κ ⊢ facts (idx m) (prt m) κ c k := by
  unfold records facts
  iintro ⟨#HI, #HR⟩
  isplitr; · iapply (inv_at m κ (bar_mem k)); iexact HI
  isplitr; · iapply (reached_at (F := F) k); iexact HR
  isplitr; · iapply (inv_at m κ (send_mem c k)); iexact HI
  isplitr; · iapply (inv_at m κ (recv_mem c k)); iexact HI
  iapply (inv_at m κ (recv_mem k c)); iexact HI

theorem all_facts (κ : GSem nD τ sig → ℕ) (c : Dev nD) : records m κ ⊢ bigSep Finset.univ fun k : Dev nD => facts (idx m) (prt m) κ c k := by
  refine BIBase.Entails.trans (bigSep_of_persistent (Finset.univ : Finset (Dev nD)) (records m κ)) ?_
  exact bigSep_mono fun k _ => facts_of m κ c k

/-- A device's own tokens and its place in its cell for readiness. -/
def linear (c : Dev nD) : sProp 𝕄 :=
  iprop(atPos ET (barC c) 0 ∅ 0
    ∗ ((bigSep Finset.univ fun k : Dev nD => openTok ET (sendC c k)) ∗ bigSep Finset.univ fun k : Dev nD => openTok ET (recvC c k))
    ∗ (bigSep Finset.univ (fun k : Dev nD => dutyTok ET (barC k) 0 c) ∗ bigSep Finset.univ (copyToks (F := F) c)))

/-- What a device has from the launch besides. -/
def bundle (c : Dev nD) : sProp 𝕄 :=
  iprop(StableHlo.held (c.tc : Thread nD τ) (Pipeline.ucRefs τ sig) (V₀ m c) ∗ (cred (tallyAt (barC c) 4 31) ∗ credR (idx m) c)
    ∗ owes (c : Thread nD τ) (owedX m c + (ar0 (F := F)).due c 1 2) ∅ ∗ ∃ r, prngReg c r)

/-- What a device starts with. -/
abbrev T₀ (c : Dev nD) : sProp 𝕄 := (seg0 m).pre c

theorem T₀_intro (κ : GSem nD τ sig → ℕ) (c : Dev nD) :
    iprop(records m κ ∗ (linear c ∗ bundle m c ∗ (datC m).rides EC c 1 2)) ⊢ T₀ m c := by
  show _ ⊢ iprop(StableHlo.held (c.tc : Thread nD τ) (ar0 (F := F)).siteRefs (V₀ m c) ∗ (datC m).rides EC c 1 2
    ∗ (∃ W, owes (c : Thread nD τ) (owedX m c + (ar0 (F := F)).due c 1 2) W) ∗ Rest m c)
  unfold linear bundle Rest Tk
  rw [held_start]
  iintro ⟨#HR, ⟨Hat, Hop, Ht, Hct⟩, ⟨⟨Hs, Hoff⟩, ⟨Hc, Hcr⟩, HO, Hp⟩, Hrg⟩
  ihave #Hi := (show (datC m).rides EC c 1 2 ⊢ invs m from by unfold AllReduce.Dat.rides invs; iintro ⟨Hi, -⟩; iexact Hi) $$ Hrg
  isplitl [Hs]; · iexact Hs
  isplitl [Hrg]; · iexact Hrg
  isplitl [HO]; · iexists ∅; iexact HO
  isplitl [Hoff]; · iexact Hoff
  isplitl [Hp]; · iexact Hp
  isplitl [Hat Hop Ht Hct Hc Hcr]
  · iexists κ
    isplitr; · iapply (all_facts m κ c); iexact HR
    isplitl [Hop]; · iexact Hop
    isplitl [Ht]; · iexact Ht
    isplitl [Hc]; · iexact Hc
    isplitl [Hat]; · iexact Hat
    isplitl [Hct]; · iexact Hct
    iexact Hcr
  iexact Hi

/-! ## The global step -/

/-- What a device owes at the start. -/
def O₀ (c : Dev nD) : CellTallies nD τ sig ℕ := owedX m c + (ar0 (F := F)).due c 1 2

/-- The part of the launch element for the exchange and the collective. -/
def uX : Sites.UC × UT := (initOf (ar0 (F := F)).cells (datC m).launchToks, launchOf barCells scCells toks)

/-- The launch element. -/
def u₀ : UU :=
  (initOf (Pipeline.cells (Pipeline.pin (pcfgs (F := F)) adm) cellOf_inj) (Pipeline.launchToks (Pipeline.pin (pcfgs (F := F)) adm) cellOf_inj), uX m)

abbrev G : Dev nD → sProp 𝕄 := onDev 0 (BI.own ((embR : Emb (Sites.UC × UT) 𝕄) (uX m)))

/-- A device's share of the launch, regrouped. -/
theorem share (c : Dev nD) : iprop(unscopedBufs c (fun b => m ((c : Thread nD τ).loc b)) ∗ unscopedSems0 c
      ∗ owes (c : Thread nD τ) (O₀ m c) ∅ ∗ Pipeline.launchCred (O₀ m) c ∗ prngReg c (ρ c) ∗ G m c)
    ⊢ iprop(((semVal ((ar0 (F := F)).barrierCell c) 0 ∗ semVal ((ar0 (F := F)).recvCell c) 0 ∗ semVal ((ar0 (F := F)).sendCell c) 0)
          ∗ Pipeline.launchCred (fun d => (ar0 (F := F)).due d 1 2) c)
        ∗ semVal (barC c) 0 ∗ bundle m c ∗ G m c) := by
  rw [Sites.sems_eq, show unscopedBufs c (fun b => m ((c : Thread nD τ).loc b)) = StableHlo.held (c.tc : Thread nD τ) (Pipeline.ucRefs τ sig) (V₀ m c)
    from Pipeline.unscopedBufs_held c (V₀ m c), show O₀ m = fun d => owedX m d + (ar0 (F := F)).due d 1 2 from rfl, Pipeline.launchCred_add]
  unfold bundle
  iintro ⟨Hb, ⟨H1, H2, H3, H4⟩, HO, ⟨Hx, Hd⟩, Hp, HG⟩
  ihave Hc := (creds (F := F) (idx m) c) $$ Hx
  isplitl [H1 H2 H3 Hd]
  · isplitr [Hd]; swap; · iexact Hd
    isplitl [H1]; · iexact H1
    isplitl [H2] <;> iassumption
  isplitl [H4]; · iexact H4
  isplitr [HG]; swap; · iexact HG
  isplitl [Hb]; · iexact Hb
  isplitl [Hc]; · iexact Hc
  isplitl [HO]; · iexact HO
  iexists (ρ c); iexact Hp

theorem opens : bigSep scCells (fun g => (openTok ET g : sProp 𝕄))
    ⊢ bigSep Finset.univ fun c : Dev nD => iprop((bigSep Finset.univ fun k : Dev nD => openTok ET (sendC c k)) ∗ bigSep Finset.univ fun k : Dev nD => openTok ET (recvC c k)) := by
  rw [bigSep_map, bigSep_univ_prod]
  refine bigSep_mono fun c _ => ?_
  change BIBase.Entails (PROP := sProp 𝕄) _ _
  rw [bigSep_univ_prod, BI.bigSep_fin_two]
  exact BI.Entails.refl _

/-- From the launch every device is given what it starts with. -/
theorem init :
    iprop((bigSep Finset.univ fun c : Dev nD => iprop(unscopedBufs c (fun b => m ((c : Thread nD τ).loc b)) ∗ unscopedSems0 c
          ∗ owes (c : Thread nD τ) (O₀ m c) ∅ ∗ Pipeline.launchCred (O₀ m) c ∗ prngReg c (ρ c) ∗ G m c)) ∗ levAts L lv)
      ⊢ (|={Set.univ}=> bigSep Finset.univ (T₀ m) : sProp 𝕄) := by
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ET g 0 ∅ 0 : sProp 𝕄)) ⊢ bigSep Finset.univ (fun c : Dev nD => (atPos ET (barC c) 0 ∅ 0 : sProp 𝕄)) :=
    Entails.of_eq (bigSep_map (s := Finset.univ) barEmb (Φ := fun g : GSem nD τ sig => (atPos ET g 0 ∅ 0 : sProp 𝕄)))
  iintro ⟨H, -⟩
  ihave H1 := (show _ ⊢ (bigSep Finset.univ fun c : Dev nD => iprop(((semVal ((ar0 (F := F)).barrierCell c) 0 ∗ semVal ((ar0 (F := F)).recvCell c) 0 ∗ semVal ((ar0 (F := F)).sendCell c) 0)
          ∗ Pipeline.launchCred (fun d => (ar0 (F := F)).due d 1 2) c)
        ∗ semVal (barC c) 0 ∗ bundle m c ∗ G m c) : sProp 𝕄) from bigSep_mono fun c _ => share m ρ c) $$ H
  ihave H2 := apart $$ H1; icases H2 with ⟨HA, H3⟩
  ihave H4 := apart $$ H3; icases H4 with ⟨Hv, H5⟩
  ihave H6 := apart $$ H5; icases H6 with ⟨HB, HG⟩
  ihave Hu := (Entails.of_eq (bigSep_onDev (0 : Dev nD) (BI.own ((embR : Emb (Sites.UC × UT) 𝕄) (uX m))))) $$ HG
  unfold uX
  ihave Hu2 := (own_pair_emb (embR : Emb (Sites.UC × UT) 𝕄) (initOf (ar0 (F := F)).cells (datC m).launchToks) (launchOf barCells scCells toks)) $$ Hu
  icases Hu2 with ⟨HuC, HuT⟩
  imod ((datC m).fund_rides EC 1 2 (Es := Set.univ)) $$ [HA HuC] with Hrg
  · isplitl [HA] <;> iassumption
  imod (Rounds.fund_launch ET (exch (idx m) (prt m)) cells_disj (fun g _ h => h) toks) $$ [Hv HuT] with ⟨%κ, -, #Hinv, #Hr, Hat, Hopen, Htok⟩
  · isplitl [Hv]
    · iapply hv $$ Hv
    · iexact HuT
  imodintro
  iapply (bigSep_with_persistent (R := records m κ) (Φ := fun c => iprop(linear c ∗ bundle m c ∗ (datC m).rides EC c 1 2)) fun c _ => T₀_intro m κ c)
  isplitr
  · unfold records
    isplitr; · iexact Hinv
    iexact Hr
  iapply together
  isplitr [HB Hrg]
  · unfold linear
    iapply together; isplitl [Hat]; · iapply hat $$ Hat
    iapply together; isplitl [Hopen]; · iapply (opens (F := F)) $$ Hopen
    iapply (toks_eq (F := F)) $$ Htok
  iapply together
  isplitl [HB] <;> iassumption

/-! ## The run -/

attribute [local irreducible] AllReduce.Cfg.after₀

/-- Reading at the end. -/
theorem held_read (c : Dev nD) (S : Finset (DevRef τ sig)) (V : Valuation τ sig (Elt F)) (s : Phys nD τ sig (Elt F)) :
    iprop(StableHlo.held (c.tc : Thread nD τ) S V ∗ SI s) ⊢ (⌜∀ b ∈ S, s.mem.mem (c, b) = V b⌝ : sProp 𝕄) := by
  have h (b : DevRef τ sig) (hb : b ∈ S) : iprop(StableHlo.held (c.tc : Thread nD τ) S V ∗ SI s) ⊢ (⌜s.mem.mem (c, b) = V b⌝ : sProp 𝕄) := by
    unfold StableHlo.held
    refine BIBase.Entails.trans (sep_mono_left (bigSep_elim hb)) ?_
    change BIBase.Entails (PROP := sProp 𝕄) _ _
    iintro ⟨H, HSI⟩
    icombine HSI H gives %hx
    ipureintro
    exact Buf.eq_of_forall_mem_univ hx
  exact fun x hx b hb => h b hb x hx

theorem unscoped_eq : ∀ sm : SemLoc sig, sm.isScoped .tc = false → sm = .reg ar0_barrier ∨ sm = .dma ar0_recv ∨ sm = .dma ar0_send ∨ sm = .reg barrier0 := by decide

set_option backward.isDefEq.respectTransparency.types false in
/-- The run: at any float values, from any memory with the counters at zero, every fair run ends, with every buffer as the records say and every counter
    at zero. -/
theorem run_all : θ_run defs (onTc (τ := τ) (main (F := F))) (s₀ m ρ)
    (fun r => (∀ c : Dev nD, ∀ b ∈ Pipeline.ucRefs τ sig, r.2.mem (c, b) = V₂ m c b) ∧ r.2.sem = fun _ => 0) :=
  Pipeline.θ_run_regions_kit_sems (pcfgs (F := F)) adm (pdats m) 0 cellOf_inj EP defs₀ Variants.none L lv m ρ main (segs m)
    (fun c Q => by rw [main_eq m c])
    (by simp only [segs, Pipeline.Seg.pipes_host, Pipeline.Seg.pipes_region, Pipeline.Seg.pipes_nil]; decide)
    (O₀ := O₀ m) (hL := L_of_ne) (G := G m) (u₀ := u₀ m)
    (hu₀ := by
      unfold u₀
      iintro Hu
      ihave H := (ownU_pair _ _) $$ Hu
      icases H with ⟨HP, HX⟩
      imodintro
      isplitl [HP]; · iexact HP
      rw [bigSep_onDev]; iexact HX)
    (T₀ := T₀ m) (Tₙ := Tₙ m)
    (hch := ⟨fun c => .rfl, fun c => seg0_reg0 m c, fun c => reg0_end m c⟩)
    (hinit := init m ρ)
    (QY := fun c s => (∀ b ∈ Pipeline.ucRefs τ sig, s.mem (c, b) = V₂ m c b)
      ∧ (s.sem ((ar0 (F := F)).barrierCell c) = 0 ∧ s.sem ((ar0 (F := F)).recvCell c) = 0 ∧ s.sem ((ar0 (F := F)).sendCell c) = 0) ∧ s.sem (barC c) = 0)
    (hfin := fun c s' => by
      unfold Tₙ Er invs
      iintro ⟨⟨Hh, He, Hb⟩, HSI⟩
      icombine HSI Hb gives %hb
      imod ((datC m).ghostAfter_read EC c (k := 0) le_rfl s') $$ [He HSI] with ⟨%hz, HSI⟩
      · isplitl [He] <;> iassumption
      ihave H := (persistent_entails_right (held_read c _ (V₂ m c) s')) $$ [Hh HSI]
      · isplitl [Hh] <;> iassumption
      icases H with ⟨%hx, -, HSI⟩
      imodintro
      isplitr; · ipureintro; exact ⟨hx, hz, by simpa using hb⟩
      iexact HSI)
    (hQ := fun s h hs => ⟨fun c => (h c).1, sem_eq_zero hs fun c sm hsm => by
      rcases unscoped_eq sm hsm with rfl | rfl | rfl | rfl
      exacts [(h c).2.1.1, (h c).2.1.2.1, (h c).2.1.2.2, (h c).2.2]⟩)

end Cert.Moe
-- ==== Proof.Frames.lean ====
/- The frames of the programs. -/
module

public import proofs.«01_k».proof.Proof.Launch

@[expose] public section

noncomputable section

namespace Cert.Moe

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

/-- The region leaves an argument as it was. -/
theorem V₂_arg {b : DevRef τ sig} (hb : ∀ j : Fin 32, b ≠ Proc.devRef .tc (ar0_stage j)) (h1 : b ≠ Proc.devRef .tc main_v1)
    (h2 : b ≠ Proc.devRef .tc main_v2) (c : Dev nD) : V₂ m c b = m (c, b) :=
  (V₂_ne m c b h2).trans ((ar0 (F := F)).after₀_of_notMem (V₀ m) c fun h => by
    rcases Finset.mem_insert.mp h with h | h
    · exact h1 h
    · obtain ⟨j, hj⟩ := (ar0 (F := F)).mem_stageRefs.mp h
      exact hb j hj)

/-- The run: the arguments are unchanged, the result is the block of the device, the counters are at zero. -/
theorem run_main : θ_run defs (onTc (τ := τ) (main (F := F))) (s₀ m ρ)
    (fun r => (∀ c : Dev nD, r.2.mem ((c.tc : Thread nD τ).loc main_v2) = (dat0 m c).arrAt 4 cfg0.N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) ∧ r.2.sem = fun _ => 0) := by
  refine (θ_run defs _ _).mono (fun r h => ⟨fun c => ?_, h.2⟩) (run_all m ρ)
  have uc (b : Ref sig .tc) (hb : b.isScoped = false) : (Proc.devRef .tc b : DevRef τ sig) ∈ Pipeline.ucRefs τ sig :=
    Finset.mem_filter.mpr ⟨StableHlo.devRef_mem_tcRefs b, by simp [hb]⟩
  exact ⟨(h.1 c _ (uc main_v2 rfl)).trans (V₂_v2 m c),
    (h.1 c _ (uc main_arg0 rfl)).trans (V₂_arg m (by decide) (by decide) (by decide) c),
    (h.1 c _ (uc main_arg1 rfl)).trans (V₂_arg m (by decide) (by decide) (by decide) c),
    (h.1 c _ (uc main_arg2 rfl)).trans (V₂_arg m (by decide) (by decide) (by decide) c),
    (h.1 c _ (uc main_arg3 rfl)).trans (V₂_arg m (by decide) (by decide) (by decide) c)⟩

end Cert.Moe
-- ==== Proof.Frames2.lean ====
/- The claims of the three frames. -/
module

public import proofs.«01_k».proof.Proof.Frames
public import proofs.«01_k».proof.Defs
public import proofs.«01_k».proof.Proof.Gen.Kernel
public import proofs.«01_k».proof.Proof.Gen.ReferenceIdeal.Run

@[expose] public section

noncomputable section

namespace Cert.Moe

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat BodyObligation)

variable {F : FTy → Type} [FloatOps F]

local notation "𝕄" => MT nD τ sig ℕ (Elt F) ℕ UU ℕ

/-- The kernel and its reading over the extended reals are one text: their bodies, -/
theorem body_same : Cert.Kernel.cc0_body (F := F) = Cert.KernelIdeal.cc0_body (F := F) := rfl

/-- their tables of bodies, -/
theorem defs₀_same : Cert.Kernel.defs₀ (F := F) = Cert.KernelIdeal.defs₀ (F := F) := by
  unfold Cert.Kernel.defs₀ Cert.KernelIdeal.defs₀
  congr 1
  funext i a
  match i, a with
  | 0, (t, s) => exact congrFun (congrFun (congrFun (congrFun (congrFun (congrFun (congrFun (congrFun (congrFun (congrFun (congrFun (congrFun (congrFun (congrFun (congrFun (congrFun body_same _) _) _) _) _) _) _) _) _) _) _) _) _) _) _) _

/-- and the tables of the programs. -/
theorem defs_same : Cert.Kernel.defs (F := F) = Cert.KernelIdeal.defs (F := F) :=
  congrArg (Pipeline.defs (Cert.KernelIdeal.pcfgs (F := F))) defs₀_same

/-- The frame of the kernel. -/
theorem frame_kernel : Cert.quiescent_Kernel := fun m ρ _ => by
  rw [defs_same]
  exact (θ_run (Cert.KernelIdeal.defs (F := Bits)) _ _).mono (fun _ h => ⟨fun c => (h.1 c).2, h.2⟩) (run_main (F := Bits) m ρ)

/-- The frame of the kernel over the extended reals. -/
theorem frame_ideal : Cert.quiescent_KernelIdeal := fun m ρ _ =>
  (θ_run Cert.KernelIdeal.defs _ _).mono (fun _ h => ⟨fun c => (h.1 c).2, h.2⟩) (run_main (F := Ideal) m ρ)

/-- The frame of the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Moe
-- ==== Proof.Spec.lean ====
/- What the layer computes, token by token, over the extended reals: the router's probabilities, the gates, the experts' products. -/
module

public import proofs.«01_k».proof.Proof.Preds
public import Idealize.ShloMosaic.PureOps.Ideal
public import Idealize.ShloMosaic.PureOps.Ideal.Laws

@[expose] public section

set_option maxRecDepth 16384

noncomputable section

namespace Cert.Moe

open Cert.KernelIdeal Cert.KernelIdeal.Gen Idealize.ShloMosaic

variable (X : Vec Ideal S256x128 .f32) (R : Vec Ideal S128x64 .f32) (I : IVec S256x2 32)
  (W : (⟨3, ![64, 128, 256]⟩ : Shape).Idx → EReal)

/-- The router's score of an expert for a token. -/
abbrev score (t : Fin 256) (e : Fin 64) : EReal := ∑ k, X (ix2 t k) * R (ix2 k e)
/-- The greatest score of a token. -/
abbrev top (t : Fin 256) : EReal := Finset.fold max (Ideal.ofBits FTy.f32 4286578688#32) (score X R t) Finset.univ
/-- The probability of an expert for a token. -/
def prob (t : Fin 256) (e : Fin 64) : EReal :=
  Ideal.div (Ideal.exp (score X R t e - top X R t)) (∑ e', Ideal.exp (score X R t e' - top X R t))
/-- A function of an expert, at the expert that a word names: zero where the word names none. -/
def at64 (f : Fin 64 → EReal) (w : BitVec 32) : EReal := if h : w.toNat < 64 then f ⟨w.toNat, h⟩ else 0
/-- The gate of a token for an expert named by a word. -/
abbrev gate (t : Fin 256) (w : BitVec 32) : EReal := at64 (prob X R t) w
/-- That gate's share among the token's two. -/
abbrev portion (t : Fin 256) (w : BitVec 32) : EReal := Ideal.div (gate X R t w) (gate X R t (I (ix2 t 0)) + gate X R t (I (ix2 t 1)))
/-- An expert's product for a token. -/
abbrev prod (t o : Fin 256) (e : Fin 64) : EReal := ∑ k, X (ix2 t k) * W (ix3 e k o)
/-- The layer's result. -/
def moe (t o : Fin 256) : EReal :=
  at64 (fun e => portion X R I t (I (ix2 t 0)) * prod X W t o e) (I (ix2 t 0))
    + at64 (fun e => portion X R I t (I (ix2 t 1)) * prod X W t o e) (I (ix2 t 1))

/-- The word of an expert's number names that expert. -/
theorem toNat_expert (e : Fin 64) : (BitVec.ofNat 32 e.val).toNat = e.val := by
  rw [BitVec.toNat_ofNat]; exact Nat.mod_eq_of_lt (by omega)

/-- Choosing on a compare of words is choosing on their equality. -/
theorem select_eq (a b : BitVec 32) (x y : EReal) :
    Scalar.select (IntOp.cmpi CmpIPredicate.eq a b) x y = if a = b then x else y := by
  have hbit : IntOp.cmpi .eq a b = 1#1 ↔ a = b := by
    show BitVec.ofBool (a == b) = 1#1 ↔ a = b
    by_cases h : a = b
    · simp [h]
    · simp [h, beq_eq_false_iff_ne.2 h]
  unfold Scalar.select
  exact if_congr hbit rfl rfl

/-- The sum over the experts of what is marked at one word is the value there. -/
theorem sum_named (f : Fin 64 → EReal) (w : BitVec 32) : (∑ e : Fin 64, if w = BitVec.ofNat 32 e.val then f e else 0) = at64 f w := by
  unfold at64
  split
  · rename_i h
    rw [Finset.sum_eq_single_of_mem (⟨w.toNat, h⟩ : Fin 64) (Finset.mem_univ _)]
    · rw [if_pos]
      exact BitVec.eq_of_toNat_eq (toNat_expert ⟨w.toNat, h⟩).symm
    · intro e _ hne
      rw [if_neg]
      rintro rfl
      exact hne (Fin.ext (toNat_expert e).symm)
  · rename_i h
    refine Finset.sum_eq_zero fun e _ => if_neg ?_
    rintro rfl
    exact h (by rw [toNat_expert]; exact e.isLt)

/-- The negative of twice a value. -/
theorem neg_twice (z : EReal) : -(z + z) = -z + -z := by
  have h : z ≠ ⊥ ∨ z ≠ ⊤ := by
    by_cases h : z = ⊥
    · exact Or.inr (by rw [h]; exact bot_ne_top)
    · exact Or.inl h
  rw [EReal.neg_add h h.symm]
  rfl

/-- Twice a value, times another. -/
theorem twice_mul (a y : EReal) : (a + a) * y = a * y + a * y := by
  rcases le_total 0 a with h | h
  · exact EReal.right_distrib_of_nonneg h h
  · have hn : (0 : EReal) ≤ -a := by rw [EReal.le_neg]; simpa using h
    have e := EReal.right_distrib_of_nonneg (c := y) hn hn
    rw [← neg_twice, neg_mul, neg_mul, ← neg_twice] at e
    exact neg_injective e

/-- Two marked gates of one expert, times its product: the marked products. -/
theorem mix (i₀ i₁ w : BitVec 32) (g : BitVec 32 → EReal) (y : EReal) :
    ((if i₀ = w then g i₀ else 0) + if i₁ = w then g i₁ else 0) * y = (if i₀ = w then g i₀ * y else 0) + if i₁ = w then g i₁ * y else 0 := by
  by_cases h₀ : i₀ = w <;> by_cases h₁ : i₁ = w
  · subst h₀; subst h₁; simp only [if_true]; exact twice_mul _ _
  · simp [h₀, h₁]
  · simp [h₀, h₁]
  · simp [h₀, h₁]

/-- The sum over the experts of the products, each with its two gates where they are marked, is the layer's result. -/
theorem sum_experts (t o : Fin 256) :
    (∑ e : Fin 64, ((if I (ix2 t 0) = BitVec.ofNat 32 e.val then portion X R I t (I (ix2 t 0)) else 0)
        + if I (ix2 t 1) = BitVec.ofNat 32 e.val then portion X R I t (I (ix2 t 1)) else 0) * prod X W t o e) = moe X R I W t o := by
  simp only [mix (I (ix2 t 0)) (I (ix2 t 1)) _ (portion X R I t)]
  rw [Finset.sum_add_distrib, sum_named, sum_named]
  rfl

/-- Expert `l` of device `s`. -/
def expert (s : Fin 32) (l : Fin 2) : Fin 64 := ⟨2 * s.val + l.val, by omega⟩

/-- The sum over the devices of their two experts' values is the sum over the experts. -/
theorem sum_devices (f : Fin 64 → EReal) : (∑ s : Fin 32, (f (expert s 0) + f (expert s 1))) = ∑ e, f e := by
  rw [← (finProdFinEquiv (m := 32) (n := 2)).sum_comp f, Fintype.sum_prod_type]
  refine Finset.sum_congr rfl fun s _ => ?_
  rw [Fin.sum_univ_two]
  congr 2 <;> exact Fin.ext (by simp [expert, finProdFinEquiv]; try omega)

end Cert.Moe
-- ==== Proof.Parts.lean ====
/- Each device's part of the sum over the extended reals, its own two experts' gated products, and the rows a device adds up. -/
module

public import proofs.«01_k».proof.Proof.Spec
public import proofs.«01_k».proof.Proof.Front
public import proofs.«01_k».proof.Proof.Bits

@[expose] public section

set_option maxRecDepth 16384

noncomputable section

namespace Cert.Moe

open Cert.KernelIdeal Cert.KernelIdeal.Gen Idealize.ShloMosaic

/-- The expert's word, as the kernel forms it from the device's number. -/
theorem word0 (s : Fin 32) : Scalar.addi (Scalar.muli (2#32) (BitVec.ofNat 32 s.val)) 0#32 = BitVec.ofNat 32 (expert s 0).val := by
  revert s; decide
theorem word1 (s : Fin 32) : Scalar.addi (Scalar.muli (2#32) (BitVec.ofNat 32 s.val)) 1#32 = BitVec.ofNat 32 (expert s 1).val := by
  revert s; decide

/-- A device holds its two experts. -/
theorem half_expert (s : Fin 32) (l : Fin 2) : half (BitVec.ofNat 32 (expert s l).val) = BitVec.ofNat 32 s.val := by
  revert s l; decide

variable (X : Vec Ideal S256x128 .f32) (R : Vec Ideal S128x64 .f32) (I : IVec S256x2 32) (W : Vec Ideal S2x128x256 .f32)

/-- The kernel's probabilities. -/
theorem pay3_eq (t : Fin 256) (e : Fin 64) : k0_pay3 X R (ix2 t e) = prob X R t e := by
  unfold prob
  pointwise [k0_pay3, k0_pay2]

/-- The marked sum that is the kernel's gate. -/
theorem sum_marked (t : Fin 256) (w : BitVec 32) :
    (∑ e : Fin 64, Scalar.select (IntOp.cmpi CmpIPredicate.eq (BitVec.ofNat 32 e.val) w) (prob X R t e) 0) = gate X R t w :=
  (Finset.sum_congr rfl fun e _ => (select_eq _ _ _ _).trans (if_congr eq_comm rfl rfl)).trans (sum_named _ w)

theorem pay6_eq (J : Vec Ideal S256x1 .i32) (t : Fin 256) : k0_pay6 X R J (ix2 t 0) = gate X R t (J (ix2 t 0)) := by
  rw [← sum_marked]
  pointwise [k0_pay6, k0_pay4, pay3_eq]

theorem pay8_eq (J : Vec Ideal S256x1 .i32) (t : Fin 256) (z : EReal) (hz : z = 0) :
    k0_pay8 (F := Ideal) (k0_pay3 X R) (k0_pay7 (F := Ideal) J) z (ix2 t 0) = gate X R t (J (ix2 t 0)) := by
  subst hz
  rw [← sum_marked]
  pointwise [k0_pay8, k0_pay7, k0_pay5, pay3_eq]

/-- The loads read the arrays. -/
theorem xAll_eq : xAll X = X := by
  funext j
  refine congrArg X (funext fun a => Fin.ext ?_)
  match a with
  | 0 => show 0 + 1 * (j 0).val = (j 0).val; omega
  | 1 => show 0 + 1 * (j 1).val = (j 1).val; omega
theorem rAll_eq : rAll R = R := by
  funext j
  refine congrArg R (funext fun a => Fin.ext ?_)
  match a with
  | 0 => show 0 + 1 * (j 0).val = (j 0).val; omega
  | 1 => show 0 + 1 * (j 1).val = (j 1).val; omega
theorem wAt0_eq (k : Fin 128) (o : Fin 256) : wAt0 W (ix3 0 k o) = W (ix3 0 k o) := by
  refine congrArg W (funext fun a => Fin.ext ?_)
  match a with
  | 0 => rfl
  | 1 => show 0 + 1 * k.val = k.val; omega
  | 2 => show 0 + 1 * o.val = o.val; omega
theorem wAt1_eq (k : Fin 128) (o : Fin 256) : wAt1 W (ix3 0 k o) = W (ix3 1 k o) := by
  refine congrArg W (funext fun a => Fin.ext ?_)
  match a with
  | 0 => rfl
  | 1 => show 0 + 1 * k.val = k.val; omega
  | 2 => show 0 + 1 * o.val = o.val; omega

/-- An element of a part. -/
abbrev val (p : Part (F := Ideal)) (t o : Fin 256) : EReal := p (ix2 t o)

/-- The two gates of an expert, where the token names it. -/
abbrev marked (t : Fin 256) (e : Fin 64) : EReal :=
  (if I (ix2 t 0) = BitVec.ofNat 32 e.val then portion X R I t (I (ix2 t 0)) else 0)
    + if I (ix2 t 1) = BitVec.ofNat 32 e.val then portion X R I t (I (ix2 t 1)) else 0

/-- A device's part of a token's sum, over what it loads. -/
theorem part_loads (c : Dev nD) (J₀ J₁ : Vec Ideal S256x1 .i32) (W₀ W₁ : Vec Ideal S1x128x256 .f32) (z : EReal) (hz : z = 0) (t o : Fin 256)
    (h₀ : J₀ (ix2 t 0) = I (ix2 t 0)) (h₁ : J₁ (ix2 t 0) = I (ix2 t 1)) :
    k0_pay13 (k0_pay10 (BitVec.ofNat 32 c.val) (k0_pay2 X) (k0_pay3 X R) (k0_pay4 (F := Ideal) J₀) (k0_pay5 (F := Ideal) J₁) (k0_pay6 X R J₀)
        (k0_pay7 (F := Ideal) J₁) z W₀)
      (k0_pay11 (k0_pay2 X) W₁)
      (k0_pay12 (BitVec.ofNat 32 c.val) (k0_pay3 X R) (k0_pay4 (F := Ideal) J₀) (k0_pay5 (F := Ideal) J₁) (k0_pay6 X R J₀) (k0_pay7 (F := Ideal) J₁) z) (ix2 t o)
    = marked X R I t (expert c 0) * (∑ k, X (ix2 t k) * W₀ (ix3 0 k o))
      + marked X R I t (expert c 1) * ∑ k, X (ix2 t k) * W₁ (ix3 0 k o) := by
  have e6 := pay6_eq X R J₀ t
  have e8 := pay8_eq X R J₁ t z hz
  rw [h₀] at e6
  rw [h₁] at e8
  pointwise [k0_pay13, k0_pay12, k0_pay11, k0_pay10, k0_pay9, k0_pay2, k0_pay4, k0_pay5, e6, e8, h₀, h₁]
  rw [word0, word1]
  simp only [select_eq]

/-- A device's part of a token's sum. -/
theorem part_eq (c : Dev nD) (t o : Fin 256) :
    val (partOf c X R I W) t o = marked X R I t (expert c 0) * (∑ k, X (ix2 t k) * W (ix3 0 k o))
      + marked X R I t (expert c 1) * ∑ k, X (ix2 t k) * W (ix3 1 k o) := by
  refine (show val (partOf c X R I W) t o = _ from ?_).trans
    (part_loads X R I c (iCol0 (F := Ideal) I) (iCol1 (F := Ideal) I) (wAt0 W) (wAt1 W) (zero32 (F := Ideal)) Ideal.ofBits_zero_f32 t o (iCol0_at I t) (iCol1_at I t)) |>.trans ?_
  · show k0_pay13 (mid0 c X R I W) (mid1 X W) (mid2 c X R I) (ix2 t o) = _
    have hx := xAll_eq X
    have hr := rAll_eq R
    unfold mid0 mid1 mid2
    rw [hx, hr]
  · exact congrArg₂ (fun a b : EReal => marked X R I t (expert c 0) * a + marked X R I t (expert c 1) * b)
      (Finset.sum_congr rfl fun k _ => congrArg (fun w : EReal => X (ix2 t k) * w) (wAt0_eq W k o))
      (Finset.sum_congr rfl fun k _ => congrArg (fun w : EReal => X (ix2 t k) * w) (wAt1_eq W k o))

/-- A part is zero where the token names no expert of the device. -/
theorem part_zero (c : Dev nD) (t o : Fin 256) (h₀ : half (I (ix2 t 0)) ≠ BitVec.ofNat 32 c.val) (h₁ : half (I (ix2 t 1)) ≠ BitVec.ofNat 32 c.val) :
    val (partOf c X R I W) t o = 0 := by
  have hz (l : Fin 2) : marked X R I t (expert c l) = 0 := by
    unfold marked
    rw [if_neg fun e => h₀ (by rw [e]; exact half_expert c l), if_neg fun e => h₁ (by rw [e]; exact half_expert c l), add_zero]
  rw [part_eq, hz 0, hz 1, zero_mul, zero_mul, add_zero]

/-! ## The sum over the devices -/

/-- The rows of a part that belong to a device. -/
theorem rowsOf_at (pv : Dev nD → Part (F := Ideal)) (s c : Dev nD) (r : Fin 8) (o : Fin 256) :
    rowsOf pv s c (ix2 r o) = val (pv s) (row c r) o := by
  refine congrArg (pv s) (funext fun a => Fin.ext ?_)
  match a with
  | 0 => show 8 * c.val + 1 * r.val = c.val * 8 + r.val; omega
  | 1 => show 0 + 1 * o.val = o.val; omega

/-- What the device has added up after `n` steps: its own rows and those of the devices so far. -/
theorem acc_sum (pv : Dev nD → Part (F := Ideal)) (c : Dev nD) (j : (⟨2, ![8, 256]⟩ : Shape).Idx) (n : ℕ) (hn : n ≤ 32) :
    acc I pv c n j = rowsOf pv c c j + ∑ s : Fin 32, if s.val < n then addend I pv c s j else 0 := by
  induction n with
  | zero => simp [acc]
  | succ n ih =>
    have hstep : acc I pv c (n + 1) j = acc I pv c n j + addend I pv c (devAt n) j := rfl
    rw [hstep, ih (by omega), add_assoc]
    congr 1
    have hd : (devAt n).val = n := Nat.mod_eq_of_lt (by omega)
    rw [show addend I pv c (devAt n) j = ∑ s : Fin 32, if s = devAt n then addend I pv c s j else 0 by simp]
    rw [← Finset.sum_add_distrib]
    refine Finset.sum_congr rfl fun s _ => ?_
    by_cases h : s.val < n
    · have : s ≠ devAt n := fun e => by rw [e, hd] at h; omega
      simp [h, this, Nat.lt_succ_of_lt h]
    · by_cases e : s = devAt n
      · simp [e, hd]
      · have : ¬ s.val < n + 1 := fun h' => e (Fin.ext (by rw [hd]; omega))
        simp [h, e, this]

/-- The block of a device is the sum of all devices' rows, where a device that sends nothing has nothing to send. -/
theorem acc_all (pv : Dev nD → Part (F := Ideal)) (c : Dev nD) (r : Fin 8) (o : Fin 256)
    (h : ∀ s, ¬ Needs I s c → val (pv s) (row c r) o = 0) :
    acc I pv c 32 (ix2 r o) = ∑ s : Fin 32, val (pv s) (row c r) o := by
  rw [acc_sum I pv c (ix2 r o) 32 le_rfl, rowsOf_at, ← Finset.add_sum_erase _ _ (Finset.mem_univ c), ← Finset.add_sum_erase _ _ (Finset.mem_univ c)]
  have hz : (k0_pay56 (F := Ideal)) (ix2 r o) = 0 := by pointwise [k0_pay56]
  have hc : addend I pv c c (ix2 r o) = 0 := by
    unfold addend
    rw [if_neg fun h => h.1 rfl, hz]
  rw [if_pos c.isLt, hc, zero_add]
  congr 1
  refine Finset.sum_congr rfl fun s hs => ?_
  rw [if_pos s.isLt]
  unfold addend
  by_cases ht : Talks I s c
  · rw [if_pos ht, rowsOf_at]
  · rw [if_neg ht, hz]
    exact (h s fun hn => ht ⟨Finset.ne_of_mem_erase hs, hn⟩).symm

/-- A device's block is its rows of the layer's result, when the devices hold the blocks of the whole array of experts. -/
theorem block_sum (V : (⟨3, ![64, 128, 256]⟩ : Shape).Idx → EReal) (Ws : Dev nD → Vec Ideal S2x128x256 .f32)
    (hW : ∀ s l k o, Ws s (ix3 l k o) = V (ix3 (expert s l) k o)) (c : Dev nD) (r : Fin 8) (o : Fin 256) :
    acc I (fun s => partOf s X R I (Ws s)) c 32 (ix2 r o) = moe X R I V (row c r) o := by
  rw [acc_all I _ c r o fun s hs => ?_]
  · rw [← sum_experts, ← sum_devices]
    refine Finset.sum_congr rfl fun s _ => ?_
    rw [part_eq]
    simp only [hW]
  · refine part_zero X R I (Ws s) s _ o (fun e => hs ⟨r, Or.inl e⟩) (fun e => hs ⟨r, Or.inr e⟩)

end Cert.Moe
-- ==== Proof.Arrays.lean ====
/- The arrays of the run: what the windows stage, and the result that the region leaves. -/
module

public import proofs.«01_k».proof.Proof.Frames
public import proofs.«01_k».proof.Proof.Parts
public import Idealize.ShloMosaic.Lib.Pipeline.ValueKit.Geometry

@[expose] public section

set_option maxRecDepth 16384

noncomputable section

namespace Cert.Moe

open Cert.KernelIdeal Cert.KernelIdeal.Gen Idealize.ShloMosaic

open Idealize.ShloMosaic.TcCoe
open Idealize.ShloMosaic.Pipeline (Dat Window)

variable {F : FTy → Type} [FloatOps F] (m : (ℓ : Loc nD τ sig) → Buf (Elt F) ℓ)

attribute [local irreducible] AllReduce.Cfg.after₀

/-- The maximum over the devices changes no array of the arguments. -/
theorem V₁_arg {b : DevRef τ sig} (hb : ∀ j : Fin 32, b ≠ Proc.devRef .tc (ar0_stage j)) (h1 : b ≠ Proc.devRef .tc main_v1)
    (c : Dev nD) : V₁ m c b = m (c, b) :=
  (ar0 (F := F)).after₀_of_notMem (V₀ m) c fun h => by
    rcases Finset.mem_insert.mp h with h | h
    · exact h1 h
    · obtain ⟨j, hj⟩ := (ar0 (F := F)).mem_stageRefs.mp h
      exact hb j hj

/-- The tokens as the window stages them are the array. -/
theorem stg0_eq (c : Dev nD) : stg0 m c = m (c, main_arg0) := by
  unfold stg0
  rw [V₁_arg m (b := main_arg0) (by decide) (by decide) c]
  funext y
  rw [View.read_apply]
  refine congrArg (m (c, main_arg0)) (funext fun a => Fin.ext ?_)
  exact Window.rect_emb_val_of_index_zero (cfg0.win 0) t0_0 a (by revert a; decide +kernel) y
/-- The router's weights as the window stages them are the array. -/
theorem stg1_eq (c : Dev nD) : stg1 m c = m (c, main_arg1) := by
  unfold stg1
  rw [V₁_arg m (b := main_arg1) (by decide) (by decide) c]
  funext y
  rw [View.read_apply]
  refine congrArg (m (c, main_arg1)) (funext fun a => Fin.ext ?_)
  exact Window.rect_emb_val_of_index_zero (cfg0.win 1) t0_0 a (by revert a; decide +kernel) y
/-- The experts' weights as the window stages them are the array. -/
theorem stg3_eq (c : Dev nD) : stg3 m c = m (c, main_arg3) := by
  unfold stg3
  rw [V₁_arg m (b := main_arg3) (by decide) (by decide) c]
  funext y
  rw [View.read_apply]
  refine congrArg (m (c, main_arg3)) (funext fun a => Fin.ext ?_)
  exact Window.rect_emb_val_of_index_zero (cfg0.win 3) t0_0 a (by revert a; decide +kernel) y
/-- The routing indices as the window stages them are the array of the maximum. -/
theorem stg2_arr (c : Dev nD) : stg2 m c = V₁ m c main_v1 := by
  unfold stg2
  generalize V₁ m c main_v1 = v
  funext y
  rw [View.read_apply]
  refine congrArg v (funext fun a => Fin.ext ?_)
  exact Window.rect_emb_val_of_index_zero (cfg0.win 2) t0_0 a (by revert a; decide +kernel) y

/-- Folding copies of one array gives that array, where the operation leaves a value with itself as it is. -/
theorem foldGroup_const {nD : ℕ} {τ : Topo} {sig : RefSig} {Val : EltTy → Type} (P : AllReduce.Cfg nD τ sig Val)
    (hf : ∀ a, P.f a a = a) (v : P.operand.ty.Contents Val) : (P.foldGroup fun _ => v) = v := by
  funext i
  unfold AllReduce.Cfg.foldGroup
  generalize (List.finRange P.n).drop 1 = l
  induction l with
  | nil => rfl
  | cons _ l ih => rw [List.foldl_cons, hf]; exact ih

/-- The maximum of a word with itself is the word. -/
theorem maxsi_self (v : BitVec 32) : IntOp.maxsi v v = v := by unfold IntOp.maxsi; simp

attribute [local irreducible] AllReduce.Cfg.foldGroup

/-- Where all devices hold the same routing indices, their maximum is those indices. -/
theorem idx_of_equal (I : IVec S256x2 32) (h : ∀ c : Dev nD, m (c, main_arg2) = I) : idx m = I := by
  have hV : (fun j => V₀ m ((ar0 (F := F)).peer 0 j) (ar0 (F := F)).operand) = fun _ => I := funext fun j => h _
  have hr : V₁ m 0 main_v1 = (ar0 (F := F)).toResult ((ar0 (F := F)).foldGroup fun j => V₀ m ((ar0 (F := F)).peer 0 j) (ar0 (F := F)).operand) :=
    (ar0 (F := F)).after₀_result (V₀ m) 0
  rw [hV, foldGroup_const (ar0 (F := F)) maxsi_self I] at hr
  exact (stg2_arr m 0).trans hr

/-- The array of the result is the device's block. -/
theorem arr_eq (c : Dev nD) : (dat0 m c).arrAt 4 cfg0.N = blkOf m c := by
  refine (dat0 m c).arrAt_eq_of_after_last 4 t0_0 (by decide +kernel) (blkOf m c) fun j => ?_
  rfl

end Cert.Moe
-- ==== Proof.RefGather.lean ====
/- The reference program's two gathers, element by element: a probability at the expert that a token names, an expert's weights. -/
module

public import proofs.«01_k».proof.Proof.Gen.ReferenceIdeal.Run
public import proofs.«01_k».proof.Proof.Spec

@[expose] public section

set_option maxRecDepth 16384

noncomputable section

namespace Cert.Moe.Ref

open Cert.ReferenceIdeal Cert.ReferenceIdeal.Gen Idealize.ShloMosaic

/-- The two gathers' dimension numbers, short. -/
abbrev dP : GatherDims S256x64 S256x2x1 S256x2 := gather_S256x64_S256x2x1_S256x2_n_1_0_0_1_2_11
abbrev dW : GatherDims S64x128x256 S256x1 S256x128x256 := gather_S64x128x256_S256x1_S256x128x256_12_0_n_n_0_1_1128256

/-- The gather along the columns of each row: where the word names an expert, the row's value there. -/
theorem gatherP_at (x : S256x64.Idx → EReal) (J : IVec S256x2x1 32) (t : Fin 256) (k : Fin 2) (e : Fin 64)
    (h : min (J (ix3 t k 0)).toInt.toNat 63 = e.val) : Host.gather dP x J (ix2 t k) = x (ix2 t e) := by
  unfold Host.gather
  refine congrArg x (funext fun a => Fin.ext ?_)
  match a with
  | ⟨0, _⟩ =>
    show dP.start (ix2 t k) J 0 + dP.batchCoord (ix2 t k) 0 + dP.offCoord (ix2 t k) 0 = t.val
    rw [dP.start_batching _ _ _ (List.mem_singleton.mpr rfl),
      dP.offCoord_eq_zero _ _ (fun h => ((dP.mem_sKept _).mp h).2 (List.mem_singleton.mpr rfl))]
    simp only [Nat.zero_add, Nat.add_zero]
    unfold GatherDims.batchCoord
    rw [dif_pos (show (0 : Fin 2) ∈ dP.operandBatchingDims from List.mem_singleton.mpr rfl)]
    rfl
  | ⟨1, _⟩ =>
    show dP.start (ix2 t k) J 1 + dP.batchCoord (ix2 t k) 1 + dP.offCoord (ix2 t k) 1 = e.val
    have hb : (1 : Fin 2) ∉ dP.operandBatchingDims := show (1 : Fin 2) ∉ ([0] : List (Fin 2)) by decide
    rw [dP.batchCoord_eq_zero _ _ hb,
      dP.offCoord_eq_zero _ _ (fun h => ((dP.mem_sKept _).mp h).1 (List.mem_singleton.mpr rfl))]
    simp only [Nat.add_zero]
    unfold GatherDims.start
    rw [dif_pos (show (1 : Fin 2) ∈ dP.startIndexMap from List.mem_singleton.mpr rfl)]
    have hsi : dP.siIdx (ix2 t k) ⟨List.idxOf (1 : Fin 2) dP.startIndexMap,
        List.idxOf_lt_length_iff.2 (List.mem_singleton.mpr rfl)⟩ = ix3 t k 0 := by
      funext b; refine Fin.ext ?_
      match b with
      | ⟨0, _⟩ => rfl
      | ⟨1, _⟩ => rfl
      | ⟨2, _⟩ => rfl
    rw [hsi]
    exact h

/-- The gather of whole weight matrices: where the word names an expert, that expert's weights. -/
theorem gatherW_at (x : S64x128x256.Idx → EReal) (J : IVec S256x1 32) (t : Fin 256) (k : Fin 128) (o : Fin 256) (e : Fin 64)
    (h : min (J (ix2 t 0)).toInt.toNat 63 = e.val) : Host.gather dW x J (ix3 t k o) = x (ix3 e k o) := by
  unfold Host.gather
  refine congrArg x (funext fun a => Fin.ext ?_)
  have hb (a : Fin 3) : a ∉ dW.operandBatchingDims := List.not_mem_nil
  match a with
  | ⟨0, _⟩ =>
    show dW.start (ix3 t k o) J 0 + dW.batchCoord (ix3 t k o) 0 + dW.offCoord (ix3 t k o) 0 = e.val
    rw [dW.batchCoord_eq_zero _ _ (hb 0), dW.offCoord_eq_zero _ _ (fun h => ((dW.mem_sKept _).mp h).1 (List.mem_singleton.mpr rfl))]
    simp only [Nat.add_zero]
    unfold GatherDims.start
    rw [dif_pos (show (0 : Fin 3) ∈ dW.startIndexMap from List.mem_singleton.mpr rfl)]
    have hsi : dW.siIdx (ix3 t k o) ⟨List.idxOf (0 : Fin 3) dW.startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    exact h
  | ⟨1, _⟩ =>
    show dW.start (ix3 t k o) J 1 + dW.batchCoord (ix3 t k o) 1 + dW.offCoord (ix3 t k o) 1 = k.val
    rw [dW.batchCoord_eq_zero _ _ (hb 1)]
    have hm : (1 : Fin 3) ∉ dW.startIndexMap := show (1 : Fin 3) ∉ ([0] : List (Fin 3)) by decide
    have hc : (1 : Fin 3) ∉ dW.collapsedSliceDims := show (1 : Fin 3) ∉ ([0] : List (Fin 3)) by decide
    unfold GatherDims.start
    rw [dif_neg hm]
    simp only [Nat.zero_add, Nat.add_zero]
    unfold GatherDims.offCoord
    rw [dif_pos ((dW.mem_sKept _).mpr ⟨hc, hb 1⟩)]
    rfl
  | ⟨2, _⟩ =>
    show dW.start (ix3 t k o) J 2 + dW.batchCoord (ix3 t k o) 2 + dW.offCoord (ix3 t k o) 2 = o.val
    rw [dW.batchCoord_eq_zero _ _ (hb 2)]
    have hm : (2 : Fin 3) ∉ dW.startIndexMap := show (2 : Fin 3) ∉ ([0] : List (Fin 3)) by decide
    have hc : (2 : Fin 3) ∉ dW.collapsedSliceDims := show (2 : Fin 3) ∉ ([0] : List (Fin 3)) by decide
    unfold GatherDims.start
    rw [dif_neg hm]
    simp only [Nat.zero_add, Nat.add_zero]
    unfold GatherDims.offCoord
    rw [dif_pos ((dW.mem_sKept _).mpr ⟨hc, hb 2⟩)]
    rfl

end Cert.Moe.Ref
-- ==== Proof.RefTerms.lean ====
/- The reference program's result, cut into named steps: the named words, the probabilities, the gates and their shares, an expert's
   product for each token. -/
module

public import proofs.«01_k».proof.Proof.RefGather

@[expose] public section

set_option maxRecDepth 16384

noncomputable section

namespace Cert.Moe.Ref

open Cert.ReferenceIdeal Cert.ReferenceIdeal.Gen Idealize.ShloMosaic Idealize.ShloMosaic.TcCoe

variable {F : FTy → Type} [FloatOps F]
variable (X : Vec F S256x128 .f32) (R : Vec F S128x64 .f32) (I : IVec S256x2 32) (W : Vec F S64x128x256 .f32)

/-- Which words name an expert. -/
def named : IVec S256x2 1 :=
  andi (cmpi .sge I (broadcastInDim S256x2 ![] bcast_S_S256x2 (constantI S_ 32 0#32)))
    (cmpi .slt I (broadcastInDim S256x2 ![] bcast_S_S256x2 (constantI S_ 32 64#32)))
/-- The words, with 64 added to the negative ones. -/
def wrapped : IVec S256x2 32 :=
  select (cmpi .slt I (broadcastInDim S256x2 ![] bcast_S_S256x2 (constantI S_ 32 0#32)))
    (addi I (broadcastInDim S256x2 ![] bcast_S_S256x2 (constantI S_ 32 64#32))) I
/-- A column of numbers, one for each token, along the experts. -/
abbrev along (v : Vec F S256 .f32) : Vec F S256x64 .f32 :=
  broadcastInDim S256x64 ![0, 1] bcast_S256x1_S256x64_0_1 (broadcastInDim S256x1 ![0] bcast_S256_S256x1_0 v)
/-- The router's scores. -/
def scores : Vec F S256x64 .f32 := Host.dotGeneral dot_S256x128_S128x64_S256x64_1_0_0_1_n_n none X R
/-- The exponentials of the scores, less each token's greatest. -/
def exps : Vec F S256x64 .f32 :=
  Host.exp (subf (scores X R) (along (Host.reduce FloatOps.maximumf (scores X R) (constant S_ .f32 0xFF800000#32) reducesTo_S256x64_S256_d1 h_S_)))
/-- The router's probabilities. -/
def probs : Vec F S256x64 .f32 :=
  Host.divf (exps X R) (along (Host.reduceAdd (exps X R) (constant S_ .f32 0x00000000#32) reducesTo_S256x64_S256_d1 h_S_))
/-- The gates. -/
def gates : Vec F S256x2 .f32 :=
  select (named I) (Host.gather dP (probs X R) (shapeCast _ (wrapped I) shapeCasts_S256x2_S256x2x1))
    (broadcastInDim S256x2 ![] bcast_S_S256x2 (id (constant S_ .f32 0x00000000#32)))
/-- The gates' shares. -/
def shares : Vec F S256x2 .f32 :=
  Host.divf (gates X R I) (broadcastInDim S256x2 ![0, 1] bcast_S256x1_S256x2_0_1
    (addf (extractStridedSlice S256x1 ![0, 0] (gates X R I) slices_S256x2_S256x1_0_0) (extractStridedSlice S256x1 ![0, 1] (gates X R I) slices_S256x2_S256x1_0_1)))
/-- The product with the expert that a column of words names. -/
def product (J : IVec S256x1 32) : Vec F S256x256 .f32 :=
  Host.dotGeneral dot_S256x128_S256x128x256_S256x256_1_1_n_2_0_0 none X
    (Host.gather dW W (broadcastInDim S256x1 ![0] bcast_S256_S256x1_0 (shapeCast _ J shapeCasts_S256x1_S256)))
/-- What a column of words, of marks and of shares adds to the result. -/
def term (N : IVec S256x1 1) (G : Vec F S256x1 .f32) (J : IVec S256x1 32) : Vec F S256x256 .f32 :=
  select (broadcastInDim S256x256 ![0, 1] bcast_S256x1_S256x256_0_1 N)
    (mulf (broadcastInDim S256x256 ![0, 1] bcast_S256x1_S256x256_0_1 G) (product X W J))
    (broadcastInDim S256x256 ![] bcast_S_S256x256 (id (constant S_ .f32 0x00000000#32)))
/-- The first and the second of each token's two words. -/
def first {α : Type} (v : S256x2.Idx → α) : S256x1.Idx → α := extractStridedSlice S256x1 ![0, 0] v slices_S256x2_S256x1_0_0
def second {α : Type} (v : S256x2.Idx → α) : S256x1.Idx → α := extractStridedSlice S256x1 ![0, 1] v slices_S256x2_S256x1_0_1
/-- The result. -/
def result : Vec F S256x256 .f32 :=
  addf (term X W (first (named I)) (first (shares X R I)) (first I)) (term X W (second (named I)) (second (shares X R I)) (second I))

set_option maxHeartbeats 4000000 in
/-- The reference program's result is the last of these steps, over its arguments. -/
theorem result_eq (m : (ℓ : Loc nD τ sig) → Buf (Elt F) ℓ) (c : Dev nD) :
    Value.res_main_v40 m c = result (m ((c.tc : Thread nD τ).loc main_arg0)) (m ((c.tc : Thread nD τ).loc main_arg1))
      (m ((c.tc : Thread nD τ).loc main_arg2)) (m ((c.tc : Thread nD τ).loc main_arg3)) := by
  unfold Value.res_main_v40 result term product first second shares gates probs exps scores wrapped named
  rfl

end Cert.Moe.Ref
-- ==== Proof.RefValue.lean ====
/- The reference program's result over the extended reals is the layer's result, element by element. -/
module

public import proofs.«01_k».proof.Proof.RefTerms

@[expose] public section

set_option maxRecDepth 16384

noncomputable section

namespace Cert.Moe.Ref

open Cert.ReferenceIdeal Cert.ReferenceIdeal.Gen Idealize.ShloMosaic

/-- A word between 0 and 63, read signed, is one below 64 read unsigned. -/
theorem named_word (w : BitVec 32) :
    IntOp.andi (IntOp.cmpi .sge w 0#32) (IntOp.cmpi .slt w 64#32) = if w.toNat < 64 then 1#1 else 0#1 := by
  have h0 : (0#32).sle w = decide ((0 : Int) ≤ w.toInt) := by rw [BitVec.sle_eq_decide]; rfl
  have h1 : w.slt 64#32 = decide (w.toInt < 64) := by rw [BitVec.slt_eq_decide]; rfl
  show BitVec.ofBool ((0#32).sle w) &&& BitVec.ofBool (w.slt 64#32) = _
  rw [h0, h1]
  have ht := BitVec.toInt_eq_toNat_cond w
  have hl := w.isLt
  by_cases h : w.toNat < 64
  · rw [if_pos h, decide_eq_true (by split at ht <;> omega), decide_eq_true (by split at ht <;> omega)]; rfl
  · rw [if_neg h]
    by_cases h' : (0 : Int) ≤ w.toInt
    · rw [decide_eq_false (p := w.toInt < 64) (by split at ht <;> omega)]; cases decide ((0 : Int) ≤ w.toInt) <;> rfl
    · rw [decide_eq_false h']; cases decide (w.toInt < 64) <;> rfl

/-- A word below 64 is not negative and is its own number. -/
theorem toInt_small {w : BitVec 32} (h : w.toNat < 64) : w.toInt = w.toNat := by
  rw [BitVec.toInt_eq_toNat_cond]; split <;> omega
theorem wrapped_word {w : BitVec 32} (h : w.toNat < 64) : Scalar.select (IntOp.cmpi .slt w 0#32) (IntOp.addi w 64#32) w = w := by
  have h0 : w.slt 0#32 = false := by
    rw [BitVec.slt_eq_decide, toInt_small h]
    exact decide_eq_false (by simp)
  have : IntOp.cmpi .slt w 0#32 = 0#1 := by show BitVec.ofBool (w.slt 0#32) = _; rw [h0]; rfl
  unfold Scalar.select
  rw [this]; rfl
/-- The gathers' clamp leaves such a word as it is. -/
theorem clamp_word {w : BitVec 32} (h : w.toNat < 64) : min w.toInt.toNat 63 = w.toNat := by
  rw [toInt_small h]; omega

variable (X : Vec Ideal S256x128 .f32) (R : Vec Ideal S128x64 .f32) (I : IVec S256x2 32) (W : Vec Ideal S64x128x256 .f32)

theorem named_at (t : Fin 256) (k : Fin 2) : named I (ix2 t k) = if (I (ix2 t k)).toNat < 64 then 1#1 else 0#1 :=
  named_word (I (ix2 t k))

theorem scores_at (t : Fin 256) (e : Fin 64) : scores X R (ix2 t e) = score X R t e := by
  pointwise [scores]
theorem exps_at (t : Fin 256) (e : Fin 64) : exps X R (ix2 t e) = Ideal.exp (score X R t e - top X R t) := by
  pointwise [exps, scores_at]
theorem probs_at (t : Fin 256) (e : Fin 64) : probs X R (ix2 t e) = prob X R t e := by
  unfold prob
  pointwise [probs, exps_at]

theorem gates_at (t : Fin 256) (k : Fin 2) : gates X R I (ix2 t k) = gate X R t (I (ix2 t k)) := by
  have hs : gates X R I (ix2 t k) = Scalar.select (named I (ix2 t k))
      (Host.gather dP (probs X R) (shapeCast _ (wrapped I) shapeCasts_S256x2_S256x2x1) (ix2 t k)) (Ideal.ofBits FTy.f32 0x00000000#32) := rfl
  rw [hs, named_at, Ideal.ofBits_zero_f32]
  unfold gate at64
  by_cases h : (I (ix2 t k)).toNat < 64
  · rw [if_pos h, dif_pos h]
    have hw : shapeCast S256x2x1 (wrapped I) shapeCasts_S256x2_S256x2x1 (ix3 t k 0) = I (ix2 t k) :=
      (show shapeCast S256x2x1 (wrapped I) shapeCasts_S256x2_S256x2x1 (ix3 t k 0) = wrapped I (ix2 t k) by pointwise).trans (wrapped_word h)
    rw [gatherP_at (probs X R) _ t k ⟨(I (ix2 t k)).toNat, h⟩ (by rw [hw]; exact clamp_word h), probs_at]
    rfl
  · rw [if_neg h, dif_neg h]
    rfl

theorem shares_at (t : Fin 256) (k : Fin 2) : shares X R I (ix2 t k) = portion X R I t (I (ix2 t k)) := by
  unfold portion
  pointwise [shares, gates_at]

/-- The product with the expert that a token's word names. -/
theorem product_at (J : IVec S256x1 32) (t o : Fin 256) (h : (J (ix2 t 0)).toNat < 64) :
    product X W J (ix2 t o) = prod X W t o ⟨(J (ix2 t 0)).toNat, h⟩ := by
  have hw : broadcastInDim S256x1 ![0] bcast_S256_S256x1_0 (shapeCast S256 J shapeCasts_S256x1_S256) (ix2 t 0) = J (ix2 t 0) := by pointwise
  have hg (k : Fin 128) := gatherW_at W (broadcastInDim S256x1 ![0] bcast_S256_S256x1_0 (shapeCast S256 J shapeCasts_S256x1_S256)) t k o
    ⟨(J (ix2 t 0)).toNat, h⟩ (by rw [hw]; exact clamp_word h)
  unfold product
  generalize Host.gather dW W (broadcastInDim S256x1 ![0] bcast_S256_S256x1_0 (shapeCast S256 J shapeCasts_S256x1_S256)) = Y at hg
  unfold prod
  simp only [← hg]
  pointwise

/-- What a column of words adds to the result. -/
theorem term_at (N : IVec S256x1 1) (G : Vec Ideal S256x1 .f32) (J : IVec S256x1 32) (t o : Fin 256) (w : BitVec 32)
    (hJ : J (ix2 t 0) = w) (hN : N (ix2 t 0) = if w.toNat < 64 then 1#1 else 0#1) (hG : G (ix2 t 0) = portion X R I t w) :
    term X W N G J (ix2 t o) = at64 (fun e => portion X R I t w * prod X W t o e) w := by
  have hs : term X W N G J (ix2 t o) = Scalar.select (N (ix2 t 0)) ((G (ix2 t 0) : EReal) * product X W J (ix2 t o)) (Ideal.ofBits FTy.f32 0x00000000#32) := by
    pointwise [term]
    exact congrArg (Scalar.select (N (ix2 t 0)) _) Ideal.ofBits_zero_f32
  rw [hs, hN, hG, Ideal.ofBits_zero_f32]
  unfold at64
  subst hJ
  by_cases h : (J (ix2 t 0)).toNat < 64
  · rw [if_pos h, dif_pos h, product_at X W J t o h]
    rfl
  · rw [if_neg h, dif_neg h]
    rfl

/-- The reference program's result is the layer's. -/
theorem result_at (t o : Fin 256) : result X R I W (ix2 t o) = moe X R I W t o := by
  have f {α : Type} (v : S256x2.Idx → α) : first v (ix2 t 0) = v (ix2 t 0) := by pointwise [first]
  have s {α : Type} (v : S256x2.Idx → α) : second v (ix2 t 0) = v (ix2 t 1) := by pointwise [second]
  have e₀ := term_at X R I W (first (named I)) (first (shares X R I)) (first I) t o (I (ix2 t 0)) (f _) ((f _).trans (named_at I t 0))
    ((f _).trans (shares_at X R I t 0))
  have e₁ := term_at X R I W (second (named I)) (second (shares X R I)) (second I) t o (I (ix2 t 1)) (s _) ((s _).trans (named_at I t 1))
    ((s _).trans (shares_at X R I t 1))
  unfold moe
  rw [← e₀, ← e₁]
  rfl

end Cert.Moe.Ref
-- ==== Proof.Algebraic.lean ====
/- The value claim: each device's result is its block of what the reference program computes. -/
module

public import proofs.«01_k».proof.Defs
public import proofs.«01_k».proof.Proof.Arrays
public import proofs.«01_k».proof.Proof.RefValue

@[expose] public section

set_option maxRecDepth 16384

noncomputable section

namespace Cert.Moe

open Cert.KernelIdeal Cert.KernelIdeal.Gen Idealize.ShloMosaic

open Idealize.ShloMosaic.TcCoe Idealize.SL.Sem

attribute [local irreducible] AllReduce.Cfg.after₀

/-- A device's block of the result, when all devices hold the same tokens, router and routing indices, and each its experts. -/
theorem block_eq (m : (ℓ : Loc nD τ sig) → Buf (Elt Ideal) ℓ) (X : Vec Ideal S256x128 .f32) (R : Vec Ideal S128x64 .f32) (I : IVec S256x2 32)
    (W : (⟨3, ![64, 128, 256]⟩ : Shape).Idx → EReal)
    (h0 : ∀ c : Dev nD, m (c, main_arg0) = X) (h1 : ∀ c : Dev nD, m (c, main_arg1) = R) (h2 : ∀ c : Dev nD, m (c, main_arg2) = I)
    (h3 : ∀ c : Dev nD, m (c, main_arg3) = Layout.block ⟨3, ![2, 128, 256]⟩ ⟨3, ![64, 128, 256]⟩ 0 32 c W) (c : Dev nD) :
    blkOf m c = Layout.block ⟨2, ![8, 256]⟩ ⟨2, ![256, 256]⟩ 0 32 c (Ref.result X R I W) := by
  have hi : idx m = I := idx_of_equal m I h2
  have hp : prt m = fun s => partOf s X R I (Layout.block ⟨3, ![2, 128, 256]⟩ ⟨3, ![64, 128, 256]⟩ 0 32 s W) := by
    funext s
    unfold prt
    rw [stg0_eq, stg1_eq, stg3_eq, hi, h0, h1, h3]
  show acc (idx m) (prt m) c 32 = _
  rw [hi, hp]
  funext j
  obtain ⟨r, o, rfl⟩ : ∃ r o, j = ix2 r o := ⟨_, _, eq_ix2 j⟩
  rw [block_sum X R I W (fun s => Layout.block ⟨3, ![2, 128, 256]⟩ ⟨3, ![64, 128, 256]⟩ 0 32 s W) (fun s l k o => ?_) c r o,
    Layout.block_apply, ← Ref.result_at X R I W (row c r) o]
  · refine congrArg (Ref.result X R I W) (funext fun a => Fin.ext ?_)
    match a with
    | ⟨0, _⟩ => rfl
    | ⟨1, _⟩ => rfl
  · refine congrArg W (funext fun a => Fin.ext ?_)
    match a with
    | ⟨0, _⟩ => show s.val * 2 + l.val = 2 * s.val + l.val; omega
    | ⟨1, _⟩ => rfl
    | ⟨2, _⟩ => rfl

/-- The kernel computes, over the extended reals, what the reference program does. -/
theorem algebraic : Cert.algebraic_KernelIdeal_ReferenceIdeal := by
  intro m g m' g' _ h
  refine ⟨Cert.ReferenceIdeal.Value.res_main_v40 m' 0, ?_, ?_⟩
  · refine (θ_run defs _ _).mono (fun r hr c => ?_) (run_main (F := Ideal) m g)
    refine ⟨(hr.1 c).1.trans ((arr_eq m c).trans ?_), (hr.1 c).2⟩
    rw [Ref.result_eq m' 0]
    exact block_eq m _ _ _ _ (fun c => (h c).1) (fun c => (h c).2.1) (fun c => (h c).2.2.1) (fun c => (h c).2.2.2) c
  · exact (θ_run Cert.ReferenceIdeal.defs _ _).mono (fun r hr => hr 0) (Cert.ReferenceIdeal.Value.run (F := Ideal) m' g')

end Cert.Moe
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames2
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim: the frames, what the ideal instance preserves, and the value of the result. -/
theorem claim : Cert.Claim :=
  ⟨Cert.Kernel.Gen.facts, Cert.KernelIdeal.Gen.facts, Cert.ReferenceIdeal.Gen.facts,
    Cert.Moe.frame_kernel, Cert.Moe.frame_ideal, Cert.Moe.frame_reference, trivial, Cert.Moe.algebraic⟩

end Cert.Proof

end
